-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_AdamBAda (m : (ℓ : Loc Cert.AdamBAda.nD Cert.AdamBAda.τ Cert.AdamBAda.sig) → Buf (Elt Bits) ℓ) : Prop :=
  True

def Pre_AdamBAdaIdeal (m : (ℓ : Loc Cert.AdamBAdaIdeal.nD Cert.AdamBAdaIdeal.τ Cert.AdamBAdaIdeal.sig) → Buf (Elt Ideal) ℓ) : Prop :=
  True

def Pre_AdamBAdaRefIdeal (m : (ℓ : Loc Cert.AdamBAdaRefIdeal.nD Cert.AdamBAdaRefIdeal.τ Cert.AdamBAdaRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamFgate (m : (ℓ : Loc Cert.AdamFgate.nD Cert.AdamFgate.τ Cert.AdamFgate.sig) → Buf (Elt Bits) ℓ) : Prop :=
  True

def Pre_AdamFgateIdeal (m : (ℓ : Loc Cert.AdamFgateIdeal.nD Cert.AdamFgateIdeal.τ Cert.AdamFgateIdeal.sig) → Buf (Elt Ideal) ℓ) : Prop :=
  True

def Pre_AdamFgateRefIdeal (m : (ℓ : Loc Cert.AdamFgateRefIdeal.nD Cert.AdamFgateRefIdeal.τ Cert.AdamFgateRefIdeal.sig) → Buf (Elt Ideal) ℓ) : Prop :=
  True

def Pre_AdamBrA (m : (ℓ : Loc Cert.AdamBrA.nD Cert.AdamBrA.τ Cert.AdamBrA.sig) → Buf (Elt Bits) ℓ) : Prop :=
  True

def Pre_AdamBrAIdeal (m : (ℓ : Loc Cert.AdamBrAIdeal.nD Cert.AdamBrAIdeal.τ Cert.AdamBrAIdeal.sig) → Buf (Elt Ideal) ℓ) : Prop :=
  True

def Pre_AdamBrARefIdeal (m : (ℓ : Loc Cert.AdamBrARefIdeal.nD Cert.AdamBrARefIdeal.τ Cert.AdamBrARefIdeal.sig) → Buf (Elt Ideal) ℓ) : Prop :=
  True

def Pre_AdamBrB (m : (ℓ : Loc Cert.AdamBrB.nD Cert.AdamBrB.τ Cert.AdamBrB.sig) → Buf (Elt Bits) ℓ) : Prop :=
  True

def Pre_AdamBrBIdeal (m : (ℓ : Loc Cert.AdamBrBIdeal.nD Cert.AdamBrBIdeal.τ Cert.AdamBrBIdeal.sig) → Buf (Elt Ideal) ℓ) : Prop :=
  True

def Pre_AdamBrBRefIdeal (m : (ℓ : Loc Cert.AdamBrBRefIdeal.nD Cert.AdamBrBRefIdeal.τ Cert.AdamBrBRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_ChipGu [hPre_chip_named : Cert.Pre_chip_named.Facts] (m : (ℓ : Loc Cert.ChipGu.nD Cert.ChipGu.τ Cert.ChipGu.sig) → Buf (Elt Bits) ℓ) : Prop :=
  ∀ c : Dev Cert.ChipGu.nD,
    (Cert.Pre_chip_named.fn (F := Bits) (m ((c.tc : Thread Cert.ChipGu.nD Cert.ChipGu.τ).loc Cert.ChipGu.main_arg0)) (m ((c.tc : Thread Cert.ChipGu.nD Cert.ChipGu.τ).loc Cert.ChipGu.main_arg1)) (m ((c.tc : Thread Cert.ChipGu.nD Cert.ChipGu.τ).loc Cert.ChipGu.main_arg2))) = (fun _ => 1#1)

def Pre_ChipGuIdeal [hPre_chip_named : Cert.Pre_chip_named.Facts] (m : (ℓ : Loc Cert.ChipGuIdeal.nD Cert.ChipGuIdeal.τ Cert.ChipGuIdeal.sig) → Buf (Elt Ideal) ℓ) : Prop :=
  ∀ c : Dev Cert.ChipGuIdeal.nD,
    (Cert.Pre_chip_named.fn (F := Ideal) (m ((c.tc : Thread Cert.ChipGuIdeal.nD Cert.ChipGuIdeal.τ).loc Cert.ChipGuIdeal.main_arg0)) (m ((c.tc : Thread Cert.ChipGuIdeal.nD Cert.ChipGuIdeal.τ).loc Cert.ChipGuIdeal.main_arg1)) (m ((c.tc : Thread Cert.ChipGuIdeal.nD Cert.ChipGuIdeal.τ).loc Cert.ChipGuIdeal.main_arg2))) = (fun _ => 1#1)

def Pre_ChipGuRefIdeal [hPre_chip_named : Cert.Pre_chip_named.Facts] (m : (ℓ : Loc Cert.ChipGuRefIdeal.nD Cert.ChipGuRefIdeal.τ Cert.ChipGuRefIdeal.sig) → Buf (Elt Ideal) ℓ) : Prop :=
  ∀ c : Dev Cert.ChipGuRefIdeal.nD,
    (Cert.Pre_chip_named.fn (F := Ideal) (m ((c.tc : Thread Cert.ChipGuRefIdeal.nD Cert.ChipGuRefIdeal.τ).loc Cert.ChipGuRefIdeal.main_arg0)) (m ((c.tc : Thread Cert.ChipGuRefIdeal.nD Cert.ChipGuRefIdeal.τ).loc Cert.ChipGuRefIdeal.main_arg1)) (m ((c.tc : Thread Cert.ChipGuRefIdeal.nD Cert.ChipGuRefIdeal.τ).loc Cert.ChipGuRefIdeal.main_arg2))) = (fun _ => 1#1)

def Pre_ChipDown [hPre_chip_named_down : Cert.Pre_chip_named_down.Facts] (m : (ℓ : Loc Cert.ChipDown.nD Cert.ChipDown.τ Cert.ChipDown.sig) → Buf (Elt Bits) ℓ) : Prop :=
  ∀ c : Dev Cert.ChipDown.nD,
    (Cert.Pre_chip_named_down.fn (F := Bits) (m ((c.tc : Thread Cert.ChipDown.nD Cert.ChipDown.τ).loc Cert.ChipDown.main_arg0)) (m ((c.tc : Thread Cert.ChipDown.nD Cert.ChipDown.τ).loc Cert.ChipDown.main_arg1)) (m ((c.tc : Thread Cert.ChipDown.nD Cert.ChipDown.τ).loc Cert.ChipDown.main_arg2)) (m ((c.tc : Thread Cert.ChipDown.nD Cert.ChipDown.τ).loc Cert.ChipDown.main_arg3))) = (fun _ => 1#1)

def Pre_ChipDownIdeal [hPre_chip_named_down : Cert.Pre_chip_named_down.Facts] (m : (ℓ : Loc Cert.ChipDownIdeal.nD Cert.ChipDownIdeal.τ Cert.ChipDownIdeal.sig) → Buf (Elt Ideal) ℓ) : Prop :=
  ∀ c : Dev Cert.ChipDownIdeal.nD,
    (Cert.Pre_chip_named_down.fn (F := Ideal) (m ((c.tc : Thread Cert.ChipDownIdeal.nD Cert.ChipDownIdeal.τ).loc Cert.ChipDownIdeal.main_arg0)) (m ((c.tc : Thread Cert.ChipDownIdeal.nD Cert.ChipDownIdeal.τ).loc Cert.ChipDownIdeal.main_arg1)) (m ((c.tc : Thread Cert.ChipDownIdeal.nD Cert.ChipDownIdeal.τ).loc Cert.ChipDownIdeal.main_arg2)) (m ((c.tc : Thread Cert.ChipDownIdeal.nD Cert.ChipDownIdeal.τ).loc Cert.ChipDownIdeal.main_arg3))) = (fun _ => 1#1)

def Pre_ChipDownRefIdeal [hPre_chip_named_down : Cert.Pre_chip_named_down.Facts] (m : (ℓ : Loc Cert.ChipDownRefIdeal.nD Cert.ChipDownRefIdeal.τ Cert.ChipDownRefIdeal.sig) → Buf (Elt Ideal) ℓ) : Prop :=
  ∀ c : Dev Cert.ChipDownRefIdeal.nD,
    (Cert.Pre_chip_named_down.fn (F := Ideal) (m ((c.tc : Thread Cert.ChipDownRefIdeal.nD Cert.ChipDownRefIdeal.τ).loc Cert.ChipDownRefIdeal.main_arg0)) (m ((c.tc : Thread Cert.ChipDownRefIdeal.nD Cert.ChipDownRefIdeal.τ).loc Cert.ChipDownRefIdeal.main_arg1)) (m ((c.tc : Thread Cert.ChipDownRefIdeal.nD Cert.ChipDownRefIdeal.τ).loc Cert.ChipDownRefIdeal.main_arg2)) (m ((c.tc : Thread Cert.ChipDownRefIdeal.nD Cert.ChipDownRefIdeal.τ).loc Cert.ChipDownRefIdeal.main_arg3))) = (fun _ => 1#1)

def Pre_ChipSmall [hPre_chip_named_small : Cert.Pre_chip_named_small.Facts] (m : (ℓ : Loc Cert.ChipSmall.nD Cert.ChipSmall.τ Cert.ChipSmall.sig) → Buf (Elt Bits) ℓ) : Prop :=
  ∀ c : Dev Cert.ChipSmall.nD,
    (Cert.Pre_chip_named_small.fn (F := Bits) (m ((c.tc : Thread Cert.ChipSmall.nD Cert.ChipSmall.τ).loc Cert.ChipSmall.main_arg0)) (m ((c.tc : Thread Cert.ChipSmall.nD Cert.ChipSmall.τ).loc Cert.ChipSmall.main_arg1)) (m ((c.tc : Thread Cert.ChipSmall.nD Cert.ChipSmall.τ).loc Cert.ChipSmall.main_arg2))) = (fun _ => 1#1)

def Pre_ChipSmallIdeal [hPre_chip_named_small : Cert.Pre_chip_named_small.Facts] (m : (ℓ : Loc Cert.ChipSmallIdeal.nD Cert.ChipSmallIdeal.τ Cert.ChipSmallIdeal.sig) → Buf (Elt Ideal) ℓ) : Prop :=
  ∀ c : Dev Cert.ChipSmallIdeal.nD,
    (Cert.Pre_chip_named_small.fn (F := Ideal) (m ((c.tc : Thread Cert.ChipSmallIdeal.nD Cert.ChipSmallIdeal.τ).loc Cert.ChipSmallIdeal.main_arg0)) (m ((c.tc : Thread Cert.ChipSmallIdeal.nD Cert.ChipSmallIdeal.τ).loc Cert.ChipSmallIdeal.main_arg1)) (m ((c.tc : Thread Cert.ChipSmallIdeal.nD Cert.ChipSmallIdeal.τ).loc Cert.ChipSmallIdeal.main_arg2))) = (fun _ => 1#1)

def Pre_ChipSmallRefIdeal [hPre_chip_named_small : Cert.Pre_chip_named_small.Facts] (m : (ℓ : Loc Cert.ChipSmallRefIdeal.nD Cert.ChipSmallRefIdeal.τ Cert.ChipSmallRefIdeal.sig) → Buf (Elt Ideal) ℓ) : Prop :=
  ∀ c : Dev Cert.ChipSmallRefIdeal.nD,
    (Cert.Pre_chip_named_small.fn (F := Ideal) (m ((c.tc : Thread Cert.ChipSmallRefIdeal.nD Cert.ChipSmallRefIdeal.τ).loc Cert.ChipSmallRefIdeal.main_arg0)) (m ((c.tc : Thread Cert.ChipSmallRefIdeal.nD Cert.ChipSmallRefIdeal.τ).loc Cert.ChipSmallRefIdeal.main_arg1)) (m ((c.tc : Thread Cert.ChipSmallRefIdeal.nD Cert.ChipSmallRefIdeal.τ).loc Cert.ChipSmallRefIdeal.main_arg2))) = (fun _ => 1#1)

def Pre_ChipIn [hPre_chip_named : Cert.Pre_chip_named.Facts] (m : (ℓ : Loc Cert.ChipIn.nD Cert.ChipIn.τ Cert.ChipIn.sig) → Buf (Elt Bits) ℓ) : Prop :=
  ∀ c : Dev Cert.ChipIn.nD,
    (Cert.Pre_chip_named.fn (F := Bits) (m ((c.tc : Thread Cert.ChipIn.nD Cert.ChipIn.τ).loc Cert.ChipIn.main_arg0)) (m ((c.tc : Thread Cert.ChipIn.nD Cert.ChipIn.τ).loc Cert.ChipIn.main_arg1)) (m ((c.tc : Thread Cert.ChipIn.nD Cert.ChipIn.τ).loc Cert.ChipIn.main_arg2))) = (fun _ => 1#1)

def Pre_ChipInIdeal [hPre_chip_named : Cert.Pre_chip_named.Facts] (m : (ℓ : Loc Cert.ChipInIdeal.nD Cert.ChipInIdeal.τ Cert.ChipInIdeal.sig) → Buf (Elt Ideal) ℓ) : Prop :=
  ∀ c : Dev Cert.ChipInIdeal.nD,
    (Cert.Pre_chip_named.fn (F := Ideal) (m ((c.tc : Thread Cert.ChipInIdeal.nD Cert.ChipInIdeal.τ).loc Cert.ChipInIdeal.main_arg0)) (m ((c.tc : Thread Cert.ChipInIdeal.nD Cert.ChipInIdeal.τ).loc Cert.ChipInIdeal.main_arg1)) (m ((c.tc : Thread Cert.ChipInIdeal.nD Cert.ChipInIdeal.τ).loc Cert.ChipInIdeal.main_arg2))) = (fun _ => 1#1)

def Pre_ChipInRefIdeal [hPre_chip_named : Cert.Pre_chip_named.Facts] (m : (ℓ : Loc Cert.ChipInRefIdeal.nD Cert.ChipInRefIdeal.τ Cert.ChipInRefIdeal.sig) → Buf (Elt Ideal) ℓ) : Prop :=
  ∀ c : Dev Cert.ChipInRefIdeal.nD,
    (Cert.Pre_chip_named.fn (F := Ideal) (m ((c.tc : Thread Cert.ChipInRefIdeal.nD Cert.ChipInRefIdeal.τ).loc Cert.ChipInRefIdeal.main_arg0)) (m ((c.tc : Thread Cert.ChipInRefIdeal.nD Cert.ChipInRefIdeal.τ).loc Cert.ChipInRefIdeal.main_arg1)) (m ((c.tc : Thread Cert.ChipInRefIdeal.nD Cert.ChipInRefIdeal.τ).loc Cert.ChipInRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6))
      ∧ r.2.sem = fun _ => 0)

def quiescent_AdamBAda [hAdamBAda : Cert.AdamBAda.Facts] : Prop :=
  ∀ (m : (ℓ : Loc Cert.AdamBAda.nD Cert.AdamBAda.τ Cert.AdamBAda.sig) → Buf (Elt Bits) ℓ) (g : Dev Cert.AdamBAda.nD → PrngReg), Pre_AdamBAda m →
    θ_run (Cert.AdamBAda.defs (F := Bits)) (onTc (τ := Cert.AdamBAda.τ) (Cert.AdamBAda.main (F := Bits))) ⟨m, fun _ => 0, g⟩ (fun r => (∀ c : Dev Cert.AdamBAda.nD,
      r.2.mem ((c.tc : Thread Cert.AdamBAda.nD Cert.AdamBAda.τ).loc Cert.AdamBAda.main_arg0) = m ((c.tc : Thread Cert.AdamBAda.nD Cert.AdamBAda.τ).loc Cert.AdamBAda.main_arg0)
      ∧ r.2.mem ((c.tc : Thread Cert.AdamBAda.nD Cert.AdamBAda.τ).loc Cert.AdamBAda.main_arg1) = m ((c.tc : Thread Cert.AdamBAda.nD Cert.AdamBAda.τ).loc Cert.AdamBAda.main_arg1)
      ∧ r.2.mem ((c.tc : Thread Cert.AdamBAda.nD Cert.AdamBAda.τ).loc Cert.AdamBAda.main_arg2) = m ((c.tc : Thread Cert.AdamBAda.nD Cert.AdamBAda.τ).loc Cert.AdamBAda.main_arg2)
      ∧ r.2.mem ((c.tc : Thread Cert.AdamBAda.nD Cert.AdamBAda.τ).loc Cert.AdamBAda.main_arg3) = m ((c.tc : Thread Cert.AdamBAda.nD Cert.AdamBAda.τ).loc Cert.AdamBAda.main_arg3))
      ∧ r.2.sem = fun _ => 0)

def quiescent_AdamBAdaIdeal [hAdamBAdaIdeal : Cert.AdamBAdaIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg), Pre_AdamBAdaIdeal m →
    θ_run (Cert.AdamBAdaIdeal.defs (F := Ideal)) (onTc (τ := Cert.AdamBAdaIdeal.τ) (Cert.AdamBAdaIdeal.main (F := Ideal))) ⟨m, fun _ => 0, g⟩ (fun r => (∀ c : Dev Cert.AdamBAdaIdeal.nD,
      r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
      ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
      ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
      ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ r.2.sem = fun _ => 0)

def quiescent_AdamBAdaRefIdeal [hAdamBAdaRefIdeal : Cert.AdamBAdaRefIdeal.Facts] : Prop :=
  ∀ (m : (ℓ : Loc Cert.AdamBAdaRefIdeal.nD Cert.AdamBAdaRefIdeal.τ Cert.AdamBAdaRefIdeal.sig) → Buf (Elt Ideal) ℓ) (g : Dev Cert.AdamBAdaRefIdeal.nD → PrngReg), Pre_AdamBAdaRefIdeal m →
    θ_run (Cert.AdamBAdaRefIdeal.defs (F := Ideal)) (onTc (τ := Cert.AdamBAdaRefIdeal.τ) (Cert.AdamBAdaRefIdeal.main (F := Ideal))) ⟨m, fun _ => 0, g⟩ (fun r => (∀ c : Dev Cert.AdamBAdaRefIdeal.nD,
      r.2.mem ((c.tc : Thread Cert.AdamBAdaRefIdeal.nD Cert.AdamBAdaRefIdeal.τ).loc Cert.AdamBAdaRefIdeal.main_arg0) = m ((c.tc : Thread Cert.AdamBAdaRefIdeal.nD Cert.AdamBAdaRefIdeal.τ).loc Cert.AdamBAdaRefIdeal.main_arg0)
      ∧ r.2.mem ((c.tc : Thread Cert.AdamBAdaRefIdeal.nD Cert.AdamBAdaRefIdeal.τ).loc Cert.AdamBAdaRefIdeal.main_arg1) = m ((c.tc : Thread Cert.AdamBAdaRefIdeal.nD Cert.AdamBAdaRefIdeal.τ).loc Cert.AdamBAdaRefIdeal.main_arg1)
      ∧ r.2.mem ((c.tc : Thread Cert.AdamBAdaRefIdeal.nD Cert.AdamBAdaRefIdeal.τ).loc Cert.AdamBAdaRefIdeal.main_arg2) = m ((c.tc : Thread Cert.AdamBAdaRefIdeal.nD Cert.AdamBAdaRefIdeal.τ).loc Cert.AdamBAdaRefIdeal.main_arg2)
      ∧ r.2.mem ((c.tc : Thread Cert.AdamBAdaRefIdeal.nD Cert.AdamBAdaRefIdeal.τ).loc Cert.AdamBAdaRefIdeal.main_arg3) = m ((c.tc : Thread Cert.AdamBAdaRefIdeal.nD Cert.AdamBAdaRefIdeal.τ).loc Cert.AdamBAdaRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamFgate [hAdamFgate : Cert.AdamFgate.Facts] : Prop :=
  ∀ (m : (ℓ : Loc Cert.AdamFgate.nD Cert.AdamFgate.τ Cert.AdamFgate.sig) → Buf (Elt Bits) ℓ) (g : Dev Cert.AdamFgate.nD → PrngReg), Pre_AdamFgate m →
    θ_run (Cert.AdamFgate.defs (F := Bits)) (onTc (τ := Cert.AdamFgate.τ) (Cert.AdamFgate.main (F := Bits))) ⟨m, fun _ => 0, g⟩ (fun r => (∀ c : Dev Cert.AdamFgate.nD,
      r.2.mem ((c.tc : Thread Cert.AdamFgate.nD Cert.AdamFgate.τ).loc Cert.AdamFgate.main_arg0) = m ((c.tc : Thread Cert.AdamFgate.nD Cert.AdamFgate.τ).loc Cert.AdamFgate.main_arg0)
      ∧ r.2.mem ((c.tc : Thread Cert.AdamFgate.nD Cert.AdamFgate.τ).loc Cert.AdamFgate.main_arg1) = m ((c.tc : Thread Cert.AdamFgate.nD Cert.AdamFgate.τ).loc Cert.AdamFgate.main_arg1)
      ∧ r.2.mem ((c.tc : Thread Cert.AdamFgate.nD Cert.AdamFgate.τ).loc Cert.AdamFgate.main_arg2) = m ((c.tc : Thread Cert.AdamFgate.nD Cert.AdamFgate.τ).loc Cert.AdamFgate.main_arg2)
      ∧ r.2.mem ((c.tc : Thread Cert.AdamFgate.nD Cert.AdamFgate.τ).loc Cert.AdamFgate.main_arg3) = m ((c.tc : Thread Cert.AdamFgate.nD Cert.AdamFgate.τ).loc Cert.AdamFgate.main_arg3))
      ∧ r.2.sem = fun _ => 0)

def quiescent_AdamFgateIdeal [hAdamFgateIdeal : Cert.AdamFgateIdeal.Facts] : Prop :=
  ∀ (m : (ℓ : Loc Cert.AdamFgateIdeal.nD Cert.AdamFgateIdeal.τ Cert.AdamFgateIdeal.sig) → Buf (Elt Ideal) ℓ) (g : Dev Cert.AdamFgateIdeal.nD → PrngReg), Pre_AdamFgateIdeal m →
    θ_run (Cert.AdamFgateIdeal.defs (F := Ideal)) (onTc (τ := Cert.AdamFgateIdeal.τ) (Cert.AdamFgateIdeal.main (F := Ideal))) ⟨m, fun _ => 0, g⟩ (fun r => (∀ c : Dev Cert.AdamFgateIdeal.nD,
      r.2.mem ((c.tc : Thread Cert.AdamFgateIdeal.nD Cert.AdamFgateIdeal.τ).loc Cert.AdamFgateIdeal.main_arg0) = m ((c.tc : Thread Cert.AdamFgateIdeal.nD Cert.AdamFgateIdeal.τ).loc Cert.AdamFgateIdeal.main_arg0)
      ∧ r.2.mem ((c.tc : Thread Cert.AdamFgateIdeal.nD Cert.AdamFgateIdeal.τ).loc Cert.AdamFgateIdeal.main_arg1) = m ((c.tc : Thread Cert.AdamFgateIdeal.nD Cert.AdamFgateIdeal.τ).loc Cert.AdamFgateIdeal.main_arg1)
      ∧ r.2.mem ((c.tc : Thread Cert.AdamFgateIdeal.nD Cert.AdamFgateIdeal.τ).loc Cert.AdamFgateIdeal.main_arg2) = m ((c.tc : Thread Cert.AdamFgateIdeal.nD Cert.AdamFgateIdeal.τ).loc Cert.AdamFgateIdeal.main_arg2)
      ∧ r.2.mem ((c.tc : Thread Cert.AdamFgateIdeal.nD Cert.AdamFgateIdeal.τ).loc Cert.AdamFgateIdeal.main_arg3) = m ((c.tc : Thread Cert.AdamFgateIdeal.nD Cert.AdamFgateIdeal.τ).loc Cert.AdamFgateIdeal.main_arg3))
      ∧ r.2.sem = fun _ => 0)

def quiescent_AdamFgateRefIdeal [hAdamFgateRefIdeal : Cert.AdamFgateRefIdeal.Facts] : Prop :=
  ∀ (m : (ℓ : Loc Cert.AdamFgateRefIdeal.nD Cert.AdamFgateRefIdeal.τ Cert.AdamFgateRefIdeal.sig) → Buf (Elt Ideal) ℓ) (g : Dev Cert.AdamFgateRefIdeal.nD → PrngReg), Pre_AdamFgateRefIdeal m →
    θ_run (Cert.AdamFgateRefIdeal.defs (F := Ideal)) (onTc (τ := Cert.AdamFgateRefIdeal.τ) (Cert.AdamFgateRefIdeal.main (F := Ideal))) ⟨m, fun _ => 0, g⟩ (fun r => (∀ c : Dev Cert.AdamFgateRefIdeal.nD,
      r.2.mem ((c.tc : Thread Cert.AdamFgateRefIdeal.nD Cert.AdamFgateRefIdeal.τ).loc Cert.AdamFgateRefIdeal.main_arg0) = m ((c.tc : Thread Cert.AdamFgateRefIdeal.nD Cert.AdamFgateRefIdeal.τ).loc Cert.AdamFgateRefIdeal.main_arg0)
      ∧ r.2.mem ((c.tc : Thread Cert.AdamFgateRefIdeal.nD Cert.AdamFgateRefIdeal.τ).loc Cert.AdamFgateRefIdeal.main_arg1) = m ((c.tc : Thread Cert.AdamFgateRefIdeal.nD Cert.AdamFgateRefIdeal.τ).loc Cert.AdamFgateRefIdeal.main_arg1)
      ∧ r.2.mem ((c.tc : Thread Cert.AdamFgateRefIdeal.nD Cert.AdamFgateRefIdeal.τ).loc Cert.AdamFgateRefIdeal.main_arg2) = m ((c.tc : Thread Cert.AdamFgateRefIdeal.nD Cert.AdamFgateRefIdeal.τ).loc Cert.AdamFgateRefIdeal.main_arg2)
      ∧ r.2.mem ((c.tc : Thread Cert.AdamFgateRefIdeal.nD Cert.AdamFgateRefIdeal.τ).loc Cert.AdamFgateRefIdeal.main_arg3) = m ((c.tc : Thread Cert.AdamFgateRefIdeal.nD Cert.AdamFgateRefIdeal.τ).loc Cert.AdamFgateRefIdeal.main_arg3))
      ∧ r.2.sem = fun _ => 0)

def quiescent_AdamBrA [hAdamBrA : Cert.AdamBrA.Facts] : Prop :=
  ∀ (m : (ℓ : Loc Cert.AdamBrA.nD Cert.AdamBrA.τ Cert.AdamBrA.sig) → Buf (Elt Bits) ℓ) (g : Dev Cert.AdamBrA.nD → PrngReg), Pre_AdamBrA m →
    θ_run (Cert.AdamBrA.defs (F := Bits)) (onTc (τ := Cert.AdamBrA.τ) (Cert.AdamBrA.main (F := Bits))) ⟨m, fun _ => 0, g⟩ (fun r => (∀ c : Dev Cert.AdamBrA.nD,
      r.2.mem ((c.tc : Thread Cert.AdamBrA.nD Cert.AdamBrA.τ).loc Cert.AdamBrA.main_arg0) = m ((c.tc : Thread Cert.AdamBrA.nD Cert.AdamBrA.τ).loc Cert.AdamBrA.main_arg0)
      ∧ r.2.mem ((c.tc : Thread Cert.AdamBrA.nD Cert.AdamBrA.τ).loc Cert.AdamBrA.main_arg1) = m ((c.tc : Thread Cert.AdamBrA.nD Cert.AdamBrA.τ).loc Cert.AdamBrA.main_arg1)
      ∧ r.2.mem ((c.tc : Thread Cert.AdamBrA.nD Cert.AdamBrA.τ).loc Cert.AdamBrA.main_arg2) = m ((c.tc : Thread Cert.AdamBrA.nD Cert.AdamBrA.τ).loc Cert.AdamBrA.main_arg2)
      ∧ r.2.mem ((c.tc : Thread Cert.AdamBrA.nD Cert.AdamBrA.τ).loc Cert.AdamBrA.main_arg3) = m ((c.tc : Thread Cert.AdamBrA.nD Cert.AdamBrA.τ).loc Cert.AdamBrA.main_arg3))
      ∧ r.2.sem = fun _ => 0)

def quiescent_AdamBrAIdeal [hAdamBrAIdeal : Cert.AdamBrAIdeal.Facts] : Prop :=
  ∀ (m : (ℓ : Loc Cert.AdamBrAIdeal.nD Cert.AdamBrAIdeal.τ Cert.AdamBrAIdeal.sig) → Buf (Elt Ideal) ℓ) (g : Dev Cert.AdamBrAIdeal.nD → PrngReg), Pre_AdamBrAIdeal m →
    θ_run (Cert.AdamBrAIdeal.defs (F := Ideal)) (onTc (τ := Cert.AdamBrAIdeal.τ) (Cert.AdamBrAIdeal.main (F := Ideal))) ⟨m, fun _ => 0, g⟩ (fun r => (∀ c : Dev Cert.AdamBrAIdeal.nD,
      r.2.mem ((c.tc : Thread Cert.AdamBrAIdeal.nD Cert.AdamBrAIdeal.τ).loc Cert.AdamBrAIdeal.main_arg0) = m ((c.tc : Thread Cert.AdamBrAIdeal.nD Cert.AdamBrAIdeal.τ).loc Cert.AdamBrAIdeal.main_arg0)
      ∧ r.2.mem ((c.tc : Thread Cert.AdamBrAIdeal.nD Cert.AdamBrAIdeal.τ).loc Cert.AdamBrAIdeal.main_arg1) = m ((c.tc : Thread Cert.AdamBrAIdeal.nD Cert.AdamBrAIdeal.τ).loc Cert.AdamBrAIdeal.main_arg1)
      ∧ r.2.mem ((c.tc : Thread Cert.AdamBrAIdeal.nD Cert.AdamBrAIdeal.τ).loc Cert.AdamBrAIdeal.main_arg2) = m ((c.tc : Thread Cert.AdamBrAIdeal.nD Cert.AdamBrAIdeal.τ).loc Cert.AdamBrAIdeal.main_arg2)
      ∧ r.2.mem ((c.tc : Thread Cert.AdamBrAIdeal.nD Cert.AdamBrAIdeal.τ).loc Cert.AdamBrAIdeal.main_arg3) = m ((c.tc : Thread Cert.AdamBrAIdeal.nD Cert.AdamBrAIdeal.τ).loc Cert.AdamBrAIdeal.main_arg3))
      ∧ r.2.sem = fun _ => 0)

def quiescent_AdamBrARefIdeal [hAdamBrARefIdeal : Cert.AdamBrARefIdeal.Facts] : Prop :=
  ∀ (m : (ℓ : Loc Cert.AdamBrARefIdeal.nD Cert.AdamBrARefIdeal.τ Cert.AdamBrARefIdeal.sig) → Buf (Elt Ideal) ℓ) (g : Dev Cert.AdamBrARefIdeal.nD → PrngReg), Pre_AdamBrARefIdeal m →
    θ_run (Cert.AdamBrARefIdeal.defs (F := Ideal)) (onTc (τ := Cert.AdamBrARefIdeal.τ) (Cert.AdamBrARefIdeal.main (F := Ideal))) ⟨m, fun _ => 0, g⟩ (fun r => (∀ c : Dev Cert.AdamBrARefIdeal.nD,
      r.2.mem ((c.tc : Thread Cert.AdamBrARefIdeal.nD Cert.AdamBrARefIdeal.τ).loc Cert.AdamBrARefIdeal.main_arg0) = m ((c.tc : Thread Cert.AdamBrARefIdeal.nD Cert.AdamBrARefIdeal.τ).loc Cert.AdamBrARefIdeal.main_arg0)
      ∧ r.2.mem ((c.tc : Thread Cert.AdamBrARefIdeal.nD Cert.AdamBrARefIdeal.τ).loc Cert.AdamBrARefIdeal.main_arg1) = m ((c.tc : Thread Cert.AdamBrARefIdeal.nD Cert.AdamBrARefIdeal.τ).loc Cert.AdamBrARefIdeal.main_arg1)
      ∧ r.2.mem ((c.tc : Thread Cert.AdamBrARefIdeal.nD Cert.AdamBrARefIdeal.τ).loc Cert.AdamBrARefIdeal.main_arg2) = m ((c.tc : Thread Cert.AdamBrARefIdeal.nD Cert.AdamBrARefIdeal.τ).loc Cert.AdamBrARefIdeal.main_arg2)
      ∧ r.2.mem ((c.tc : Thread Cert.AdamBrARefIdeal.nD Cert.AdamBrARefIdeal.τ).loc Cert.AdamBrARefIdeal.main_arg3) = m ((c.tc : Thread Cert.AdamBrARefIdeal.nD Cert.AdamBrARefIdeal.τ).loc Cert.AdamBrARefIdeal.main_arg3))
      ∧ r.2.sem = fun _ => 0)

def quiescent_AdamBrB [hAdamBrB : Cert.AdamBrB.Facts] : Prop :=
  ∀ (m : (ℓ : Loc Cert.AdamBrB.nD Cert.AdamBrB.τ Cert.AdamBrB.sig) → Buf (Elt Bits) ℓ) (g : Dev Cert.AdamBrB.nD → PrngReg), Pre_AdamBrB m →
    θ_run (Cert.AdamBrB.defs (F := Bits)) (onTc (τ := Cert.AdamBrB.τ) (Cert.AdamBrB.main (F := Bits))) ⟨m, fun _ => 0, g⟩ (fun r => (∀ c : Dev Cert.AdamBrB.nD,
      r.2.mem ((c.tc : Thread Cert.AdamBrB.nD Cert.AdamBrB.τ).loc Cert.AdamBrB.main_arg0) = m ((c.tc : Thread Cert.AdamBrB.nD Cert.AdamBrB.τ).loc Cert.AdamBrB.main_arg0)
      ∧ r.2.mem ((c.tc : Thread Cert.AdamBrB.nD Cert.AdamBrB.τ).loc Cert.AdamBrB.main_arg1) = m ((c.tc : Thread Cert.AdamBrB.nD Cert.AdamBrB.τ).loc Cert.AdamBrB.main_arg1)
      ∧ r.2.mem ((c.tc : Thread Cert.AdamBrB.nD Cert.AdamBrB.τ).loc Cert.AdamBrB.main_arg2) = m ((c.tc : Thread Cert.AdamBrB.nD Cert.AdamBrB.τ).loc Cert.AdamBrB.main_arg2)
      ∧ r.2.mem ((c.tc : Thread Cert.AdamBrB.nD Cert.AdamBrB.τ).loc Cert.AdamBrB.main_arg3) = m ((c.tc : Thread Cert.AdamBrB.nD Cert.AdamBrB.τ).loc Cert.AdamBrB.main_arg3))
      ∧ r.2.sem = fun _ => 0)

def quiescent_AdamBrBIdeal [hAdamBrBIdeal : Cert.AdamBrBIdeal.Facts] : Prop :=
  ∀ (m : (ℓ : Loc Cert.AdamBrBIdeal.nD Cert.AdamBrBIdeal.τ Cert.AdamBrBIdeal.sig) → Buf (Elt Ideal) ℓ) (g : Dev Cert.AdamBrBIdeal.nD → PrngReg), Pre_AdamBrBIdeal m →
    θ_run (Cert.AdamBrBIdeal.defs (F := Ideal)) (onTc (τ := Cert.AdamBrBIdeal.τ) (Cert.AdamBrBIdeal.main (F := Ideal))) ⟨m, fun _ => 0, g⟩ (fun r => (∀ c : Dev Cert.AdamBrBIdeal.nD,
      r.2.mem ((c.tc : Thread Cert.AdamBrBIdeal.nD Cert.AdamBrBIdeal.τ).loc Cert.AdamBrBIdeal.main_arg0) = m ((c.tc : Thread Cert.AdamBrBIdeal.nD Cert.AdamBrBIdeal.τ).loc Cert.AdamBrBIdeal.main_arg0)
      ∧ r.2.mem ((c.tc : Thread Cert.AdamBrBIdeal.nD Cert.AdamBrBIdeal.τ).loc Cert.AdamBrBIdeal.main_arg1) = m ((c.tc : Thread Cert.AdamBrBIdeal.nD Cert.AdamBrBIdeal.τ).loc Cert.AdamBrBIdeal.main_arg1)
      ∧ r.2.mem ((c.tc : Thread Cert.AdamBrBIdeal.nD Cert.AdamBrBIdeal.τ).loc Cert.AdamBrBIdeal.main_arg2) = m ((c.tc : Thread Cert.AdamBrBIdeal.nD Cert.AdamBrBIdeal.τ).loc Cert.AdamBrBIdeal.main_arg2)
      ∧ r.2.mem ((c.tc : Thread Cert.AdamBrBIdeal.nD Cert.AdamBrBIdeal.τ).loc Cert.AdamBrBIdeal.main_arg3) = m ((c.tc : Thread Cert.AdamBrBIdeal.nD Cert.AdamBrBIdeal.τ).loc Cert.AdamBrBIdeal.main_arg3))
      ∧ r.2.sem = fun _ => 0)

def quiescent_AdamBrBRefIdeal [hAdamBrBRefIdeal : Cert.AdamBrBRefIdeal.Facts] : Prop :=
  ∀ (m : (ℓ : Loc Cert.AdamBrBRefIdeal.nD Cert.AdamBrBRefIdeal.τ Cert.AdamBrBRefIdeal.sig) → Buf (Elt Ideal) ℓ) (g : Dev Cert.AdamBrBRefIdeal.nD → PrngReg), Pre_AdamBrBRefIdeal m →
    θ_run (Cert.AdamBrBRefIdeal.defs (F := Ideal)) (onTc (τ := Cert.AdamBrBRefIdeal.τ) (Cert.AdamBrBRefIdeal.main (F := Ideal))) ⟨m, fun _ => 0, g⟩ (fun r => (∀ c : Dev Cert.AdamBrBRefIdeal.nD,
      r.2.mem ((c.tc : Thread Cert.AdamBrBRefIdeal.nD Cert.AdamBrBRefIdeal.τ).loc Cert.AdamBrBRefIdeal.main_arg0) = m ((c.tc : Thread Cert.AdamBrBRefIdeal.nD Cert.AdamBrBRefIdeal.τ).loc Cert.AdamBrBRefIdeal.main_arg0)
      ∧ r.2.mem ((c.tc : Thread Cert.AdamBrBRefIdeal.nD Cert.AdamBrBRefIdeal.τ).loc Cert.AdamBrBRefIdeal.main_arg1) = m ((c.tc : Thread Cert.AdamBrBRefIdeal.nD Cert.AdamBrBRefIdeal.τ).loc Cert.AdamBrBRefIdeal.main_arg1)
      ∧ r.2.mem ((c.tc : Thread Cert.AdamBrBRefIdeal.nD Cert.AdamBrBRefIdeal.τ).loc Cert.AdamBrBRefIdeal.main_arg2) = m ((c.tc : Thread Cert.AdamBrBRefIdeal.nD Cert.AdamBrBRefIdeal.τ).loc Cert.AdamBrBRefIdeal.main_arg2)
      ∧ r.2.mem ((c.tc : Thread Cert.AdamBrBRefIdeal.nD Cert.AdamBrBRefIdeal.τ).loc Cert.AdamBrBRefIdeal.main_arg3) = m ((c.tc : Thread Cert.AdamBrBRefIdeal.nD Cert.AdamBrBRefIdeal.τ).loc Cert.AdamBrBRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_ChipGu [hChipGu : Cert.ChipGu.Facts] [hPre_chip_named : Cert.Pre_chip_named.Facts] : Prop :=
  ∀ (m : (ℓ : Loc Cert.ChipGu.nD Cert.ChipGu.τ Cert.ChipGu.sig) → Buf (Elt Bits) ℓ) (g : Dev Cert.ChipGu.nD → PrngReg), Pre_ChipGu m →
    θ_run (Cert.ChipGu.defs (F := Bits)) (onTc (τ := Cert.ChipGu.τ) (Cert.ChipGu.main (F := Bits))) ⟨m, fun _ => 0, g⟩ (fun r => (∀ c : Dev Cert.ChipGu.nD,
      r.2.mem ((c.tc : Thread Cert.ChipGu.nD Cert.ChipGu.τ).loc Cert.ChipGu.main_arg0) = m ((c.tc : Thread Cert.ChipGu.nD Cert.ChipGu.τ).loc Cert.ChipGu.main_arg0)
      ∧ r.2.mem ((c.tc : Thread Cert.ChipGu.nD Cert.ChipGu.τ).loc Cert.ChipGu.main_arg1) = m ((c.tc : Thread Cert.ChipGu.nD Cert.ChipGu.τ).loc Cert.ChipGu.main_arg1)
      ∧ r.2.mem ((c.tc : Thread Cert.ChipGu.nD Cert.ChipGu.τ).loc Cert.ChipGu.main_arg2) = m ((c.tc : Thread Cert.ChipGu.nD Cert.ChipGu.τ).loc Cert.ChipGu.main_arg2))
      ∧ r.2.sem = fun _ => 0)

def quiescent_ChipGuIdeal [hChipGuIdeal : Cert.ChipGuIdeal.Facts] [hPre_chip_named : Cert.Pre_chip_named.Facts] : Prop :=
  ∀ (m : (ℓ : Loc Cert.ChipGuIdeal.nD Cert.ChipGuIdeal.τ Cert.ChipGuIdeal.sig) → Buf (Elt Ideal) ℓ) (g : Dev Cert.ChipGuIdeal.nD → PrngReg), Pre_ChipGuIdeal m →
    θ_run (Cert.ChipGuIdeal.defs (F := Ideal)) (onTc (τ := Cert.ChipGuIdeal.τ) (Cert.ChipGuIdeal.main (F := Ideal))) ⟨m, fun _ => 0, g⟩ (fun r => (∀ c : Dev Cert.ChipGuIdeal.nD,
      r.2.mem ((c.tc : Thread Cert.ChipGuIdeal.nD Cert.ChipGuIdeal.τ).loc Cert.ChipGuIdeal.main_arg0) = m ((c.tc : Thread Cert.ChipGuIdeal.nD Cert.ChipGuIdeal.τ).loc Cert.ChipGuIdeal.main_arg0)
      ∧ r.2.mem ((c.tc : Thread Cert.ChipGuIdeal.nD Cert.ChipGuIdeal.τ).loc Cert.ChipGuIdeal.main_arg1) = m ((c.tc : Thread Cert.ChipGuIdeal.nD Cert.ChipGuIdeal.τ).loc Cert.ChipGuIdeal.main_arg1)
      ∧ r.2.mem ((c.tc : Thread Cert.ChipGuIdeal.nD Cert.ChipGuIdeal.τ).loc Cert.ChipGuIdeal.main_arg2) = m ((c.tc : Thread Cert.ChipGuIdeal.nD Cert.ChipGuIdeal.τ).loc Cert.ChipGuIdeal.main_arg2))
      ∧ r.2.sem = fun _ => 0)

def quiescent_ChipGuRefIdeal [hChipGuRefIdeal : Cert.ChipGuRefIdeal.Facts] [hPre_chip_named : Cert.Pre_chip_named.Facts] : Prop :=
  ∀ (m : (ℓ : Loc Cert.ChipGuRefIdeal.nD Cert.ChipGuRefIdeal.τ Cert.ChipGuRefIdeal.sig) → Buf (Elt Ideal) ℓ) (g : Dev Cert.ChipGuRefIdeal.nD → PrngReg), Pre_ChipGuRefIdeal m →
    θ_run (Cert.ChipGuRefIdeal.defs (F := Ideal)) (onTc (τ := Cert.ChipGuRefIdeal.τ) (Cert.ChipGuRefIdeal.main (F := Ideal))) ⟨m, fun _ => 0, g⟩ (fun r => (∀ c : Dev Cert.ChipGuRefIdeal.nD,
      r.2.mem ((c.tc : Thread Cert.ChipGuRefIdeal.nD Cert.ChipGuRefIdeal.τ).loc Cert.ChipGuRefIdeal.main_arg0) = m ((c.tc : Thread Cert.ChipGuRefIdeal.nD Cert.ChipGuRefIdeal.τ).loc Cert.ChipGuRefIdeal.main_arg0)
      ∧ r.2.mem ((c.tc : Thread Cert.ChipGuRefIdeal.nD Cert.ChipGuRefIdeal.τ).loc Cert.ChipGuRefIdeal.main_arg1) = m ((c.tc : Thread Cert.ChipGuRefIdeal.nD Cert.ChipGuRefIdeal.τ).loc Cert.ChipGuRefIdeal.main_arg1)
      ∧ r.2.mem ((c.tc : Thread Cert.ChipGuRefIdeal.nD Cert.ChipGuRefIdeal.τ).loc Cert.ChipGuRefIdeal.main_arg2) = m ((c.tc : Thread Cert.ChipGuRefIdeal.nD Cert.ChipGuRefIdeal.τ).loc Cert.ChipGuRefIdeal.main_arg2))
      ∧ r.2.sem = fun _ => 0)

def quiescent_ChipDown [hChipDown : Cert.ChipDown.Facts] [hPre_chip_named_down : Cert.Pre_chip_named_down.Facts] : Prop :=
  ∀ (m : (ℓ : Loc Cert.ChipDown.nD Cert.ChipDown.τ Cert.ChipDown.sig) → Buf (Elt Bits) ℓ) (g : Dev Cert.ChipDown.nD → PrngReg), Pre_ChipDown m →
    θ_run (Cert.ChipDown.defs (F := Bits)) (onTc (τ := Cert.ChipDown.τ) (Cert.ChipDown.main (F := Bits))) ⟨m, fun _ => 0, g⟩ (fun r => (∀ c : Dev Cert.ChipDown.nD,
      r.2.mem ((c.tc : Thread Cert.ChipDown.nD Cert.ChipDown.τ).loc Cert.ChipDown.main_arg0) = m ((c.tc : Thread Cert.ChipDown.nD Cert.ChipDown.τ).loc Cert.ChipDown.main_arg0)
      ∧ r.2.mem ((c.tc : Thread Cert.ChipDown.nD Cert.ChipDown.τ).loc Cert.ChipDown.main_arg1) = m ((c.tc : Thread Cert.ChipDown.nD Cert.ChipDown.τ).loc Cert.ChipDown.main_arg1)
      ∧ r.2.mem ((c.tc : Thread Cert.ChipDown.nD Cert.ChipDown.τ).loc Cert.ChipDown.main_arg2) = m ((c.tc : Thread Cert.ChipDown.nD Cert.ChipDown.τ).loc Cert.ChipDown.main_arg2)
      ∧ r.2.mem ((c.tc : Thread Cert.ChipDown.nD Cert.ChipDown.τ).loc Cert.ChipDown.main_arg3) = m ((c.tc : Thread Cert.ChipDown.nD Cert.ChipDown.τ).loc Cert.ChipDown.main_arg3))
      ∧ r.2.sem = fun _ => 0)

def quiescent_ChipDownIdeal [hChipDownIdeal : Cert.ChipDownIdeal.Facts] [hPre_chip_named_down : Cert.Pre_chip_named_down.Facts] : Prop :=
  ∀ (m : (ℓ : Loc Cert.ChipDownIdeal.nD Cert.ChipDownIdeal.τ Cert.ChipDownIdeal.sig) → Buf (Elt Ideal) ℓ) (g : Dev Cert.ChipDownIdeal.nD → PrngReg), Pre_ChipDownIdeal m →
    θ_run (Cert.ChipDownIdeal.defs (F := Ideal)) (onTc (τ := Cert.ChipDownIdeal.τ) (Cert.ChipDownIdeal.main (F := Ideal))) ⟨m, fun _ => 0, g⟩ (fun r => (∀ c : Dev Cert.ChipDownIdeal.nD,
      r.2.mem ((c.tc : Thread Cert.ChipDownIdeal.nD Cert.ChipDownIdeal.τ).loc Cert.ChipDownIdeal.main_arg0) = m ((c.tc : Thread Cert.ChipDownIdeal.nD Cert.ChipDownIdeal.τ).loc Cert.ChipDownIdeal.main_arg0)
      ∧ r.2.mem ((c.tc : Thread Cert.ChipDownIdeal.nD Cert.ChipDownIdeal.τ).loc Cert.ChipDownIdeal.main_arg1) = m ((c.tc : Thread Cert.ChipDownIdeal.nD Cert.ChipDownIdeal.τ).loc Cert.ChipDownIdeal.main_arg1)
      ∧ r.2.mem ((c.tc : Thread Cert.ChipDownIdeal.nD Cert.ChipDownIdeal.τ).loc Cert.ChipDownIdeal.main_arg2) = m ((c.tc : Thread Cert.ChipDownIdeal.nD Cert.ChipDownIdeal.τ).loc Cert.ChipDownIdeal.main_arg2)
      ∧ r.2.mem ((c.tc : Thread Cert.ChipDownIdeal.nD Cert.ChipDownIdeal.τ).loc Cert.ChipDownIdeal.main_arg3) = m ((c.tc : Thread Cert.ChipDownIdeal.nD Cert.ChipDownIdeal.τ).loc Cert.ChipDownIdeal.main_arg3))
      ∧ r.2.sem = fun _ => 0)

def quiescent_ChipDownRefIdeal [hChipDownRefIdeal : Cert.ChipDownRefIdeal.Facts] [hPre_chip_named_down : Cert.Pre_chip_named_down.Facts] : Prop :=
  ∀ (m : (ℓ : Loc Cert.ChipDownRefIdeal.nD Cert.ChipDownRefIdeal.τ Cert.ChipDownRefIdeal.sig) → Buf (Elt Ideal) ℓ) (g : Dev Cert.ChipDownRefIdeal.nD → PrngReg), Pre_ChipDownRefIdeal m →
    θ_run (Cert.ChipDownRefIdeal.defs (F := Ideal)) (onTc (τ := Cert.ChipDownRefIdeal.τ) (Cert.ChipDownRefIdeal.main (F := Ideal))) ⟨m, fun _ => 0, g⟩ (fun r => (∀ c : Dev Cert.ChipDownRefIdeal.nD,
      r.2.mem ((c.tc : Thread Cert.ChipDownRefIdeal.nD Cert.ChipDownRefIdeal.τ).loc Cert.ChipDownRefIdeal.main_arg0) = m ((c.tc : Thread Cert.ChipDownRefIdeal.nD Cert.ChipDownRefIdeal.τ).loc Cert.ChipDownRefIdeal.main_arg0)
      ∧ r.2.mem ((c.tc : Thread Cert.ChipDownRefIdeal.nD Cert.ChipDownRefIdeal.τ).loc Cert.ChipDownRefIdeal.main_arg1) = m ((c.tc : Thread Cert.ChipDownRefIdeal.nD Cert.ChipDownRefIdeal.τ).loc Cert.ChipDownRefIdeal.main_arg1)
      ∧ r.2.mem ((c.tc : Thread Cert.ChipDownRefIdeal.nD Cert.ChipDownRefIdeal.τ).loc Cert.ChipDownRefIdeal.main_arg2) = m ((c.tc : Thread Cert.ChipDownRefIdeal.nD Cert.ChipDownRefIdeal.τ).loc Cert.ChipDownRefIdeal.main_arg2)
      ∧ r.2.mem ((c.tc : Thread Cert.ChipDownRefIdeal.nD Cert.ChipDownRefIdeal.τ).loc Cert.ChipDownRefIdeal.main_arg3) = m ((c.tc : Thread Cert.ChipDownRefIdeal.nD Cert.ChipDownRefIdeal.τ).loc Cert.ChipDownRefIdeal.main_arg3))
      ∧ r.2.sem = fun _ => 0)

def quiescent_ChipSmall [hChipSmall : Cert.ChipSmall.Facts] [hPre_chip_named_small : Cert.Pre_chip_named_small.Facts] : Prop :=
  ∀ (m : (ℓ : Loc Cert.ChipSmall.nD Cert.ChipSmall.τ Cert.ChipSmall.sig) → Buf (Elt Bits) ℓ) (g : Dev Cert.ChipSmall.nD → PrngReg), Pre_ChipSmall m →
    θ_run (Cert.ChipSmall.defs (F := Bits)) (onTc (τ := Cert.ChipSmall.τ) (Cert.ChipSmall.main (F := Bits))) ⟨m, fun _ => 0, g⟩ (fun r => (∀ c : Dev Cert.ChipSmall.nD,
      r.2.mem ((c.tc : Thread Cert.ChipSmall.nD Cert.ChipSmall.τ).loc Cert.ChipSmall.main_arg0) = m ((c.tc : Thread Cert.ChipSmall.nD Cert.ChipSmall.τ).loc Cert.ChipSmall.main_arg0)
      ∧ r.2.mem ((c.tc : Thread Cert.ChipSmall.nD Cert.ChipSmall.τ).loc Cert.ChipSmall.main_arg1) = m ((c.tc : Thread Cert.ChipSmall.nD Cert.ChipSmall.τ).loc Cert.ChipSmall.main_arg1)
      ∧ r.2.mem ((c.tc : Thread Cert.ChipSmall.nD Cert.ChipSmall.τ).loc Cert.ChipSmall.main_arg2) = m ((c.tc : Thread Cert.ChipSmall.nD Cert.ChipSmall.τ).loc Cert.ChipSmall.main_arg2))
      ∧ r.2.sem = fun _ => 0)

def quiescent_ChipSmallIdeal [hChipSmallIdeal : Cert.ChipSmallIdeal.Facts] [hPre_chip_named_small : Cert.Pre_chip_named_small.Facts] : Prop :=
  ∀ (m : (ℓ : Loc Cert.ChipSmallIdeal.nD Cert.ChipSmallIdeal.τ Cert.ChipSmallIdeal.sig) → Buf (Elt Ideal) ℓ) (g : Dev Cert.ChipSmallIdeal.nD → PrngReg), Pre_ChipSmallIdeal m →
    θ_run (Cert.ChipSmallIdeal.defs (F := Ideal)) (onTc (τ := Cert.ChipSmallIdeal.τ) (Cert.ChipSmallIdeal.main (F := Ideal))) ⟨m, fun _ => 0, g⟩ (fun r => (∀ c : Dev Cert.ChipSmallIdeal.nD,
      r.2.mem ((c.tc : Thread Cert.ChipSmallIdeal.nD Cert.ChipSmallIdeal.τ).loc Cert.ChipSmallIdeal.main_arg0) = m ((c.tc : Thread Cert.ChipSmallIdeal.nD Cert.ChipSmallIdeal.τ).loc Cert.ChipSmallIdeal.main_arg0)
      ∧ r.2.mem ((c.tc : Thread Cert.ChipSmallIdeal.nD Cert.ChipSmallIdeal.τ).loc Cert.ChipSmallIdeal.main_arg1) = m ((c.tc : Thread Cert.ChipSmallIdeal.nD Cert.ChipSmallIdeal.τ).loc Cert.ChipSmallIdeal.main_arg1)
      ∧ r.2.mem ((c.tc : Thread Cert.ChipSmallIdeal.nD Cert.ChipSmallIdeal.τ).loc Cert.ChipSmallIdeal.main_arg2) = m ((c.tc : Thread Cert.ChipSmallIdeal.nD Cert.ChipSmallIdeal.τ).loc Cert.ChipSmallIdeal.main_arg2))
      ∧ r.2.sem = fun _ => 0)

def quiescent_ChipSmallRefIdeal [hChipSmallRefIdeal : Cert.ChipSmallRefIdeal.Facts] [hPre_chip_named_small : Cert.Pre_chip_named_small.Facts] : Prop :=
  ∀ (m : (ℓ : Loc Cert.ChipSmallRefIdeal.nD Cert.ChipSmallRefIdeal.τ Cert.ChipSmallRefIdeal.sig) → Buf (Elt Ideal) ℓ) (g : Dev Cert.ChipSmallRefIdeal.nD → PrngReg), Pre_ChipSmallRefIdeal m →
    θ_run (Cert.ChipSmallRefIdeal.defs (F := Ideal)) (onTc (τ := Cert.ChipSmallRefIdeal.τ) (Cert.ChipSmallRefIdeal.main (F := Ideal))) ⟨m, fun _ => 0, g⟩ (fun r => (∀ c : Dev Cert.ChipSmallRefIdeal.nD,
      r.2.mem ((c.tc : Thread Cert.ChipSmallRefIdeal.nD Cert.ChipSmallRefIdeal.τ).loc Cert.ChipSmallRefIdeal.main_arg0) = m ((c.tc : Thread Cert.ChipSmallRefIdeal.nD Cert.ChipSmallRefIdeal.τ).loc Cert.ChipSmallRefIdeal.main_arg0)
      ∧ r.2.mem ((c.tc : Thread Cert.ChipSmallRefIdeal.nD Cert.ChipSmallRefIdeal.τ).loc Cert.ChipSmallRefIdeal.main_arg1) = m ((c.tc : Thread Cert.ChipSmallRefIdeal.nD Cert.ChipSmallRefIdeal.τ).loc Cert.ChipSmallRefIdeal.main_arg1)
      ∧ r.2.mem ((c.tc : Thread Cert.ChipSmallRefIdeal.nD Cert.ChipSmallRefIdeal.τ).loc Cert.ChipSmallRefIdeal.main_arg2) = m ((c.tc : Thread Cert.ChipSmallRefIdeal.nD Cert.ChipSmallRefIdeal.τ).loc Cert.ChipSmallRefIdeal.main_arg2))
      ∧ r.2.sem = fun _ => 0)

def quiescent_ChipIn [hChipIn : Cert.ChipIn.Facts] [hPre_chip_named : Cert.Pre_chip_named.Facts] : Prop :=
  ∀ (m : (ℓ : Loc Cert.ChipIn.nD Cert.ChipIn.τ Cert.ChipIn.sig) → Buf (Elt Bits) ℓ) (g : Dev Cert.ChipIn.nD → PrngReg), Pre_ChipIn m →
    θ_run (Cert.ChipIn.defs (F := Bits)) (onTc (τ := Cert.ChipIn.τ) (Cert.ChipIn.main (F := Bits))) ⟨m, fun _ => 0, g⟩ (fun r => (∀ c : Dev Cert.ChipIn.nD,
      r.2.mem ((c.tc : Thread Cert.ChipIn.nD Cert.ChipIn.τ).loc Cert.ChipIn.main_arg0) = m ((c.tc : Thread Cert.ChipIn.nD Cert.ChipIn.τ).loc Cert.ChipIn.main_arg0)
      ∧ r.2.mem ((c.tc : Thread Cert.ChipIn.nD Cert.ChipIn.τ).loc Cert.ChipIn.main_arg1) = m ((c.tc : Thread Cert.ChipIn.nD Cert.ChipIn.τ).loc Cert.ChipIn.main_arg1)
      ∧ r.2.mem ((c.tc : Thread Cert.ChipIn.nD Cert.ChipIn.τ).loc Cert.ChipIn.main_arg2) = m ((c.tc : Thread Cert.ChipIn.nD Cert.ChipIn.τ).loc Cert.ChipIn.main_arg2))
      ∧ r.2.sem = fun _ => 0)

def quiescent_ChipInIdeal [hChipInIdeal : Cert.ChipInIdeal.Facts] [hPre_chip_named : Cert.Pre_chip_named.Facts] : Prop :=
  ∀ (m : (ℓ : Loc Cert.ChipInIdeal.nD Cert.ChipInIdeal.τ Cert.ChipInIdeal.sig) → Buf (Elt Ideal) ℓ) (g : Dev Cert.ChipInIdeal.nD → PrngReg), Pre_ChipInIdeal m →
    θ_run (Cert.ChipInIdeal.defs (F := Ideal)) (onTc (τ := Cert.ChipInIdeal.τ) (Cert.ChipInIdeal.main (F := Ideal))) ⟨m, fun _ => 0, g⟩ (fun r => (∀ c : Dev Cert.ChipInIdeal.nD,
      r.2.mem ((c.tc : Thread Cert.ChipInIdeal.nD Cert.ChipInIdeal.τ).loc Cert.ChipInIdeal.main_arg0) = m ((c.tc : Thread Cert.ChipInIdeal.nD Cert.ChipInIdeal.τ).loc Cert.ChipInIdeal.main_arg0)
      ∧ r.2.mem ((c.tc : Thread Cert.ChipInIdeal.nD Cert.ChipInIdeal.τ).loc Cert.ChipInIdeal.main_arg1) = m ((c.tc : Thread Cert.ChipInIdeal.nD Cert.ChipInIdeal.τ).loc Cert.ChipInIdeal.main_arg1)
      ∧ r.2.mem ((c.tc : Thread Cert.ChipInIdeal.nD Cert.ChipInIdeal.τ).loc Cert.ChipInIdeal.main_arg2) = m ((c.tc : Thread Cert.ChipInIdeal.nD Cert.ChipInIdeal.τ).loc Cert.ChipInIdeal.main_arg2))
      ∧ r.2.sem = fun _ => 0)

def quiescent_ChipInRefIdeal [hChipInRefIdeal : Cert.ChipInRefIdeal.Facts] [hPre_chip_named : Cert.Pre_chip_named.Facts] : Prop :=
  ∀ (m : (ℓ : Loc Cert.ChipInRefIdeal.nD Cert.ChipInRefIdeal.τ Cert.ChipInRefIdeal.sig) → Buf (Elt Ideal) ℓ) (g : Dev Cert.ChipInRefIdeal.nD → PrngReg), Pre_ChipInRefIdeal m →
    θ_run (Cert.ChipInRefIdeal.defs (F := Ideal)) (onTc (τ := Cert.ChipInRefIdeal.τ) (Cert.ChipInRefIdeal.main (F := Ideal))) ⟨m, fun _ => 0, g⟩ (fun r => (∀ c : Dev Cert.ChipInRefIdeal.nD,
      r.2.mem ((c.tc : Thread Cert.ChipInRefIdeal.nD Cert.ChipInRefIdeal.τ).loc Cert.ChipInRefIdeal.main_arg0) = m ((c.tc : Thread Cert.ChipInRefIdeal.nD Cert.ChipInRefIdeal.τ).loc Cert.ChipInRefIdeal.main_arg0)
      ∧ r.2.mem ((c.tc : Thread Cert.ChipInRefIdeal.nD Cert.ChipInRefIdeal.τ).loc Cert.ChipInRefIdeal.main_arg1) = m ((c.tc : Thread Cert.ChipInRefIdeal.nD Cert.ChipInRefIdeal.τ).loc Cert.ChipInRefIdeal.main_arg1)
      ∧ r.2.mem ((c.tc : Thread Cert.ChipInRefIdeal.nD Cert.ChipInRefIdeal.τ).loc Cert.ChipInRefIdeal.main_arg2) = m ((c.tc : Thread Cert.ChipInRefIdeal.nD Cert.ChipInRefIdeal.τ).loc Cert.ChipInRefIdeal.main_arg2))
      ∧ r.2.sem = fun _ => 0)

def preserves_Kernel_KernelIdeal : Prop :=
  IdealRules.named_const.Statement Cert.KernelIdeal.κ "mask" .f32 0xF149F2CA#32 ⊥

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v7) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v7) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_v10) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)) →
    ∃ (v0 : (c : Dev Cert.FfnBwdIdeal.nD) → Buf (Elt Ideal) ((c.tc : Thread Cert.FfnBwdIdeal.nD Cert.FfnBwdIdeal.τ).loc Cert.FfnBwdIdeal.main_v0)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0) = v0 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v15) = v0 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)) (v4 : (c : Dev Cert.MidIdeal.nD) → Buf (Elt Ideal) ((c.tc : Thread Cert.MidIdeal.nD Cert.MidIdeal.τ).loc Cert.MidIdeal.main_v0_4)) (v5 : (c : Dev Cert.MidIdeal.nD) → Buf (Elt Ideal) ((c.tc : Thread Cert.MidIdeal.nD Cert.MidIdeal.τ).loc Cert.MidIdeal.main_v0_5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_v0_4) = v4 c
          ∧ r.2.mem ((c.tc : Thread Cert.MidIdeal.nD Cert.MidIdeal.τ).loc Cert.MidIdeal.main_v0_5) = v5 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v54) = v0 c
          ∧ r.2.mem ((c.tc : Thread Cert.MidRefIdeal.nD Cert.MidRefIdeal.τ).loc Cert.MidRefIdeal.main_v63) = v1 c
          ∧ r.2.mem ((c.tc : Thread Cert.MidRefIdeal.nD Cert.MidRefIdeal.τ).loc Cert.MidRefIdeal.main_v29) = v2 c
          ∧ r.2.mem ((c.tc : Thread Cert.MidRefIdeal.nD Cert.MidRefIdeal.τ).loc Cert.MidRefIdeal.main_v32) = v3 c
          ∧ r.2.mem ((c.tc : Thread Cert.MidRefIdeal.nD Cert.MidRefIdeal.τ).loc Cert.MidRefIdeal.main_v37) = v4 c
          ∧ r.2.mem ((c.tc : Thread Cert.MidRefIdeal.nD Cert.MidRefIdeal.τ).loc Cert.MidRefIdeal.main_v62) = v5 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v0_0)) (v1 : (c : Dev Cert.FirstIdeal.nD) → Buf (Elt Ideal) ((c.tc : Thread Cert.FirstIdeal.nD Cert.FirstIdeal.τ).loc Cert.FirstIdeal.main_v0_1)) (v2 : (c : Dev Cert.FirstIdeal.nD) → Buf (Elt Ideal) ((c.tc : Thread Cert.FirstIdeal.nD Cert.FirstIdeal.τ).loc Cert.FirstIdeal.main_v0_2)) (v3 : (c : Dev Cert.FirstIdeal.nD) → Buf (Elt Ideal) ((c.tc : Thread Cert.FirstIdeal.nD Cert.FirstIdeal.τ).loc Cert.FirstIdeal.main_v0_3)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0_0) = v0 c
          ∧ r.2.mem ((c.tc : Thread Cert.FirstIdeal.nD Cert.FirstIdeal.τ).loc Cert.FirstIdeal.main_v0_1) = v1 c
          ∧ r.2.mem ((c.tc : Thread Cert.FirstIdeal.nD Cert.FirstIdeal.τ).loc Cert.FirstIdeal.main_v0_2) = v2 c
          ∧ r.2.mem ((c.tc : Thread Cert.FirstIdeal.nD Cert.FirstIdeal.τ).loc Cert.FirstIdeal.main_v0_3) = v3 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v54) = v0 c
          ∧ r.2.mem ((c.tc : Thread Cert.FirstRefIdeal.nD Cert.FirstRefIdeal.τ).loc Cert.FirstRefIdeal.main_v29) = v1 c
          ∧ r.2.mem ((c.tc : Thread Cert.FirstRefIdeal.nD Cert.FirstRefIdeal.τ).loc Cert.FirstRefIdeal.main_v32) = v2 c
          ∧ r.2.mem ((c.tc : Thread Cert.FirstRefIdeal.nD Cert.FirstRefIdeal.τ).loc Cert.FirstRefIdeal.main_v37) = v3 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6))

def preserves_AdamBAda_AdamBAdaIdeal : Prop :=
  True

def algebraic_AdamBAdaIdeal_AdamBAdaRefIdeal [hAdamBAdaIdeal : Cert.AdamBAdaIdeal.Facts] [hAdamBAdaRefIdeal : Cert.AdamBAdaRefIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg)
    (m' : (ℓ : Loc Cert.AdamBAdaRefIdeal.nD Cert.AdamBAdaRefIdeal.τ Cert.AdamBAdaRefIdeal.sig) → Buf (Elt Ideal) ℓ) (g' : Dev Cert.AdamBAdaRefIdeal.nD → PrngReg), Pre_AdamBAdaIdeal m →
    (∀ c : Dev Cert.AdamBAdaIdeal.nD,
      m' ((c.tc : Thread Cert.AdamBAdaRefIdeal.nD Cert.AdamBAdaRefIdeal.τ).loc Cert.AdamBAdaRefIdeal.main_arg0) = m ((c.tc : Thread Cert.AdamBAdaIdeal.nD Cert.AdamBAdaIdeal.τ).loc Cert.AdamBAdaIdeal.main_arg0)
      ∧ m' ((c.tc : Thread Cert.AdamBAdaRefIdeal.nD Cert.AdamBAdaRefIdeal.τ).loc Cert.AdamBAdaRefIdeal.main_arg1) = m ((c.tc : Thread Cert.AdamBAdaIdeal.nD Cert.AdamBAdaIdeal.τ).loc Cert.AdamBAdaIdeal.main_arg1)
      ∧ m' ((c.tc : Thread Cert.AdamBAdaRefIdeal.nD Cert.AdamBAdaRefIdeal.τ).loc Cert.AdamBAdaRefIdeal.main_arg2) = m ((c.tc : Thread Cert.AdamBAdaIdeal.nD Cert.AdamBAdaIdeal.τ).loc Cert.AdamBAdaIdeal.main_arg2)
      ∧ m' ((c.tc : Thread Cert.AdamBAdaRefIdeal.nD Cert.AdamBAdaRefIdeal.τ).loc Cert.AdamBAdaRefIdeal.main_arg3) = m ((c.tc : Thread Cert.AdamBAdaIdeal.nD Cert.AdamBAdaIdeal.τ).loc Cert.AdamBAdaIdeal.main_arg3)) →
    ∃ (v0 : (c : Dev Cert.AdamBAdaIdeal.nD) → Buf (Elt Ideal) ((c.tc : Thread Cert.AdamBAdaIdeal.nD Cert.AdamBAdaIdeal.τ).loc Cert.AdamBAdaIdeal.main_v0_0)) (v1 : (c : Dev Cert.AdamBAdaIdeal.nD) → Buf (Elt Ideal) ((c.tc : Thread Cert.AdamBAdaIdeal.nD Cert.AdamBAdaIdeal.τ).loc Cert.AdamBAdaIdeal.main_v0_1)) (v2 : (c : Dev Cert.AdamBAdaIdeal.nD) → Buf (Elt Ideal) ((c.tc : Thread Cert.AdamBAdaIdeal.nD Cert.AdamBAdaIdeal.τ).loc Cert.AdamBAdaIdeal.main_v0_2)),
      θ_run (Cert.AdamBAdaIdeal.defs (F := Ideal)) (onTc (τ := Cert.AdamBAdaIdeal.τ) (Cert.AdamBAdaIdeal.main (F := Ideal))) ⟨m, fun _ => 0, g⟩ (fun r => ∀ c : Dev Cert.AdamBAdaIdeal.nD,
          r.2.mem ((c.tc : Thread Cert.AdamBAdaIdeal.nD Cert.AdamBAdaIdeal.τ).loc Cert.AdamBAdaIdeal.main_v0_0) = v0 c
          ∧ r.2.mem ((c.tc : Thread Cert.AdamBAdaIdeal.nD Cert.AdamBAdaIdeal.τ).loc Cert.AdamBAdaIdeal.main_v0_1) = v1 c
          ∧ r.2.mem ((c.tc : Thread Cert.AdamBAdaIdeal.nD Cert.AdamBAdaIdeal.τ).loc Cert.AdamBAdaIdeal.main_v0_2) = v2 c
          ∧ r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
          ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
          ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
          ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ θ_run (Cert.AdamBAdaRefIdeal.defs (F := Ideal)) (onTc (τ := Cert.AdamBAdaRefIdeal.τ) (Cert.AdamBAdaRefIdeal.main (F := Ideal))) ⟨m', fun _ => 0, g'⟩ (fun r => ∀ c : Dev Cert.AdamBAdaRefIdeal.nD,
          r.2.mem ((c.tc : Thread Cert.AdamBAdaRefIdeal.nD Cert.AdamBAdaRefIdeal.τ).loc Cert.AdamBAdaRefIdeal.main_v23) = v0 c
          ∧ r.2.mem ((c.tc : Thread Cert.AdamBAdaRefIdeal.nD Cert.AdamBAdaRefIdeal.τ).loc Cert.AdamBAdaRefIdeal.main_v4) = v1 c
          ∧ r.2.mem ((c.tc : Thread Cert.AdamBAdaRefIdeal.nD Cert.AdamBAdaRefIdeal.τ).loc Cert.AdamBAdaRefIdeal.main_v10) = v2 c
          ∧ r.2.mem ((c.tc : Thread Cert.AdamBAdaRefIdeal.nD Cert.AdamBAdaRefIdeal.τ).loc Cert.AdamBAdaRefIdeal.main_arg0) = m' ((c.tc : Thread Cert.AdamBAdaRefIdeal.nD Cert.AdamBAdaRefIdeal.τ).loc Cert.AdamBAdaRefIdeal.main_arg0)
          ∧ r.2.mem ((c.tc : Thread Cert.AdamBAdaRefIdeal.nD Cert.AdamBAdaRefIdeal.τ).loc Cert.AdamBAdaRefIdeal.main_arg1) = m' ((c.tc : Thread Cert.AdamBAdaRefIdeal.nD Cert.AdamBAdaRefIdeal.τ).loc Cert.AdamBAdaRefIdeal.main_arg1)
          ∧ r.2.mem ((c.tc : Thread Cert.AdamBAdaRefIdeal.nD Cert.AdamBAdaRefIdeal.τ).loc Cert.AdamBAdaRefIdeal.main_arg2) = m' ((c.tc : Thread Cert.AdamBAdaRefIdeal.nD Cert.AdamBAdaRefIdeal.τ).loc Cert.AdamBAdaRefIdeal.main_arg2)
          ∧ r.2.mem ((c.tc : Thread Cert.AdamBAdaRefIdeal.nD Cert.AdamBAdaRefIdeal.τ).loc Cert.AdamBAdaRefIdeal.main_arg3) = m' ((c.tc : Thread Cert.AdamBAdaRefIdeal.nD Cert.AdamBAdaRefIdeal.τ).loc Cert.AdamBAdaRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamFgate_AdamFgateIdeal : Prop :=
  True

def algebraic_AdamFgateIdeal_AdamFgateRefIdeal [hAdamFgateIdeal : Cert.AdamFgateIdeal.Facts] [hAdamFgateRefIdeal : Cert.AdamFgateRefIdeal.Facts] : Prop :=
  ∀ (m : (ℓ : Loc Cert.AdamFgateIdeal.nD Cert.AdamFgateIdeal.τ Cert.AdamFgateIdeal.sig) → Buf (Elt Ideal) ℓ) (g : Dev Cert.AdamFgateIdeal.nD → PrngReg)
    (m' : (ℓ : Loc Cert.AdamFgateRefIdeal.nD Cert.AdamFgateRefIdeal.τ Cert.AdamFgateRefIdeal.sig) → Buf (Elt Ideal) ℓ) (g' : Dev Cert.AdamFgateRefIdeal.nD → PrngReg), Pre_AdamFgateIdeal m →
    (∀ c : Dev Cert.AdamFgateIdeal.nD,
      m' ((c.tc : Thread Cert.AdamFgateRefIdeal.nD Cert.AdamFgateRefIdeal.τ).loc Cert.AdamFgateRefIdeal.main_arg0) = m ((c.tc : Thread Cert.AdamFgateIdeal.nD Cert.AdamFgateIdeal.τ).loc Cert.AdamFgateIdeal.main_arg0)
      ∧ m' ((c.tc : Thread Cert.AdamFgateRefIdeal.nD Cert.AdamFgateRefIdeal.τ).loc Cert.AdamFgateRefIdeal.main_arg1) = m ((c.tc : Thread Cert.AdamFgateIdeal.nD Cert.AdamFgateIdeal.τ).loc Cert.AdamFgateIdeal.main_arg1)
      ∧ m' ((c.tc : Thread Cert.AdamFgateRefIdeal.nD Cert.AdamFgateRefIdeal.τ).loc Cert.AdamFgateRefIdeal.main_arg2) = m ((c.tc : Thread Cert.AdamFgateIdeal.nD Cert.AdamFgateIdeal.τ).loc Cert.AdamFgateIdeal.main_arg2)
      ∧ m' ((c.tc : Thread Cert.AdamFgateRefIdeal.nD Cert.AdamFgateRefIdeal.τ).loc Cert.AdamFgateRefIdeal.main_arg3) = m ((c.tc : Thread Cert.AdamFgateIdeal.nD Cert.AdamFgateIdeal.τ).loc Cert.AdamFgateIdeal.main_arg3)) →
    ∃ (v0 : (c : Dev Cert.AdamFgateIdeal.nD) → Buf (Elt Ideal) ((c.tc : Thread Cert.AdamFgateIdeal.nD Cert.AdamFgateIdeal.τ).loc Cert.AdamFgateIdeal.main_v0_0)) (v1 : (c : Dev Cert.AdamFgateIdeal.nD) → Buf (Elt Ideal) ((c.tc : Thread Cert.AdamFgateIdeal.nD Cert.AdamFgateIdeal.τ).loc Cert.AdamFgateIdeal.main_v0_1)) (v2 : (c : Dev Cert.AdamFgateIdeal.nD) → Buf (Elt Ideal) ((c.tc : Thread Cert.AdamFgateIdeal.nD Cert.AdamFgateIdeal.τ).loc Cert.AdamFgateIdeal.main_v0_2)),
      θ_run (Cert.AdamFgateIdeal.defs (F := Ideal)) (onTc (τ := Cert.AdamFgateIdeal.τ) (Cert.AdamFgateIdeal.main (F := Ideal))) ⟨m, fun _ => 0, g⟩ (fun r => ∀ c : Dev Cert.AdamFgateIdeal.nD,
          r.2.mem ((c.tc : Thread Cert.AdamFgateIdeal.nD Cert.AdamFgateIdeal.τ).loc Cert.AdamFgateIdeal.main_v0_0) = v0 c
          ∧ r.2.mem ((c.tc : Thread Cert.AdamFgateIdeal.nD Cert.AdamFgateIdeal.τ).loc Cert.AdamFgateIdeal.main_v0_1) = v1 c
          ∧ r.2.mem ((c.tc : Thread Cert.AdamFgateIdeal.nD Cert.AdamFgateIdeal.τ).loc Cert.AdamFgateIdeal.main_v0_2) = v2 c
          ∧ r.2.mem ((c.tc : Thread Cert.AdamFgateIdeal.nD Cert.AdamFgateIdeal.τ).loc Cert.AdamFgateIdeal.main_arg0) = m ((c.tc : Thread Cert.AdamFgateIdeal.nD Cert.AdamFgateIdeal.τ).loc Cert.AdamFgateIdeal.main_arg0)
          ∧ r.2.mem ((c.tc : Thread Cert.AdamFgateIdeal.nD Cert.AdamFgateIdeal.τ).loc Cert.AdamFgateIdeal.main_arg1) = m ((c.tc : Thread Cert.AdamFgateIdeal.nD Cert.AdamFgateIdeal.τ).loc Cert.AdamFgateIdeal.main_arg1)
          ∧ r.2.mem ((c.tc : Thread Cert.AdamFgateIdeal.nD Cert.AdamFgateIdeal.τ).loc Cert.AdamFgateIdeal.main_arg2) = m ((c.tc : Thread Cert.AdamFgateIdeal.nD Cert.AdamFgateIdeal.τ).loc Cert.AdamFgateIdeal.main_arg2)
          ∧ r.2.mem ((c.tc : Thread Cert.AdamFgateIdeal.nD Cert.AdamFgateIdeal.τ).loc Cert.AdamFgateIdeal.main_arg3) = m ((c.tc : Thread Cert.AdamFgateIdeal.nD Cert.AdamFgateIdeal.τ).loc Cert.AdamFgateIdeal.main_arg3))
      ∧ θ_run (Cert.AdamFgateRefIdeal.defs (F := Ideal)) (onTc (τ := Cert.AdamFgateRefIdeal.τ) (Cert.AdamFgateRefIdeal.main (F := Ideal))) ⟨m', fun _ => 0, g'⟩ (fun r => ∀ c : Dev Cert.AdamFgateRefIdeal.nD,
          r.2.mem ((c.tc : Thread Cert.AdamFgateRefIdeal.nD Cert.AdamFgateRefIdeal.τ).loc Cert.AdamFgateRefIdeal.main_v23) = v0 c
          ∧ r.2.mem ((c.tc : Thread Cert.AdamFgateRefIdeal.nD Cert.AdamFgateRefIdeal.τ).loc Cert.AdamFgateRefIdeal.main_v4) = v1 c
          ∧ r.2.mem ((c.tc : Thread Cert.AdamFgateRefIdeal.nD Cert.AdamFgateRefIdeal.τ).loc Cert.AdamFgateRefIdeal.main_v10) = v2 c
          ∧ r.2.mem ((c.tc : Thread Cert.AdamFgateRefIdeal.nD Cert.AdamFgateRefIdeal.τ).loc Cert.AdamFgateRefIdeal.main_arg0) = m' ((c.tc : Thread Cert.AdamFgateRefIdeal.nD Cert.AdamFgateRefIdeal.τ).loc Cert.AdamFgateRefIdeal.main_arg0)
          ∧ r.2.mem ((c.tc : Thread Cert.AdamFgateRefIdeal.nD Cert.AdamFgateRefIdeal.τ).loc Cert.AdamFgateRefIdeal.main_arg1) = m' ((c.tc : Thread Cert.AdamFgateRefIdeal.nD Cert.AdamFgateRefIdeal.τ).loc Cert.AdamFgateRefIdeal.main_arg1)
          ∧ r.2.mem ((c.tc : Thread Cert.AdamFgateRefIdeal.nD Cert.AdamFgateRefIdeal.τ).loc Cert.AdamFgateRefIdeal.main_arg2) = m' ((c.tc : Thread Cert.AdamFgateRefIdeal.nD Cert.AdamFgateRefIdeal.τ).loc Cert.AdamFgateRefIdeal.main_arg2)
          ∧ r.2.mem ((c.tc : Thread Cert.AdamFgateRefIdeal.nD Cert.AdamFgateRefIdeal.τ).loc Cert.AdamFgateRefIdeal.main_arg3) = m' ((c.tc : Thread Cert.AdamFgateRefIdeal.nD Cert.AdamFgateRefIdeal.τ).loc Cert.AdamFgateRefIdeal.main_arg3))

def preserves_AdamBrA_AdamBrAIdeal : Prop :=
  True

def algebraic_AdamBrAIdeal_AdamBrARefIdeal [hAdamBrAIdeal : Cert.AdamBrAIdeal.Facts] [hAdamBrARefIdeal : Cert.AdamBrARefIdeal.Facts] : Prop :=
  ∀ (m : (ℓ : Loc Cert.AdamBrAIdeal.nD Cert.AdamBrAIdeal.τ Cert.AdamBrAIdeal.sig) → Buf (Elt Ideal) ℓ) (g : Dev Cert.AdamBrAIdeal.nD → PrngReg)
    (m' : (ℓ : Loc Cert.AdamBrARefIdeal.nD Cert.AdamBrARefIdeal.τ Cert.AdamBrARefIdeal.sig) → Buf (Elt Ideal) ℓ) (g' : Dev Cert.AdamBrARefIdeal.nD → PrngReg), Pre_AdamBrAIdeal m →
    (∀ c : Dev Cert.AdamBrAIdeal.nD,
      m' ((c.tc : Thread Cert.AdamBrARefIdeal.nD Cert.AdamBrARefIdeal.τ).loc Cert.AdamBrARefIdeal.main_arg0) = m ((c.tc : Thread Cert.AdamBrAIdeal.nD Cert.AdamBrAIdeal.τ).loc Cert.AdamBrAIdeal.main_arg0)
      ∧ m' ((c.tc : Thread Cert.AdamBrARefIdeal.nD Cert.AdamBrARefIdeal.τ).loc Cert.AdamBrARefIdeal.main_arg1) = m ((c.tc : Thread Cert.AdamBrAIdeal.nD Cert.AdamBrAIdeal.τ).loc Cert.AdamBrAIdeal.main_arg1)
      ∧ m' ((c.tc : Thread Cert.AdamBrARefIdeal.nD Cert.AdamBrARefIdeal.τ).loc Cert.AdamBrARefIdeal.main_arg2) = m ((c.tc : Thread Cert.AdamBrAIdeal.nD Cert.AdamBrAIdeal.τ).loc Cert.AdamBrAIdeal.main_arg2)
      ∧ m' ((c.tc : Thread Cert.AdamBrARefIdeal.nD Cert.AdamBrARefIdeal.τ).loc Cert.AdamBrARefIdeal.main_arg3) = m ((c.tc : Thread Cert.AdamBrAIdeal.nD Cert.AdamBrAIdeal.τ).loc Cert.AdamBrAIdeal.main_arg3)) →
    ∃ (v0 : (c : Dev Cert.AdamBrAIdeal.nD) → Buf (Elt Ideal) ((c.tc : Thread Cert.AdamBrAIdeal.nD Cert.AdamBrAIdeal.τ).loc Cert.AdamBrAIdeal.main_v0_0)) (v1 : (c : Dev Cert.AdamBrAIdeal.nD) → Buf (Elt Ideal) ((c.tc : Thread Cert.AdamBrAIdeal.nD Cert.AdamBrAIdeal.τ).loc Cert.AdamBrAIdeal.main_v0_1)) (v2 : (c : Dev Cert.AdamBrAIdeal.nD) → Buf (Elt Ideal) ((c.tc : Thread Cert.AdamBrAIdeal.nD Cert.AdamBrAIdeal.τ).loc Cert.AdamBrAIdeal.main_v0_2)),
      θ_run (Cert.AdamBrAIdeal.defs (F := Ideal)) (onTc (τ := Cert.AdamBrAIdeal.τ) (Cert.AdamBrAIdeal.main (F := Ideal))) ⟨m, fun _ => 0, g⟩ (fun r => ∀ c : Dev Cert.AdamBrAIdeal.nD,
          r.2.mem ((c.tc : Thread Cert.AdamBrAIdeal.nD Cert.AdamBrAIdeal.τ).loc Cert.AdamBrAIdeal.main_v0_0) = v0 c
          ∧ r.2.mem ((c.tc : Thread Cert.AdamBrAIdeal.nD Cert.AdamBrAIdeal.τ).loc Cert.AdamBrAIdeal.main_v0_1) = v1 c
          ∧ r.2.mem ((c.tc : Thread Cert.AdamBrAIdeal.nD Cert.AdamBrAIdeal.τ).loc Cert.AdamBrAIdeal.main_v0_2) = v2 c
          ∧ r.2.mem ((c.tc : Thread Cert.AdamBrAIdeal.nD Cert.AdamBrAIdeal.τ).loc Cert.AdamBrAIdeal.main_arg0) = m ((c.tc : Thread Cert.AdamBrAIdeal.nD Cert.AdamBrAIdeal.τ).loc Cert.AdamBrAIdeal.main_arg0)
          ∧ r.2.mem ((c.tc : Thread Cert.AdamBrAIdeal.nD Cert.AdamBrAIdeal.τ).loc Cert.AdamBrAIdeal.main_arg1) = m ((c.tc : Thread Cert.AdamBrAIdeal.nD Cert.AdamBrAIdeal.τ).loc Cert.AdamBrAIdeal.main_arg1)
          ∧ r.2.mem ((c.tc : Thread Cert.AdamBrAIdeal.nD Cert.AdamBrAIdeal.τ).loc Cert.AdamBrAIdeal.main_arg2) = m ((c.tc : Thread Cert.AdamBrAIdeal.nD Cert.AdamBrAIdeal.τ).loc Cert.AdamBrAIdeal.main_arg2)
          ∧ r.2.mem ((c.tc : Thread Cert.AdamBrAIdeal.nD Cert.AdamBrAIdeal.τ).loc Cert.AdamBrAIdeal.main_arg3) = m ((c.tc : Thread Cert.AdamBrAIdeal.nD Cert.AdamBrAIdeal.τ).loc Cert.AdamBrAIdeal.main_arg3))
      ∧ θ_run (Cert.AdamBrARefIdeal.defs (F := Ideal)) (onTc (τ := Cert.AdamBrARefIdeal.τ) (Cert.AdamBrARefIdeal.main (F := Ideal))) ⟨m', fun _ => 0, g'⟩ (fun r => ∀ c : Dev Cert.AdamBrARefIdeal.nD,
          r.2.mem ((c.tc : Thread Cert.AdamBrARefIdeal.nD Cert.AdamBrARefIdeal.τ).loc Cert.AdamBrARefIdeal.main_v23) = v0 c
          ∧ r.2.mem ((c.tc : Thread Cert.AdamBrARefIdeal.nD Cert.AdamBrARefIdeal.τ).loc Cert.AdamBrARefIdeal.main_v4) = v1 c
          ∧ r.2.mem ((c.tc : Thread Cert.AdamBrARefIdeal.nD Cert.AdamBrARefIdeal.τ).loc Cert.AdamBrARefIdeal.main_v10) = v2 c
          ∧ r.2.mem ((c.tc : Thread Cert.AdamBrARefIdeal.nD Cert.AdamBrARefIdeal.τ).loc Cert.AdamBrARefIdeal.main_arg0) = m' ((c.tc : Thread Cert.AdamBrARefIdeal.nD Cert.AdamBrARefIdeal.τ).loc Cert.AdamBrARefIdeal.main_arg0)
          ∧ r.2.mem ((c.tc : Thread Cert.AdamBrARefIdeal.nD Cert.AdamBrARefIdeal.τ).loc Cert.AdamBrARefIdeal.main_arg1) = m' ((c.tc : Thread Cert.AdamBrARefIdeal.nD Cert.AdamBrARefIdeal.τ).loc Cert.AdamBrARefIdeal.main_arg1)
          ∧ r.2.mem ((c.tc : Thread Cert.AdamBrARefIdeal.nD Cert.AdamBrARefIdeal.τ).loc Cert.AdamBrARefIdeal.main_arg2) = m' ((c.tc : Thread Cert.AdamBrARefIdeal.nD Cert.AdamBrARefIdeal.τ).loc Cert.AdamBrARefIdeal.main_arg2)
          ∧ r.2.mem ((c.tc : Thread Cert.AdamBrARefIdeal.nD Cert.AdamBrARefIdeal.τ).loc Cert.AdamBrARefIdeal.main_arg3) = m' ((c.tc : Thread Cert.AdamBrARefIdeal.nD Cert.AdamBrARefIdeal.τ).loc Cert.AdamBrARefIdeal.main_arg3))

def preserves_AdamBrB_AdamBrBIdeal : Prop :=
  True

def algebraic_AdamBrBIdeal_AdamBrBRefIdeal [hAdamBrBIdeal : Cert.AdamBrBIdeal.Facts] [hAdamBrBRefIdeal : Cert.AdamBrBRefIdeal.Facts] : Prop :=
  ∀ (m : (ℓ : Loc Cert.AdamBrBIdeal.nD Cert.AdamBrBIdeal.τ Cert.AdamBrBIdeal.sig) → Buf (Elt Ideal) ℓ) (g : Dev Cert.AdamBrBIdeal.nD → PrngReg)
    (m' : (ℓ : Loc Cert.AdamBrBRefIdeal.nD Cert.AdamBrBRefIdeal.τ Cert.AdamBrBRefIdeal.sig) → Buf (Elt Ideal) ℓ) (g' : Dev Cert.AdamBrBRefIdeal.nD → PrngReg), Pre_AdamBrBIdeal m →
    (∀ c : Dev Cert.AdamBrBIdeal.nD,
      m' ((c.tc : Thread Cert.AdamBrBRefIdeal.nD Cert.AdamBrBRefIdeal.τ).loc Cert.AdamBrBRefIdeal.main_arg0) = m ((c.tc : Thread Cert.AdamBrBIdeal.nD Cert.AdamBrBIdeal.τ).loc Cert.AdamBrBIdeal.main_arg0)
      ∧ m' ((c.tc : Thread Cert.AdamBrBRefIdeal.nD Cert.AdamBrBRefIdeal.τ).loc Cert.AdamBrBRefIdeal.main_arg1) = m ((c.tc : Thread Cert.AdamBrBIdeal.nD Cert.AdamBrBIdeal.τ).loc Cert.AdamBrBIdeal.main_arg1)
      ∧ m' ((c.tc : Thread Cert.AdamBrBRefIdeal.nD Cert.AdamBrBRefIdeal.τ).loc Cert.AdamBrBRefIdeal.main_arg2) = m ((c.tc : Thread Cert.AdamBrBIdeal.nD Cert.AdamBrBIdeal.τ).loc Cert.AdamBrBIdeal.main_arg2)
      ∧ m' ((c.tc : Thread Cert.AdamBrBRefIdeal.nD Cert.AdamBrBRefIdeal.τ).loc Cert.AdamBrBRefIdeal.main_arg3) = m ((c.tc : Thread Cert.AdamBrBIdeal.nD Cert.AdamBrBIdeal.τ).loc Cert.AdamBrBIdeal.main_arg3)) →
    ∃ (v0 : (c : Dev Cert.AdamBrBIdeal.nD) → Buf (Elt Ideal) ((c.tc : Thread Cert.AdamBrBIdeal.nD Cert.AdamBrBIdeal.τ).loc Cert.AdamBrBIdeal.main_v0_0)) (v1 : (c : Dev Cert.AdamBrBIdeal.nD) → Buf (Elt Ideal) ((c.tc : Thread Cert.AdamBrBIdeal.nD Cert.AdamBrBIdeal.τ).loc Cert.AdamBrBIdeal.main_v0_1)) (v2 : (c : Dev Cert.AdamBrBIdeal.nD) → Buf (Elt Ideal) ((c.tc : Thread Cert.AdamBrBIdeal.nD Cert.AdamBrBIdeal.τ).loc Cert.AdamBrBIdeal.main_v0_2)),
      θ_run (Cert.AdamBrBIdeal.defs (F := Ideal)) (onTc (τ := Cert.AdamBrBIdeal.τ) (Cert.AdamBrBIdeal.main (F := Ideal))) ⟨m, fun _ => 0, g⟩ (fun r => ∀ c : Dev Cert.AdamBrBIdeal.nD,
          r.2.mem ((c.tc : Thread Cert.AdamBrBIdeal.nD Cert.AdamBrBIdeal.τ).loc Cert.AdamBrBIdeal.main_v0_0) = v0 c
          ∧ r.2.mem ((c.tc : Thread Cert.AdamBrBIdeal.nD Cert.AdamBrBIdeal.τ).loc Cert.AdamBrBIdeal.main_v0_1) = v1 c
          ∧ r.2.mem ((c.tc : Thread Cert.AdamBrBIdeal.nD Cert.AdamBrBIdeal.τ).loc Cert.AdamBrBIdeal.main_v0_2) = v2 c
          ∧ r.2.mem ((c.tc : Thread Cert.AdamBrBIdeal.nD Cert.AdamBrBIdeal.τ).loc Cert.AdamBrBIdeal.main_arg0) = m ((c.tc : Thread Cert.AdamBrBIdeal.nD Cert.AdamBrBIdeal.τ).loc Cert.AdamBrBIdeal.main_arg0)
          ∧ r.2.mem ((c.tc : Thread Cert.AdamBrBIdeal.nD Cert.AdamBrBIdeal.τ).loc Cert.AdamBrBIdeal.main_arg1) = m ((c.tc : Thread Cert.AdamBrBIdeal.nD Cert.AdamBrBIdeal.τ).loc Cert.AdamBrBIdeal.main_arg1)
          ∧ r.2.mem ((c.tc : Thread Cert.AdamBrBIdeal.nD Cert.AdamBrBIdeal.τ).loc Cert.AdamBrBIdeal.main_arg2) = m ((c.tc : Thread Cert.AdamBrBIdeal.nD Cert.AdamBrBIdeal.τ).loc Cert.AdamBrBIdeal.main_arg2)
          ∧ r.2.mem ((c.tc : Thread Cert.AdamBrBIdeal.nD Cert.AdamBrBIdeal.τ).loc Cert.AdamBrBIdeal.main_arg3) = m ((c.tc : Thread Cert.AdamBrBIdeal.nD Cert.AdamBrBIdeal.τ).loc Cert.AdamBrBIdeal.main_arg3))
      ∧ θ_run (Cert.AdamBrBRefIdeal.defs (F := Ideal)) (onTc (τ := Cert.AdamBrBRefIdeal.τ) (Cert.AdamBrBRefIdeal.main (F := Ideal))) ⟨m', fun _ => 0, g'⟩ (fun r => ∀ c : Dev Cert.AdamBrBRefIdeal.nD,
          r.2.mem ((c.tc : Thread Cert.AdamBrBRefIdeal.nD Cert.AdamBrBRefIdeal.τ).loc Cert.AdamBrBRefIdeal.main_v23) = v0 c
          ∧ r.2.mem ((c.tc : Thread Cert.AdamBrBRefIdeal.nD Cert.AdamBrBRefIdeal.τ).loc Cert.AdamBrBRefIdeal.main_v4) = v1 c
          ∧ r.2.mem ((c.tc : Thread Cert.AdamBrBRefIdeal.nD Cert.AdamBrBRefIdeal.τ).loc Cert.AdamBrBRefIdeal.main_v10) = v2 c
          ∧ r.2.mem ((c.tc : Thread Cert.AdamBrBRefIdeal.nD Cert.AdamBrBRefIdeal.τ).loc Cert.AdamBrBRefIdeal.main_arg0) = m' ((c.tc : Thread Cert.AdamBrBRefIdeal.nD Cert.AdamBrBRefIdeal.τ).loc Cert.AdamBrBRefIdeal.main_arg0)
          ∧ r.2.mem ((c.tc : Thread Cert.AdamBrBRefIdeal.nD Cert.AdamBrBRefIdeal.τ).loc Cert.AdamBrBRefIdeal.main_arg1) = m' ((c.tc : Thread Cert.AdamBrBRefIdeal.nD Cert.AdamBrBRefIdeal.τ).loc Cert.AdamBrBRefIdeal.main_arg1)
          ∧ r.2.mem ((c.tc : Thread Cert.AdamBrBRefIdeal.nD Cert.AdamBrBRefIdeal.τ).loc Cert.AdamBrBRefIdeal.main_arg2) = m' ((c.tc : Thread Cert.AdamBrBRefIdeal.nD Cert.AdamBrBRefIdeal.τ).loc Cert.AdamBrBRefIdeal.main_arg2)
          ∧ r.2.mem ((c.tc : Thread Cert.AdamBrBRefIdeal.nD Cert.AdamBrBRefIdeal.τ).loc Cert.AdamBrBRefIdeal.main_arg3) = m' ((c.tc : Thread Cert.AdamBrBRefIdeal.nD Cert.AdamBrBRefIdeal.τ).loc Cert.AdamBrBRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v4) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v4) = v1 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1))

def preserves_ChipGu_ChipGuIdeal : Prop :=
  True

def algebraic_ChipGuIdeal_ChipGuRefIdeal [hChipGuIdeal : Cert.ChipGuIdeal.Facts] [hChipGuRefIdeal : Cert.ChipGuRefIdeal.Facts] [hPre_chip_named : Cert.Pre_chip_named.Facts] : Prop :=
  ∀ (m : (ℓ : Loc Cert.ChipGuIdeal.nD Cert.ChipGuIdeal.τ Cert.ChipGuIdeal.sig) → Buf (Elt Ideal) ℓ) (g : Dev Cert.ChipGuIdeal.nD → PrngReg)
    (m' : (ℓ : Loc Cert.ChipGuRefIdeal.nD Cert.ChipGuRefIdeal.τ Cert.ChipGuRefIdeal.sig) → Buf (Elt Ideal) ℓ) (g' : Dev Cert.ChipGuRefIdeal.nD → PrngReg), Pre_ChipGuIdeal m →
    (∀ c : Dev Cert.ChipGuIdeal.nD,
      m' ((c.tc : Thread Cert.ChipGuRefIdeal.nD Cert.ChipGuRefIdeal.τ).loc Cert.ChipGuRefIdeal.main_arg0) = m ((c.tc : Thread Cert.ChipGuIdeal.nD Cert.ChipGuIdeal.τ).loc Cert.ChipGuIdeal.main_arg0)
      ∧ m' ((c.tc : Thread Cert.ChipGuRefIdeal.nD Cert.ChipGuRefIdeal.τ).loc Cert.ChipGuRefIdeal.main_arg1) = m ((c.tc : Thread Cert.ChipGuIdeal.nD Cert.ChipGuIdeal.τ).loc Cert.ChipGuIdeal.main_arg1)
      ∧ m' ((c.tc : Thread Cert.ChipGuRefIdeal.nD Cert.ChipGuRefIdeal.τ).loc Cert.ChipGuRefIdeal.main_arg2) = m ((c.tc : Thread Cert.ChipGuIdeal.nD Cert.ChipGuIdeal.τ).loc Cert.ChipGuIdeal.main_arg2)) →
    ∃ (v0 : (c : Dev Cert.ChipGuIdeal.nD) → Buf (Elt Ideal) ((c.tc : Thread Cert.ChipGuIdeal.nD Cert.ChipGuIdeal.τ).loc Cert.ChipGuIdeal.main_v0_0)) (v1 : (c : Dev Cert.ChipGuIdeal.nD) → Buf (Elt Ideal) ((c.tc : Thread Cert.ChipGuIdeal.nD Cert.ChipGuIdeal.τ).loc Cert.ChipGuIdeal.main_v0_1)),
      θ_run (Cert.ChipGuIdeal.defs (F := Ideal)) (onTc (τ := Cert.ChipGuIdeal.τ) (Cert.ChipGuIdeal.main (F := Ideal))) ⟨m, fun _ => 0, g⟩ (fun r => ∀ c : Dev Cert.ChipGuIdeal.nD,
          r.2.mem ((c.tc : Thread Cert.ChipGuIdeal.nD Cert.ChipGuIdeal.τ).loc Cert.ChipGuIdeal.main_v0_0) = v0 c
          ∧ r.2.mem ((c.tc : Thread Cert.ChipGuIdeal.nD Cert.ChipGuIdeal.τ).loc Cert.ChipGuIdeal.main_v0_1) = v1 c
          ∧ r.2.mem ((c.tc : Thread Cert.ChipGuIdeal.nD Cert.ChipGuIdeal.τ).loc Cert.ChipGuIdeal.main_arg0) = m ((c.tc : Thread Cert.ChipGuIdeal.nD Cert.ChipGuIdeal.τ).loc Cert.ChipGuIdeal.main_arg0)
          ∧ r.2.mem ((c.tc : Thread Cert.ChipGuIdeal.nD Cert.ChipGuIdeal.τ).loc Cert.ChipGuIdeal.main_arg1) = m ((c.tc : Thread Cert.ChipGuIdeal.nD Cert.ChipGuIdeal.τ).loc Cert.ChipGuIdeal.main_arg1)
          ∧ r.2.mem ((c.tc : Thread Cert.ChipGuIdeal.nD Cert.ChipGuIdeal.τ).loc Cert.ChipGuIdeal.main_arg2) = m ((c.tc : Thread Cert.ChipGuIdeal.nD Cert.ChipGuIdeal.τ).loc Cert.ChipGuIdeal.main_arg2))
      ∧ θ_run (Cert.ChipGuRefIdeal.defs (F := Ideal)) (onTc (τ := Cert.ChipGuRefIdeal.τ) (Cert.ChipGuRefIdeal.main (F := Ideal))) ⟨m', fun _ => 0, g'⟩ (fun r => ∀ c : Dev Cert.ChipGuRefIdeal.nD,
          r.2.mem ((c.tc : Thread Cert.ChipGuRefIdeal.nD Cert.ChipGuRefIdeal.τ).loc Cert.ChipGuRefIdeal.main_v12) = v0 c
          ∧ r.2.mem ((c.tc : Thread Cert.ChipGuRefIdeal.nD Cert.ChipGuRefIdeal.τ).loc Cert.ChipGuRefIdeal.main_v13) = v1 c
          ∧ r.2.mem ((c.tc : Thread Cert.ChipGuRefIdeal.nD Cert.ChipGuRefIdeal.τ).loc Cert.ChipGuRefIdeal.main_arg0) = m' ((c.tc : Thread Cert.ChipGuRefIdeal.nD Cert.ChipGuRefIdeal.τ).loc Cert.ChipGuRefIdeal.main_arg0)
          ∧ r.2.mem ((c.tc : Thread Cert.ChipGuRefIdeal.nD Cert.ChipGuRefIdeal.τ).loc Cert.ChipGuRefIdeal.main_arg1) = m' ((c.tc : Thread Cert.ChipGuRefIdeal.nD Cert.ChipGuRefIdeal.τ).loc Cert.ChipGuRefIdeal.main_arg1)
          ∧ r.2.mem ((c.tc : Thread Cert.ChipGuRefIdeal.nD Cert.ChipGuRefIdeal.τ).loc Cert.ChipGuRefIdeal.main_arg2) = m' ((c.tc : Thread Cert.ChipGuRefIdeal.nD Cert.ChipGuRefIdeal.τ).loc Cert.ChipGuRefIdeal.main_arg2))

def preserves_ChipDown_ChipDownIdeal : Prop :=
  True

def algebraic_ChipDownIdeal_ChipDownRefIdeal [hChipDownIdeal : Cert.ChipDownIdeal.Facts] [hChipDownRefIdeal : Cert.ChipDownRefIdeal.Facts] [hPre_chip_named_down : Cert.Pre_chip_named_down.Facts] : Prop :=
  ∀ (m : (ℓ : Loc Cert.ChipDownIdeal.nD Cert.ChipDownIdeal.τ Cert.ChipDownIdeal.sig) → Buf (Elt Ideal) ℓ) (g : Dev Cert.ChipDownIdeal.nD → PrngReg)
    (m' : (ℓ : Loc Cert.ChipDownRefIdeal.nD Cert.ChipDownRefIdeal.τ Cert.ChipDownRefIdeal.sig) → Buf (Elt Ideal) ℓ) (g' : Dev Cert.ChipDownRefIdeal.nD → PrngReg), Pre_ChipDownIdeal m →
    (∀ c : Dev Cert.ChipDownIdeal.nD,
      m' ((c.tc : Thread Cert.ChipDownRefIdeal.nD Cert.ChipDownRefIdeal.τ).loc Cert.ChipDownRefIdeal.main_arg0) = m ((c.tc : Thread Cert.ChipDownIdeal.nD Cert.ChipDownIdeal.τ).loc Cert.ChipDownIdeal.main_arg0)
      ∧ m' ((c.tc : Thread Cert.ChipDownRefIdeal.nD Cert.ChipDownRefIdeal.τ).loc Cert.ChipDownRefIdeal.main_arg1) = m ((c.tc : Thread Cert.ChipDownIdeal.nD Cert.ChipDownIdeal.τ).loc Cert.ChipDownIdeal.main_arg1)
      ∧ m' ((c.tc : Thread Cert.ChipDownRefIdeal.nD Cert.ChipDownRefIdeal.τ).loc Cert.ChipDownRefIdeal.main_arg2) = m ((c.tc : Thread Cert.ChipDownIdeal.nD Cert.ChipDownIdeal.τ).loc Cert.ChipDownIdeal.main_arg2)
      ∧ m' ((c.tc : Thread Cert.ChipDownRefIdeal.nD Cert.ChipDownRefIdeal.τ).loc Cert.ChipDownRefIdeal.main_arg3) = m ((c.tc : Thread Cert.ChipDownIdeal.nD Cert.ChipDownIdeal.τ).loc Cert.ChipDownIdeal.main_arg3)) →
    ∃ (v0 : (c : Dev Cert.ChipDownIdeal.nD) → Buf (Elt Ideal) ((c.tc : Thread Cert.ChipDownIdeal.nD Cert.ChipDownIdeal.τ).loc Cert.ChipDownIdeal.main_v0)),
      θ_run (Cert.ChipDownIdeal.defs (F := Ideal)) (onTc (τ := Cert.ChipDownIdeal.τ) (Cert.ChipDownIdeal.main (F := Ideal))) ⟨m, fun _ => 0, g⟩ (fun r => ∀ c : Dev Cert.ChipDownIdeal.nD,
          r.2.mem ((c.tc : Thread Cert.ChipDownIdeal.nD Cert.ChipDownIdeal.τ).loc Cert.ChipDownIdeal.main_v0) = v0 c
          ∧ r.2.mem ((c.tc : Thread Cert.ChipDownIdeal.nD Cert.ChipDownIdeal.τ).loc Cert.ChipDownIdeal.main_arg0) = m ((c.tc : Thread Cert.ChipDownIdeal.nD Cert.ChipDownIdeal.τ).loc Cert.ChipDownIdeal.main_arg0)
          ∧ r.2.mem ((c.tc : Thread Cert.ChipDownIdeal.nD Cert.ChipDownIdeal.τ).loc Cert.ChipDownIdeal.main_arg1) = m ((c.tc : Thread Cert.ChipDownIdeal.nD Cert.ChipDownIdeal.τ).loc Cert.ChipDownIdeal.main_arg1)
          ∧ r.2.mem ((c.tc : Thread Cert.ChipDownIdeal.nD Cert.ChipDownIdeal.τ).loc Cert.ChipDownIdeal.main_arg2) = m ((c.tc : Thread Cert.ChipDownIdeal.nD Cert.ChipDownIdeal.τ).loc Cert.ChipDownIdeal.main_arg2)
          ∧ r.2.mem ((c.tc : Thread Cert.ChipDownIdeal.nD Cert.ChipDownIdeal.τ).loc Cert.ChipDownIdeal.main_arg3) = m ((c.tc : Thread Cert.ChipDownIdeal.nD Cert.ChipDownIdeal.τ).loc Cert.ChipDownIdeal.main_arg3))
      ∧ θ_run (Cert.ChipDownRefIdeal.defs (F := Ideal)) (onTc (τ := Cert.ChipDownRefIdeal.τ) (Cert.ChipDownRefIdeal.main (F := Ideal))) ⟨m', fun _ => 0, g'⟩ (fun r => ∀ c : Dev Cert.ChipDownRefIdeal.nD,
          r.2.mem ((c.tc : Thread Cert.ChipDownRefIdeal.nD Cert.ChipDownRefIdeal.τ).loc Cert.ChipDownRefIdeal.main_v10) = v0 c
          ∧ r.2.mem ((c.tc : Thread Cert.ChipDownRefIdeal.nD Cert.ChipDownRefIdeal.τ).loc Cert.ChipDownRefIdeal.main_arg0) = m' ((c.tc : Thread Cert.ChipDownRefIdeal.nD Cert.ChipDownRefIdeal.τ).loc Cert.ChipDownRefIdeal.main_arg0)
          ∧ r.2.mem ((c.tc : Thread Cert.ChipDownRefIdeal.nD Cert.ChipDownRefIdeal.τ).loc Cert.ChipDownRefIdeal.main_arg1) = m' ((c.tc : Thread Cert.ChipDownRefIdeal.nD Cert.ChipDownRefIdeal.τ).loc Cert.ChipDownRefIdeal.main_arg1)
          ∧ r.2.mem ((c.tc : Thread Cert.ChipDownRefIdeal.nD Cert.ChipDownRefIdeal.τ).loc Cert.ChipDownRefIdeal.main_arg2) = m' ((c.tc : Thread Cert.ChipDownRefIdeal.nD Cert.ChipDownRefIdeal.τ).loc Cert.ChipDownRefIdeal.main_arg2)
          ∧ r.2.mem ((c.tc : Thread Cert.ChipDownRefIdeal.nD Cert.ChipDownRefIdeal.τ).loc Cert.ChipDownRefIdeal.main_arg3) = m' ((c.tc : Thread Cert.ChipDownRefIdeal.nD Cert.ChipDownRefIdeal.τ).loc Cert.ChipDownRefIdeal.main_arg3))

def preserves_ChipSmall_ChipSmallIdeal : Prop :=
  True

def algebraic_ChipSmallIdeal_ChipSmallRefIdeal [hChipSmallIdeal : Cert.ChipSmallIdeal.Facts] [hChipSmallRefIdeal : Cert.ChipSmallRefIdeal.Facts] [hPre_chip_named_small : Cert.Pre_chip_named_small.Facts] : Prop :=
  ∀ (m : (ℓ : Loc Cert.ChipSmallIdeal.nD Cert.ChipSmallIdeal.τ Cert.ChipSmallIdeal.sig) → Buf (Elt Ideal) ℓ) (g : Dev Cert.ChipSmallIdeal.nD → PrngReg)
    (m' : (ℓ : Loc Cert.ChipSmallRefIdeal.nD Cert.ChipSmallRefIdeal.τ Cert.ChipSmallRefIdeal.sig) → Buf (Elt Ideal) ℓ) (g' : Dev Cert.ChipSmallRefIdeal.nD → PrngReg), Pre_ChipSmallIdeal m →
    (∀ c : Dev Cert.ChipSmallIdeal.nD,
      m' ((c.tc : Thread Cert.ChipSmallRefIdeal.nD Cert.ChipSmallRefIdeal.τ).loc Cert.ChipSmallRefIdeal.main_arg0) = m ((c.tc : Thread Cert.ChipSmallIdeal.nD Cert.ChipSmallIdeal.τ).loc Cert.ChipSmallIdeal.main_arg0)
      ∧ m' ((c.tc : Thread Cert.ChipSmallRefIdeal.nD Cert.ChipSmallRefIdeal.τ).loc Cert.ChipSmallRefIdeal.main_arg1) = m ((c.tc : Thread Cert.ChipSmallIdeal.nD Cert.ChipSmallIdeal.τ).loc Cert.ChipSmallIdeal.main_arg1)
      ∧ m' ((c.tc : Thread Cert.ChipSmallRefIdeal.nD Cert.ChipSmallRefIdeal.τ).loc Cert.ChipSmallRefIdeal.main_arg2) = m ((c.tc : Thread Cert.ChipSmallIdeal.nD Cert.ChipSmallIdeal.τ).loc Cert.ChipSmallIdeal.main_arg2)) →
    ∃ (v0 : (c : Dev Cert.ChipSmallIdeal.nD) → Buf (Elt Ideal) ((c.tc : Thread Cert.ChipSmallIdeal.nD Cert.ChipSmallIdeal.τ).loc Cert.ChipSmallIdeal.main_v0)),
      θ_run (Cert.ChipSmallIdeal.defs (F := Ideal)) (onTc (τ := Cert.ChipSmallIdeal.τ) (Cert.ChipSmallIdeal.main (F := Ideal))) ⟨m, fun _ => 0, g⟩ (fun r => ∀ c : Dev Cert.ChipSmallIdeal.nD,
          r.2.mem ((c.tc : Thread Cert.ChipSmallIdeal.nD Cert.ChipSmallIdeal.τ).loc Cert.ChipSmallIdeal.main_v0) = v0 c
          ∧ r.2.mem ((c.tc : Thread Cert.ChipSmallIdeal.nD Cert.ChipSmallIdeal.τ).loc Cert.ChipSmallIdeal.main_arg0) = m ((c.tc : Thread Cert.ChipSmallIdeal.nD Cert.ChipSmallIdeal.τ).loc Cert.ChipSmallIdeal.main_arg0)
          ∧ r.2.mem ((c.tc : Thread Cert.ChipSmallIdeal.nD Cert.ChipSmallIdeal.τ).loc Cert.ChipSmallIdeal.main_arg1) = m ((c.tc : Thread Cert.ChipSmallIdeal.nD Cert.ChipSmallIdeal.τ).loc Cert.ChipSmallIdeal.main_arg1)
          ∧ r.2.mem ((c.tc : Thread Cert.ChipSmallIdeal.nD Cert.ChipSmallIdeal.τ).loc Cert.ChipSmallIdeal.main_arg2) = m ((c.tc : Thread Cert.ChipSmallIdeal.nD Cert.ChipSmallIdeal.τ).loc Cert.ChipSmallIdeal.main_arg2))
      ∧ θ_run (Cert.ChipSmallRefIdeal.defs (F := Ideal)) (onTc (τ := Cert.ChipSmallRefIdeal.τ) (Cert.ChipSmallRefIdeal.main (F := Ideal))) ⟨m', fun _ => 0, g'⟩ (fun r => ∀ c : Dev Cert.ChipSmallRefIdeal.nD,
          r.2.mem ((c.tc : Thread Cert.ChipSmallRefIdeal.nD Cert.ChipSmallRefIdeal.τ).loc Cert.ChipSmallRefIdeal.main_v10) = v0 c
          ∧ r.2.mem ((c.tc : Thread Cert.ChipSmallRefIdeal.nD Cert.ChipSmallRefIdeal.τ).loc Cert.ChipSmallRefIdeal.main_arg0) = m' ((c.tc : Thread Cert.ChipSmallRefIdeal.nD Cert.ChipSmallRefIdeal.τ).loc Cert.ChipSmallRefIdeal.main_arg0)
          ∧ r.2.mem ((c.tc : Thread Cert.ChipSmallRefIdeal.nD Cert.ChipSmallRefIdeal.τ).loc Cert.ChipSmallRefIdeal.main_arg1) = m' ((c.tc : Thread Cert.ChipSmallRefIdeal.nD Cert.ChipSmallRefIdeal.τ).loc Cert.ChipSmallRefIdeal.main_arg1)
          ∧ r.2.mem ((c.tc : Thread Cert.ChipSmallRefIdeal.nD Cert.ChipSmallRefIdeal.τ).loc Cert.ChipSmallRefIdeal.main_arg2) = m' ((c.tc : Thread Cert.ChipSmallRefIdeal.nD Cert.ChipSmallRefIdeal.τ).loc Cert.ChipSmallRefIdeal.main_arg2))

def preserves_ChipIn_ChipInIdeal : Prop :=
  True

def algebraic_ChipInIdeal_ChipInRefIdeal [hChipInIdeal : Cert.ChipInIdeal.Facts] [hChipInRefIdeal : Cert.ChipInRefIdeal.Facts] [hPre_chip_named : Cert.Pre_chip_named.Facts] : Prop :=
  ∀ (m : (ℓ : Loc Cert.ChipInIdeal.nD Cert.ChipInIdeal.τ Cert.ChipInIdeal.sig) → Buf (Elt Ideal) ℓ) (g : Dev Cert.ChipInIdeal.nD → PrngReg)
    (m' : (ℓ : Loc Cert.ChipInRefIdeal.nD Cert.ChipInRefIdeal.τ Cert.ChipInRefIdeal.sig) → Buf (Elt Ideal) ℓ) (g' : Dev Cert.ChipInRefIdeal.nD → PrngReg), Pre_ChipInIdeal m →
    (∀ c : Dev Cert.ChipInIdeal.nD,
      m' ((c.tc : Thread Cert.ChipInRefIdeal.nD Cert.ChipInRefIdeal.τ).loc Cert.ChipInRefIdeal.main_arg0) = m ((c.tc : Thread Cert.ChipInIdeal.nD Cert.ChipInIdeal.τ).loc Cert.ChipInIdeal.main_arg0)
      ∧ m' ((c.tc : Thread Cert.ChipInRefIdeal.nD Cert.ChipInRefIdeal.τ).loc Cert.ChipInRefIdeal.main_arg1) = m ((c.tc : Thread Cert.ChipInIdeal.nD Cert.ChipInIdeal.τ).loc Cert.ChipInIdeal.main_arg1)
      ∧ m' ((c.tc : Thread Cert.ChipInRefIdeal.nD Cert.ChipInRefIdeal.τ).loc Cert.ChipInRefIdeal.main_arg2) = m ((c.tc : Thread Cert.ChipInIdeal.nD Cert.ChipInIdeal.τ).loc Cert.ChipInIdeal.main_arg2)) →
    ∃ (v0 : (c : Dev Cert.ChipInIdeal.nD) → Buf (Elt Ideal) ((c.tc : Thread Cert.ChipInIdeal.nD Cert.ChipInIdeal.τ).loc Cert.ChipInIdeal.main_v0)),
      θ_run (Cert.ChipInIdeal.defs (F := Ideal)) (onTc (τ := Cert.ChipInIdeal.τ) (Cert.ChipInIdeal.main (F := Ideal))) ⟨m, fun _ => 0, g⟩ (fun r => ∀ c : Dev Cert.ChipInIdeal.nD,
          r.2.mem ((c.tc : Thread Cert.ChipInIdeal.nD Cert.ChipInIdeal.τ).loc Cert.ChipInIdeal.main_v0) = v0 c
          ∧ r.2.mem ((c.tc : Thread Cert.ChipInIdeal.nD Cert.ChipInIdeal.τ).loc Cert.ChipInIdeal.main_arg0) = m ((c.tc : Thread Cert.ChipInIdeal.nD Cert.ChipInIdeal.τ).loc Cert.ChipInIdeal.main_arg0)
          ∧ r.2.mem ((c.tc : Thread Cert.ChipInIdeal.nD Cert.ChipInIdeal.τ).loc Cert.ChipInIdeal.main_arg1) = m ((c.tc : Thread Cert.ChipInIdeal.nD Cert.ChipInIdeal.τ).loc Cert.ChipInIdeal.main_arg1)
          ∧ r.2.mem ((c.tc : Thread Cert.ChipInIdeal.nD Cert.ChipInIdeal.τ).loc Cert.ChipInIdeal.main_arg2) = m ((c.tc : Thread Cert.ChipInIdeal.nD Cert.ChipInIdeal.τ).loc Cert.ChipInIdeal.main_arg2))
      ∧ θ_run (Cert.ChipInRefIdeal.defs (F := Ideal)) (onTc (τ := Cert.ChipInRefIdeal.τ) (Cert.ChipInRefIdeal.main (F := Ideal))) ⟨m', fun _ => 0, g'⟩ (fun r => ∀ c : Dev Cert.ChipInRefIdeal.nD,
          r.2.mem ((c.tc : Thread Cert.ChipInRefIdeal.nD Cert.ChipInRefIdeal.τ).loc Cert.ChipInRefIdeal.main_v13) = v0 c
          ∧ r.2.mem ((c.tc : Thread Cert.ChipInRefIdeal.nD Cert.ChipInRefIdeal.τ).loc Cert.ChipInRefIdeal.main_arg0) = m' ((c.tc : Thread Cert.ChipInRefIdeal.nD Cert.ChipInRefIdeal.τ).loc Cert.ChipInRefIdeal.main_arg0)
          ∧ r.2.mem ((c.tc : Thread Cert.ChipInRefIdeal.nD Cert.ChipInRefIdeal.τ).loc Cert.ChipInRefIdeal.main_arg1) = m' ((c.tc : Thread Cert.ChipInRefIdeal.nD Cert.ChipInRefIdeal.τ).loc Cert.ChipInRefIdeal.main_arg1)
          ∧ r.2.mem ((c.tc : Thread Cert.ChipInRefIdeal.nD Cert.ChipInRefIdeal.τ).loc Cert.ChipInRefIdeal.main_arg2) = m' ((c.tc : Thread Cert.ChipInRefIdeal.nD Cert.ChipInRefIdeal.τ).loc Cert.ChipInRefIdeal.main_arg2))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hIn : Cert.In.Facts) (hInIdeal : Cert.InIdeal.Facts) (hInRefIdeal : Cert.InRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hFfnIn : Cert.FfnIn.Facts) (hFfnInIdeal : Cert.FfnInIdeal.Facts) (hFfnInRefIdeal : Cert.FfnInRefIdeal.Facts) (hFfnBwd : Cert.FfnBwd.Facts) (hFfnBwdIdeal : Cert.FfnBwdIdeal.Facts) (hFfnBwdRefIdeal : Cert.FfnBwdRefIdeal.Facts) (hMid : Cert.Mid.Facts) (hMidIdeal : Cert.MidIdeal.Facts) (hMidRefIdeal : Cert.MidRefIdeal.Facts) (hFirst : Cert.First.Facts) (hFirstIdeal : Cert.FirstIdeal.Facts) (hFirstRefIdeal : Cert.FirstRefIdeal.Facts) (hAdamBAda : Cert.AdamBAda.Facts) (hAdamBAdaIdeal : Cert.AdamBAdaIdeal.Facts) (hAdamBAdaRefIdeal : Cert.AdamBAdaRefIdeal.Facts) (hAdamNorm : Cert.AdamNorm.Facts) (hAdamNormIdeal : Cert.AdamNormIdeal.Facts) (hAdamNormRefIdeal : Cert.AdamNormRefIdeal.Facts) (hAdamFgate : Cert.AdamFgate.Facts) (hAdamFgateIdeal : Cert.AdamFgateIdeal.Facts) (hAdamFgateRefIdeal : Cert.AdamFgateRefIdeal.Facts) (hAdamBrA : Cert.AdamBrA.Facts) (hAdamBrAIdeal : Cert.AdamBrAIdeal.Facts) (hAdamBrARefIdeal : Cert.AdamBrARefIdeal.Facts) (hAdamBrB : Cert.AdamBrB.Facts) (hAdamBrBIdeal : Cert.AdamBrBIdeal.Facts) (hAdamBrBRefIdeal : Cert.AdamBrBRefIdeal.Facts) (hAdamOut : Cert.AdamOut.Facts) (hAdamOutIdeal : Cert.AdamOutIdeal.Facts) (hAdamOutRefIdeal : Cert.AdamOutRefIdeal.Facts) (hAdaBwd : Cert.AdaBwd.Facts) (hAdaBwdIdeal : Cert.AdaBwdIdeal.Facts) (hAdaBwdRefIdeal : Cert.AdaBwdRefIdeal.Facts) (hSmall : Cert.Small.Facts) (hSmallIdeal : Cert.SmallIdeal.Facts) (hSmallRefIdeal : Cert.SmallRefIdeal.Facts) (hChipGu : Cert.ChipGu.Facts) (hChipGuIdeal : Cert.ChipGuIdeal.Facts) (hChipGuRefIdeal : Cert.ChipGuRefIdeal.Facts) (hChipDown : Cert.ChipDown.Facts) (hChipDownIdeal : Cert.ChipDownIdeal.Facts) (hChipDownRefIdeal : Cert.ChipDownRefIdeal.Facts) (hChipSmall : Cert.ChipSmall.Facts) (hChipSmallIdeal : Cert.ChipSmallIdeal.Facts) (hChipSmallRefIdeal : Cert.ChipSmallRefIdeal.Facts) (hChipIn : Cert.ChipIn.Facts) (hChipInIdeal : Cert.ChipInIdeal.Facts) (hChipInRefIdeal : Cert.ChipInRefIdeal.Facts) (hPre_finite_ffn : Cert.Pre_finite_ffn.Facts) (hPre_chip_named : Cert.Pre_chip_named.Facts) (hPre_chip_named_down : Cert.Pre_chip_named_down.Facts) (hPre_chip_named_small : Cert.Pre_chip_named_small.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_In (hIn := hIn)
    ∧ quiescent_InIdeal (hInIdeal := hInIdeal)
    ∧ quiescent_InRefIdeal (hInRefIdeal := hInRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_Mid (hMid := hMid)
    ∧ quiescent_MidIdeal (hMidIdeal := hMidIdeal)
    ∧ quiescent_MidRefIdeal (hMidRefIdeal := hMidRefIdeal)
    ∧ quiescent_First (hFirst := hFirst)
    ∧ quiescent_FirstIdeal (hFirstIdeal := hFirstIdeal)
    ∧ quiescent_FirstRefIdeal (hFirstRefIdeal := hFirstRefIdeal)
    ∧ quiescent_AdamBAda (hAdamBAda := hAdamBAda)
    ∧ quiescent_AdamBAdaIdeal (hAdamBAdaIdeal := hAdamBAdaIdeal)
    ∧ quiescent_AdamBAdaRefIdeal (hAdamBAdaRefIdeal := hAdamBAdaRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamFgate (hAdamFgate := hAdamFgate)
    ∧ quiescent_AdamFgateIdeal (hAdamFgateIdeal := hAdamFgateIdeal)
    ∧ quiescent_AdamFgateRefIdeal (hAdamFgateRefIdeal := hAdamFgateRefIdeal)
    ∧ quiescent_AdamBrA (hAdamBrA := hAdamBrA)
    ∧ quiescent_AdamBrAIdeal (hAdamBrAIdeal := hAdamBrAIdeal)
    ∧ quiescent_AdamBrARefIdeal (hAdamBrARefIdeal := hAdamBrARefIdeal)
    ∧ quiescent_AdamBrB (hAdamBrB := hAdamBrB)
    ∧ quiescent_AdamBrBIdeal (hAdamBrBIdeal := hAdamBrBIdeal)
    ∧ quiescent_AdamBrBRefIdeal (hAdamBrBRefIdeal := hAdamBrBRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_Small (hSmall := hSmall)
    ∧ quiescent_SmallIdeal (hSmallIdeal := hSmallIdeal)
    ∧ quiescent_SmallRefIdeal (hSmallRefIdeal := hSmallRefIdeal)
    ∧ quiescent_ChipGu (hChipGu := hChipGu) (hPre_chip_named := hPre_chip_named)
    ∧ quiescent_ChipGuIdeal (hChipGuIdeal := hChipGuIdeal) (hPre_chip_named := hPre_chip_named)
    ∧ quiescent_ChipGuRefIdeal (hChipGuRefIdeal := hChipGuRefIdeal) (hPre_chip_named := hPre_chip_named)
    ∧ quiescent_ChipDown (hChipDown := hChipDown) (hPre_chip_named_down := hPre_chip_named_down)
    ∧ quiescent_ChipDownIdeal (hChipDownIdeal := hChipDownIdeal) (hPre_chip_named_down := hPre_chip_named_down)
    ∧ quiescent_ChipDownRefIdeal (hChipDownRefIdeal := hChipDownRefIdeal) (hPre_chip_named_down := hPre_chip_named_down)
    ∧ quiescent_ChipSmall (hChipSmall := hChipSmall) (hPre_chip_named_small := hPre_chip_named_small)
    ∧ quiescent_ChipSmallIdeal (hChipSmallIdeal := hChipSmallIdeal) (hPre_chip_named_small := hPre_chip_named_small)
    ∧ quiescent_ChipSmallRefIdeal (hChipSmallRefIdeal := hChipSmallRefIdeal) (hPre_chip_named_small := hPre_chip_named_small)
    ∧ quiescent_ChipIn (hChipIn := hChipIn) (hPre_chip_named := hPre_chip_named)
    ∧ quiescent_ChipInIdeal (hChipInIdeal := hChipInIdeal) (hPre_chip_named := hPre_chip_named)
    ∧ quiescent_ChipInRefIdeal (hChipInRefIdeal := hChipInRefIdeal) (hPre_chip_named := hPre_chip_named)
    ∧ preserves_Kernel_KernelIdeal
    ∧ preserves_GateUp_GateUpIdeal
    ∧ algebraic_GateUpIdeal_GateUpRefIdeal (hGateUpIdeal := hGateUpIdeal) (hGateUpRefIdeal := hGateUpRefIdeal)
    ∧ preserves_In_InIdeal
    ∧ algebraic_InIdeal_InRefIdeal (hInIdeal := hInIdeal) (hInRefIdeal := hInRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
    ∧ preserves_FfnIn_FfnInIdeal
    ∧ algebraic_FfnInIdeal_FfnInRefIdeal (hFfnInIdeal := hFfnInIdeal) (hFfnInRefIdeal := hFfnInRefIdeal)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_Mid_MidIdeal
    ∧ algebraic_MidIdeal_MidRefIdeal (hMidIdeal := hMidIdeal) (hMidRefIdeal := hMidRefIdeal)
    ∧ preserves_First_FirstIdeal
    ∧ algebraic_FirstIdeal_FirstRefIdeal (hFirstIdeal := hFirstIdeal) (hFirstRefIdeal := hFirstRefIdeal)
    ∧ preserves_AdamBAda_AdamBAdaIdeal
    ∧ algebraic_AdamBAdaIdeal_AdamBAdaRefIdeal (hAdamBAdaIdeal := hAdamBAdaIdeal) (hAdamBAdaRefIdeal := hAdamBAdaRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamFgate_AdamFgateIdeal
    ∧ algebraic_AdamFgateIdeal_AdamFgateRefIdeal (hAdamFgateIdeal := hAdamFgateIdeal) (hAdamFgateRefIdeal := hAdamFgateRefIdeal)
    ∧ preserves_AdamBrA_AdamBrAIdeal
    ∧ algebraic_AdamBrAIdeal_AdamBrARefIdeal (hAdamBrAIdeal := hAdamBrAIdeal) (hAdamBrARefIdeal := hAdamBrARefIdeal)
    ∧ preserves_AdamBrB_AdamBrBIdeal
    ∧ algebraic_AdamBrBIdeal_AdamBrBRefIdeal (hAdamBrBIdeal := hAdamBrBIdeal) (hAdamBrBRefIdeal := hAdamBrBRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_Small_SmallIdeal
    ∧ algebraic_SmallIdeal_SmallRefIdeal (hSmallIdeal := hSmallIdeal) (hSmallRefIdeal := hSmallRefIdeal)
    ∧ preserves_ChipGu_ChipGuIdeal
    ∧ algebraic_ChipGuIdeal_ChipGuRefIdeal (hChipGuIdeal := hChipGuIdeal) (hChipGuRefIdeal := hChipGuRefIdeal) (hPre_chip_named := hPre_chip_named)
    ∧ preserves_ChipDown_ChipDownIdeal
    ∧ algebraic_ChipDownIdeal_ChipDownRefIdeal (hChipDownIdeal := hChipDownIdeal) (hChipDownRefIdeal := hChipDownRefIdeal) (hPre_chip_named_down := hPre_chip_named_down)
    ∧ preserves_ChipSmall_ChipSmallIdeal
    ∧ algebraic_ChipSmallIdeal_ChipSmallRefIdeal (hChipSmallIdeal := hChipSmallIdeal) (hChipSmallRefIdeal := hChipSmallRefIdeal) (hPre_chip_named_small := hPre_chip_named_small)
    ∧ preserves_ChipIn_ChipInIdeal
    ∧ algebraic_ChipInIdeal_ChipInRefIdeal (hChipInIdeal := hChipInIdeal) (hChipInRefIdeal := hChipInRefIdeal) (hPre_chip_named := hPre_chip_named)
-- ==== Pre_chip_named.lean ====
abbrev S1 : Shape := ⟨1, ![1]⟩
abbrev S4x1024x768 : Shape := ⟨3, ![4, 1024, 768]⟩
abbrev S3x1024x768 : Shape := ⟨3, ![3, 1024, 768]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1024x768 .bf16) (main_arg2 : FVec F S3x1024x768 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_chip_named_down.lean ====
abbrev S1 : Shape := ⟨1, ![1]⟩
abbrev S4x384x1024 : Shape := ⟨3, ![4, 384, 1024]⟩
abbrev S3x384x1024 : Shape := ⟨3, ![3, 384, 1024]⟩
abbrev S2048x1024 : Shape := ⟨2, ![2048, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x384x1024 .bf16) (main_arg2 : FVec F S3x384x1024 .bf16) (main_arg3 : FVec F S2048x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_chip_named_small.lean ====
abbrev S1 : Shape := ⟨1, ![1]⟩
abbrev S4x224x1024 : Shape := ⟨3, ![4, 224, 1024]⟩
abbrev S3x224x1024 : Shape := ⟨3, ![3, 224, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x224x1024 .bf16) (main_arg2 : FVec F S3x224x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_finite_ffn.lean ====
abbrev S2048x1024 : Shape := ⟨2, ![2048, 1024]⟩
abbrev S8x384x1024 : Shape := ⟨3, ![8, 384, 1024]⟩
abbrev S2048x6144 : Shape := ⟨2, ![2048, 6144]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x384x1024 : S_.BroadcastsInDim S8x384x1024 (![] : Fin 0 → Fin S8x384x1024.rank)
  reducesTo_S8x384x1024_S_d0_1_2 : S8x384x1024.ReducesTo [0, 1, 2] S_
  bcast_S_S2048x6144 : S_.BroadcastsInDim S2048x6144 (![] : Fin 0 → Fin S2048x6144.rank)
  reducesTo_S2048x6144_S_d0_1 : S2048x6144.ReducesTo [0, 1] S_

variable [Facts]

def fn_part1 {F : FTy → Type} [FloatOps F] (main_arg2 : FVec F S2048x6144 .bf16) (main_v12 : IVec S_ 1) (main_v14 : IVec S2048x6144 1) (main_v15 : FVec F S2048x6144 .bf16) : IVec S_ 1 :=
  let main_v16 : IVec S2048x6144 1 := cmpf .ogt main_arg2 main_v15
  let main_v17 : IVec S2048x6144 1 := andi main_v14 main_v16
  let main_c_6 : IVec S_ 1 := constantI S_ 1 1#1
  let main_v18 : IVec S_ 1 := (fun x v => Host.reduce IntOp.andi x v reducesTo_S2048x6144_S_d0_1 h_S_) main_v17 main_c_6
  let main_v19 : IVec S_ 1 := andi main_v12 main_v18
  main_v19

def fn {F : FTy → Type} [FloatOps F] (main_arg0 : FVec F S2048x1024 .bf16) (main_arg1 : FVec F S8x384x1024 .bf16) (main_arg2 : FVec F S2048x6144 .bf16) : IVec S_ 1 :=
  let main_cst : FVec F S_ .bf16 := constant S_ .bf16 0x7F80#16
  let main_v0 : FVec F S2048x1024 .bf16 := broadcastInDim S2048x1024 ![] bcast_S_S2048x1024 main_cst
  let main_v1 : IVec S2048x1024 1 := cmpf .olt main_arg0 main_v0
  let main_cst_0 : FVec F S_ .bf16 := constant S_ .bf16 0xFF80#16
  let main_v2 : FVec F S2048x1024 .bf16 := broadcastInDim S2048x1024 ![] bcast_S_S2048x1024 main_cst_0
  let main_v3 : IVec S2048x1024 1 := cmpf .ogt main_arg0 main_v2
  let main_v4 : IVec S2048x1024 1 := andi main_v1 main_v3
  let main_c : IVec S_ 1 := constantI S_ 1 1#1
  let main_v5 : IVec S_ 1 := (fun x v => Host.reduce IntOp.andi x v reducesTo_S2048x1024_S_d0_1 h_S_) main_v4 main_c
  let main_cst_1 : FVec F S_ .bf16 := constant S_ .bf16 0x7F80#16
  let main_v6 : FVec F S8x384x1024 .bf16 := broadcastInDim S8x384x1024 ![] bcast_S_S8x384x1024 main_cst_1
  let main_v7 : IVec S8x384x1024 1 := cmpf .olt main_arg1 main_v6
  let main_cst_2 : FVec F S_ .bf16 := constant S_ .bf16 0xFF80#16
  let main_v8 : FVec F S8x384x1024 .bf16 := broadcastInDim S8x384x1024 ![] bcast_S_S8x384x1024 main_cst_2
  let main_v9 : IVec S8x384x1024 1 := cmpf .ogt main_arg1 main_v8
  let main_v10 : IVec S8x384x1024 1 := andi main_v7 main_v9
  let main_c_3 : IVec S_ 1 := constantI S_ 1 1#1
  let main_v11 : IVec S_ 1 := (fun x v => Host.reduce IntOp.andi x v reducesTo_S8x384x1024_S_d0_1_2 h_S_) main_v10 main_c_3
  let main_v12 : IVec S_ 1 := andi main_v5 main_v11
  let main_cst_4 : FVec F S_ .bf16 := constant S_ .bf16 0x7F80#16
  let main_v13 : FVec F S2048x6144 .bf16 := broadcastInDim S2048x6144 ![] bcast_S_S2048x6144 main_cst_4
  let main_v14 : IVec S2048x6144 1 := cmpf .olt main_arg2 main_v13
  let main_cst_5 : FVec F S_ .bf16 := constant S_ .bf16 0xFF80#16
  let main_v15 : FVec F S2048x6144 .bf16 := broadcastInDim S2048x6144 ![] bcast_S_S2048x6144 main_cst_5
  fn_part1 (F := F) main_arg2 main_v12 main_v14 main_v15
-- ==== Kernel.lean ====
abbrev S2048x512 : Shape := ⟨2, ![2048, 512]⟩
abbrev S2048x8 : Shape := ⟨2, ![2048, 8]⟩
abbrev S8x128 : Shape := ⟨2, ![8, 128]⟩
abbrev S2048x8x128 : Shape := ⟨3, ![2048, 8, 128]⟩
abbrev S_ : Shape := ⟨0, ![]⟩
abbrev S2048x8x1 : Shape := ⟨3, ![2048, 8, 1]⟩
abbrev S2048x4x1x128 : Shape := ⟨4, ![2048, 4, 1, 128]⟩
abbrev S2048x4x2x128 : Shape := ⟨4, ![2048, 4, 2, 128]⟩
abbrev S2048x1024 : Shape := ⟨2, ![2048, 1024]⟩
abbrev S8x2048 : Shape := ⟨2, ![8, 2048]⟩
abbrev S2048x8x64 : Shape := ⟨3, ![2048, 8, 64]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S4x2x2048 : Shape := ⟨3, ![4, 2, 2048]⟩
abbrev S4x2048x2 : Shape := ⟨3, ![4, 2048, 2]⟩
abbrev S4x2048x2x1 : Shape := ⟨4, ![4, 2048, 2, 1]⟩
abbrev S4x2048x2x64 : Shape := ⟨4, ![4, 2048, 2, 64]⟩
abbrev S4x2048x128 : Shape := ⟨3, ![4, 2048, 128]⟩
abbrev S4x8x2048 : Shape := ⟨3, ![4, 8, 2048]⟩
abbrev S2048x256 : Shape := ⟨2, ![2048, 256]⟩
abbrev S2048x128 : Shape := ⟨2, ![2048, 128]⟩
abbrev S1x2048x128 : Shape := ⟨3, ![1, 2048, 128]⟩
abbrev S1x8x2048 : Shape := ⟨3, ![1, 8, 2048]⟩
abbrev S512x128 : Shape := ⟨2, ![512, 128]⟩
abbrev S512x512 : Shape := ⟨2, ![512, 512]⟩
abbrev S1x512 : Shape := ⟨2, ![1, 512]⟩
abbrev S1x512x1 : Shape := ⟨3, ![1, 512, 1]⟩
abbrev S512x1 : Shape := ⟨2, ![512, 1]⟩
abbrev S512 : Shape := ⟨1, ![512]⟩
abbrev S1x1x512 : Shape := ⟨3, ![1, 1, 512]⟩

abbrev nBuf : Space → Nat
  | .hbm => 173
  | .vmem => 25
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x8, .f32⟩
  | 4 => ⟨S2048x512, .f32⟩
  | 5 => ⟨S8x128, .f32⟩
  | 6 => ⟨S2048x8x128, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S2048x8x128, .i32⟩
  | 14 => ⟨S2048x8x128, .i32⟩
  | 15 => ⟨S_, .i32⟩
  | 16 => ⟨S2048x8x128, .i32⟩
  | 17 => ⟨S2048x8x128, .i1⟩
  | 18 => ⟨S_, .i32⟩
  | 19 => ⟨S2048x8x128, .i32⟩
  | 20 => ⟨S2048x8x128, .i1⟩
  | 21 => ⟨S_, .i32⟩
  | 22 => ⟨S_, .i1⟩
  | 23 => ⟨S2048x8x128, .i1⟩
  | 24 => ⟨S2048x8x128, .i1⟩
  | 25 => ⟨S2048x8x128, .i1⟩
  | 26 => ⟨S2048x8x128, .i32⟩
  | 27 => ⟨S2048x8x128, .i32⟩
  | 28 => ⟨S2048x8x128, .i32⟩
  | 29 => ⟨S2048x8x128, .i32⟩
  | 30 => ⟨S_, .i32⟩
  | 31 => ⟨S_, .i32⟩
  | 32 => ⟨S2048x8x128, .i32⟩
  | 33 => ⟨S2048x8x128, .i32⟩
  | 34 => ⟨S2048x8x128, .i32⟩
  | 35 => ⟨S_, .i32⟩
  | 36 => ⟨S2048x8x128, .i32⟩
  | 37 => ⟨S2048x8x128, .i1⟩
  | 38 => ⟨S2048x8x128, .i32⟩
  | 39 => ⟨S2048x8x128, .i32⟩
  | 40 => ⟨S_, .i32⟩
  | 41 => ⟨S2048x8x128, .i32⟩
  | 42 => ⟨S2048x8x128, .i1⟩
  | 43 => ⟨S2048x8x128, .i1⟩
  | 44 => ⟨S_, .i32⟩
  | 45 => ⟨S2048x8x128, .i32⟩
  | 46 => ⟨S2048x8x128, .i32⟩
  | 47 => ⟨S2048x8x128, .i32⟩
  | 48 => ⟨S2048x8x128, .i1⟩
  | 49 => ⟨S_, .i32⟩
  | 50 => ⟨S2048x8x128, .i32⟩
  | 51 => ⟨S2048x8x128, .i32⟩
  | 52 => ⟨S_, .i32⟩
  | 53 => ⟨S2048x8x128, .i32⟩
  | 54 => ⟨S2048x8x128, .i32⟩
  | 55 => ⟨S2048x8x128, .i32⟩
  | 56 => ⟨S2048x8x1, .f32⟩
  | 57 => ⟨S2048x8x128, .f32⟩
  | 58 => ⟨S2048x8x128, .bf16⟩
  | 59 => ⟨S2048x8x128, .f32⟩
  | 60 => ⟨S2048x8x128, .f32⟩
  | 61 => ⟨S2048x8x128, .bf16⟩
  | 62 => ⟨S2048x8x128, .f32⟩
  | 63 => ⟨S2048x8x128, .f32⟩
  | 64 => ⟨S2048x8x128, .f32⟩
  | 65 => ⟨S_, .f32⟩
  | 66 => ⟨S2048x8x128, .f32⟩
  | 67 => ⟨S2048x4x1x128, .f32⟩
  | 68 => ⟨S2048x4x2x128, .f32⟩
  | 69 => ⟨S2048x8x128, .f32⟩
  | 70 => ⟨S_, .f32⟩
  | 71 => ⟨S2048x8x128, .f32⟩
  | 72 => ⟨S2048x8x128, .f32⟩
  | 73 => ⟨S_, .f32⟩
  | 74 => ⟨S_, .f32⟩
  | 75 => ⟨S2048x8x128, .f32⟩
  | 76 => ⟨S2048x8x128, .f32⟩
  | 77 => ⟨S2048x4x1x128, .f32⟩
  | 78 => ⟨S2048x4x2x128, .f32⟩
  | 79 => ⟨S2048x8x128, .f32⟩
  | 80 => ⟨S2048x8x128, .f32⟩
  | 81 => ⟨S2048x8x128, .f32⟩
  | 82 => ⟨S2048x8x128, .f32⟩
  | 83 => ⟨S_, .i32⟩
  | 84 => ⟨S2048x8x128, .i32⟩
  | 85 => ⟨S2048x8x128, .i1⟩
  | 86 => ⟨S2048x8x128, .f32⟩
  | 87 => ⟨S2048x8x128, .f32⟩
  | 88 => ⟨S_, .i32⟩
  | 89 => ⟨S2048x8x128, .i32⟩
  | 90 => ⟨S2048x8x128, .i1⟩
  | 91 => ⟨S2048x8x128, .f32⟩
  | 92 => ⟨S2048x8x128, .f32⟩
  | 93 => ⟨S_, .i32⟩
  | 94 => ⟨S2048x8x128, .i32⟩
  | 95 => ⟨S2048x8x128, .i1⟩
  | 96 => ⟨S2048x8x128, .f32⟩
  | 97 => ⟨S2048x8x128, .f32⟩
  | 98 => ⟨S_, .i32⟩
  | 99 => ⟨S2048x8x128, .i32⟩
  | 100 => ⟨S2048x8x128, .i1⟩
  | 101 => ⟨S2048x8x128, .f32⟩
  | 102 => ⟨S2048x8x128, .f32⟩
  | 103 => ⟨S_, .i32⟩
  | 104 => ⟨S2048x8x128, .i32⟩
  | 105 => ⟨S2048x8x128, .i1⟩
  | 106 => ⟨S2048x8x128, .f32⟩
  | 107 => ⟨S2048x8x128, .f32⟩
  | 108 => ⟨S_, .i32⟩
  | 109 => ⟨S2048x8x128, .i32⟩
  | 110 => ⟨S2048x8x128, .i1⟩
  | 111 => ⟨S2048x8x128, .f32⟩
  | 112 => ⟨S2048x8x128, .f32⟩
  | 113 => ⟨S2048x8x128, .bf16⟩
  | 114 => ⟨S2048x1024, .bf16⟩
  | 115 => ⟨S2048x8x128, .bf16⟩
  | 116 => ⟨S2048x1024, .bf16⟩
  | 117 => ⟨S8x2048, .f32⟩
  | 118 => ⟨S2048x8x64, .f32⟩
  | 119 => ⟨S2048x8x64, .f32⟩
  | 120 => ⟨S8x2048x2048, .f32⟩
  | 121 => ⟨S_, .f32⟩
  | 122 => ⟨S8x2048x2048, .f32⟩
  | 123 => ⟨S8x2048x2048, .f32⟩
  | 124 => ⟨S8x2048x1, .f32⟩
  | 125 => ⟨S8x1x2048, .f32⟩
  | 126 => ⟨S8x2048x2048, .f32⟩
  | 127 => ⟨S8x2048x2048, .f32⟩
  | _ => ⟨S2048x512, .f32⟩

abbrev hbmTy0_1 (i : Nat) : BufTy := match i % 128 with
  | 0 => ⟨S8x2048x2048, .f32⟩
  | 1 => ⟨S8x2048x2048, .f32⟩
  | 2 => ⟨S2048, .i32⟩
  | 3 => ⟨S2048x1, .i32⟩
  | 4 => ⟨S2048, .i32⟩
  | 5 => ⟨S1x2048, .i32⟩
  | 6 => ⟨S2048x2048, .i32⟩
  | 7 => ⟨S2048x2048, .i32⟩
  | 8 => ⟨S2048x2048, .i1⟩
  | 9 => ⟨S1x2048x2048, .i1⟩
  | 10 => ⟨S_, .f32⟩
  | 11 => ⟨S_, .f32⟩
  | 12 => ⟨S8x2048x2048, .i1⟩
  | 13 => ⟨S8x2048x2048, .f32⟩
  | 14 => ⟨S8x2048x2048, .f32⟩
  | 15 => ⟨S_, .f32⟩
  | 16 => ⟨S8x2048, .f32⟩
  | 17 => ⟨S8x2048x1, .f32⟩
  | 18 => ⟨S8x2048x2048, .f32⟩
  | 19 => ⟨S8x2048x2048, .f32⟩
  | 20 => ⟨S8x2048x2048, .f32⟩
  | 21 => ⟨S_, .f32⟩
  | 22 => ⟨S8x2048, .f32⟩
  | 23 => ⟨S8x2048x1, .f32⟩
  | 24 => ⟨S8x2048x2048, .f32⟩
  | 25 => ⟨S8x2048x2048, .f32⟩
  | 26 => ⟨S2048x8x64, .f32⟩
  | 27 => ⟨S8x64x2048, .f32⟩
  | 28 => ⟨S2048x8x64, .f32⟩
  | 29 => ⟨S2048x512, .bf16⟩
  | 30 => ⟨S2048x512, .f32⟩
  | 31 => ⟨S4x2x2048, .f32⟩
  | 32 => ⟨S4x2048x2, .f32⟩
  | 33 => ⟨S4x2048x2x1, .f32⟩
  | 34 => ⟨S4x2048x2x64, .f32⟩
  | 35 => ⟨S4x2048x128, .f32⟩
  | 36 => ⟨S4x2x2048, .f32⟩
  | 37 => ⟨S4x2048x2, .f32⟩
  | 38 => ⟨S4x2048x2x1, .f32⟩
  | 39 => ⟨S4x2048x2x64, .f32⟩
  | 40 => ⟨S4x2048x128, .f32⟩
  | 41 => ⟨S2048x512, .bf16⟩
  | 42 => ⟨S2048x512, .bf16⟩
  | 43 => ⟨S2048x512, .bf16⟩
  | 44 => ⟨S4x8x2048, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x8x2048, .f32⟩
  | .local _ .vmem, ⟨21, _⟩ => ⟨S1x8x2048, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v3 : Ref sig .tc := ⟨.hbm, 47, rfl⟩
abbrev main_v4 : Ref sig .tc := ⟨.hbm, 48, rfl⟩
abbrev main_c_1 : Ref sig .tc := ⟨.hbm, 49, rfl⟩
abbrev main_v5 : Ref sig .tc := ⟨.hbm, 50, rfl⟩
abbrev main_v6 : Ref sig .tc := ⟨.hbm, 51, rfl⟩
abbrev main_c_2 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_3 : Ref sig .tc := ⟨.hbm, 70, rfl⟩
abbrev main_v23 : Ref sig .tc := ⟨.hbm, 71, rfl⟩
abbrev main_v24 : Ref sig .tc := ⟨.hbm, 72, rfl⟩
abbrev main_cst_4 : Ref sig .tc := ⟨.hbm, 73, rfl⟩
abbrev main_call2_v0 : Ref sig .tc := ⟨.hbm, 74, rfl⟩
abbrev main_call2_v1 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_c_5 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_c_6 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_c_7 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c_8 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_c_9 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_c_10 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_11 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_12 : Ref sig .tc := ⟨.hbm, 138, rfl⟩
abbrev main_call15_v0 : Ref sig .tc := ⟨.hbm, 139, rfl⟩
abbrev main_call15_v1 : Ref sig .tc := ⟨.hbm, 140, rfl⟩
abbrev main_call15_v2 : Ref sig .tc := ⟨.hbm, 141, rfl⟩
abbrev main_v80 : Ref sig .tc := ⟨.hbm, 142, rfl⟩
abbrev main_cst_13 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_14 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105_0 : Ref sig .tc := ⟨.hbm, 169, rfl⟩
abbrev main_v105_1 : Ref sig .tc := ⟨.hbm, 170, rfl⟩
abbrev main_v105_2 : Ref sig .tc := ⟨.hbm, 171, rfl⟩
abbrev main_v105_3 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v50 : BitVec 32 := Scalar.addi c0_i32 c4_i32
  let c1_i32 : BitVec 32 := 1#32
  ⟨c0_i32, v50, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c512_i32 : BitVec 32 := 512#32
  let v54 : BitVec 32 := Scalar.muli arg16 c512_i32
  v54
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32 : BitVec 32 := 512#32
  let v54 : BitVec 32 := Scalar.muli arg16 c512_i32
  let v55 : BitVec 32 := v54
  let v56 : Index := Scalar.indexCast v55
  let c0_30 : Index := 0#32
  ![v56.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32 : BitVec 32 := 512#32
  let v54 : BitVec 32 := Scalar.muli arg16 c512_i32
  let v55 : BitVec 32 := v54
  let v59 : Index := Scalar.indexCast v55
  let c128 : Index := 128#32
  ![v59.toNat, 128]
def k0_off3 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32 : BitVec 32 := 512#32
  let v54 : BitVec 32 := Scalar.muli arg16 c512_i32
  let v55 : BitVec 32 := v54
  let v66 : Index := Scalar.indexCast v55
  let c0_33 : Index := 0#32
  ![v66.toNat, 0]
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c512_i32_39 : BitVec 32 := 512#32
  let v76 : BitVec 32 := Scalar.muli arg16 c512_i32_39
  v76
def k0_off4 (k0_t1 : Fin k0_t1_loop.trips) : Fin 3 → Nat :=
  let c0_44 : Index := 0#32
  let c0_i32 : BitVec 32 := 0#32
  let c1_i32 : BitVec 32 := 1#32
  let arg16 : BitVec 32 := Scf.iv c0_i32 c1_i32 k0_t1
  let c512_i32_39 : BitVec 32 := 512#32
  let v76 : BitVec 32 := Scalar.muli arg16 c512_i32_39
  let v77 : BitVec 32 := v76
  let v87 : Index := Scalar.indexCast v77
  let c0_45 : Index := 0#32
  ![0, v87.toNat, 0]
def k0_off5 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32_39 : BitVec 32 := 512#32
  let v76 : BitVec 32 := Scalar.muli arg16 c512_i32_39
  let v77 : BitVec 32 := v76
  let v95 : Index := Scalar.indexCast v77
  let c0_46 : Index := 0#32
  ![v95.toNat, 0]
def k0_off6 (k0_t1 : Fin k0_t1_loop.trips) : Fin 3 → Nat :=
  let c0_57 : Index := 0#32
  let c0_i32 : BitVec 32 := 0#32
  let c1_i32 : BitVec 32 := 1#32
  let arg16 : BitVec 32 := Scf.iv c0_i32 c1_i32 k0_t1
  let c512_i32_39 : BitVec 32 := 512#32
  let v76 : BitVec 32 := Scalar.muli arg16 c512_i32_39
  let v77 : BitVec 32 := v76
  let v124 : Index := Scalar.indexCast v77
  let c64 : Index := 64#32
  ![0, v124.toNat, 64]
def k0_off7 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32_39 : BitVec 32 := 512#32
  let v76 : BitVec 32 := Scalar.muli arg16 c512_i32_39
  let v77 : BitVec 32 := v76
  let v132 : Index := Scalar.indexCast v77
  let c64_58 : Index := 64#32
  ![v132.toNat, 64]
@[reducible] def k0_t2_loop (k0_t1 : Fin k0_t1_loop.trips) : Scf.Loop 32 :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_72 : BitVec 32 := 1#32
  ⟨v165, v170, c1_i32_72⟩
def k0_mult3 (k0_t1 : Fin k0_t1_loop.trips) (k0_t2 : Fin (k0_t2_loop k0_t1).trips) : BitVec 32 :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c1_i32_72 : BitVec 32 := 1#32
  let arg17 : BitVec 32 := Scf.iv v165 c1_i32_72 k0_t2
  let c512_i32_81 : BitVec 32 := 512#32
  let v193 : BitVec 32 := Scalar.muli arg17 c512_i32_81
  v193
def k0_off8 (k0_t1 : Fin k0_t1_loop.trips) (k0_t2 : Fin (k0_t2_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c1_i32_72 : BitVec 32 := 1#32
  let arg17 : BitVec 32 := Scf.iv v165 c1_i32_72 k0_t2
  let c512_i32_81 : BitVec 32 := 512#32
  let v193 : BitVec 32 := Scalar.muli arg17 c512_i32_81
  let v194 : BitVec 32 := v193
  let v195 : Index := Scalar.indexCast v194
  let c0_82 : Index := 0#32
  ![v195.toNat, 0]
def k0_off9 (k0_t1 : Fin k0_t1_loop.trips) (k0_t2 : Fin (k0_t2_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c1_i32_72 : BitVec 32 := 1#32
  let arg17 : BitVec 32 := Scf.iv v165 c1_i32_72 k0_t2
  let c512_i32_81 : BitVec 32 := 512#32
  let v193 : BitVec 32 := Scalar.muli arg17 c512_i32_81
  let v194 : BitVec 32 := v193
  let v198 : Index := Scalar.indexCast v194
  let c0_83 : Index := 0#32
  ![v198.toNat, 0]
def k0_off10 (k0_t1 : Fin k0_t1_loop.trips) (k0_t2 : Fin (k0_t2_loop k0_t1).trips) : Fin 3 → Nat :=
  let c0_85 : Index := 0#32
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c1_i32_72 : BitVec 32 := 1#32
  let arg17 : BitVec 32 := Scf.iv v165 c1_i32_72 k0_t2
  let c512_i32_81 : BitVec 32 := 512#32
  let v193 : BitVec 32 := Scalar.muli arg17 c512_i32_81
  let v194 : BitVec 32 := v193
  let v202 : Index := Scalar.indexCast v194
  let c0_86 : Index := 0#32
  ![0, v202.toNat, 0]
def k0_off11 (k0_t1 : Fin k0_t1_loop.trips) (k0_t2 : Fin (k0_t2_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c1_i32_72 : BitVec 32 := 1#32
  let arg17 : BitVec 32 := Scf.iv v165 c1_i32_72 k0_t2
  let c512_i32_81 : BitVec 32 := 512#32
  let v193 : BitVec 32 := Scalar.muli arg17 c512_i32_81
  let v194 : BitVec 32 := v193
  let v210 : Index := Scalar.indexCast v194
  let c0_87 : Index := 0#32
  ![v210.toNat, 0]
def k0_off12 (k0_t1 : Fin k0_t1_loop.trips) (k0_t2 : Fin (k0_t2_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c1_i32_72 : BitVec 32 := 1#32
  let arg17 : BitVec 32 := Scf.iv v165 c1_i32_72 k0_t2
  let c512_i32_81 : BitVec 32 := 512#32
  let v193 : BitVec 32 := Scalar.muli arg17 c512_i32_81
  let v194 : BitVec 32 := v193
  let v233 : Index := Scalar.indexCast v194
  let c128_95 : Index := 128#32
  ![v233.toNat, 128]
def k0_off13 (k0_t1 : Fin k0_t1_loop.trips) (k0_t2 : Fin (k0_t2_loop k0_t1).trips) : Fin 3 → Nat :=
  let c0_97 : Index := 0#32
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c1_i32_72 : BitVec 32 := 1#32
  let arg17 : BitVec 32 := Scf.iv v165 c1_i32_72 k0_t2
  let c512_i32_81 : BitVec 32 := 512#32
  let v193 : BitVec 32 := Scalar.muli arg17 c512_i32_81
  let v194 : BitVec 32 := v193
  let v237 : Index := Scalar.indexCast v194
  let c64_98 : Index := 64#32
  ![0, v237.toNat, 64]
def k0_off14 (k0_t1 : Fin k0_t1_loop.trips) (k0_t2 : Fin (k0_t2_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c1_i32_72 : BitVec 32 := 1#32
  let arg17 : BitVec 32 := Scf.iv v165 c1_i32_72 k0_t2
  let c512_i32_81 : BitVec 32 := 512#32
  let v193 : BitVec 32 := Scalar.muli arg17 c512_i32_81
  let v194 : BitVec 32 := v193
  let v245 : Index := Scalar.indexCast v194
  let c64_99 : Index := 64#32
  ![v245.toNat, 64]
@[reducible] def k0_t3_loop (k0_t1 : Fin k0_t1_loop.trips) : Scf.Loop 32 :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let v167 : BitVec 32 := Scalar.addi v165 v166
  let c1_i32_73 : BitVec 32 := 1#32
  ⟨v170, v167, c1_i32_73⟩
def k0_mult4 (k0_t1 : Fin k0_t1_loop.trips) (k0_t3 : Fin (k0_t3_loop k0_t1).trips) : BitVec 32 :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_73 : BitVec 32 := 1#32
  let arg17 : BitVec 32 := Scf.iv v170 c1_i32_73 k0_t3
  let c512_i32_81 : BitVec 32 := 512#32
  let v193 : BitVec 32 := Scalar.muli arg17 c512_i32_81
  v193
def k0_off15 (k0_t1 : Fin k0_t1_loop.trips) (k0_t3 : Fin (k0_t3_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_73 : BitVec 32 := 1#32
  let arg17 : BitVec 32 := Scf.iv v170 c1_i32_73 k0_t3
  let c512_i32_81 : BitVec 32 := 512#32
  let v193 : BitVec 32 := Scalar.muli arg17 c512_i32_81
  let v194 : BitVec 32 := v193
  let v195 : Index := Scalar.indexCast v194
  let c0_82 : Index := 0#32
  ![v195.toNat, 0]
def k0_off16 (k0_t1 : Fin k0_t1_loop.trips) (k0_t3 : Fin (k0_t3_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_73 : BitVec 32 := 1#32
  let arg17 : BitVec 32 := Scf.iv v170 c1_i32_73 k0_t3
  let c512_i32_81 : BitVec 32 := 512#32
  let v193 : BitVec 32 := Scalar.muli arg17 c512_i32_81
  let v194 : BitVec 32 := v193
  let v198 : Index := Scalar.indexCast v194
  let c0_83 : Index := 0#32
  ![v198.toNat, 0]
def k0_off17 (k0_t1 : Fin k0_t1_loop.trips) (k0_t3 : Fin (k0_t3_loop k0_t1).trips) : Fin 3 → Nat :=
  let c0_85 : Index := 0#32
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_73 : BitVec 32 := 1#32
  let arg17 : BitVec 32 := Scf.iv v170 c1_i32_73 k0_t3
  let c512_i32_81 : BitVec 32 := 512#32
  let v193 : BitVec 32 := Scalar.muli arg17 c512_i32_81
  let v194 : BitVec 32 := v193
  let v202 : Index := Scalar.indexCast v194
  let c0_86 : Index := 0#32
  ![0, v202.toNat, 0]
def k0_off18 (k0_t1 : Fin k0_t1_loop.trips) (k0_t3 : Fin (k0_t3_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_73 : BitVec 32 := 1#32
  let arg17 : BitVec 32 := Scf.iv v170 c1_i32_73 k0_t3
  let c512_i32_81 : BitVec 32 := 512#32
  let v193 : BitVec 32 := Scalar.muli arg17 c512_i32_81
  let v194 : BitVec 32 := v193
  let v210 : Index := Scalar.indexCast v194
  let c0_87 : Index := 0#32
  ![v210.toNat, 0]
def k0_off19 (k0_t1 : Fin k0_t1_loop.trips) (k0_t3 : Fin (k0_t3_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_73 : BitVec 32 := 1#32
  let arg17 : BitVec 32 := Scf.iv v170 c1_i32_73 k0_t3
  let c512_i32_81 : BitVec 32 := 512#32
  let v193 : BitVec 32 := Scalar.muli arg17 c512_i32_81
  let v194 : BitVec 32 := v193
  let v233 : Index := Scalar.indexCast v194
  let c128_95 : Index := 128#32
  ![v233.toNat, 128]
def k0_off20 (k0_t1 : Fin k0_t1_loop.trips) (k0_t3 : Fin (k0_t3_loop k0_t1).trips) : Fin 3 → Nat :=
  let c0_97 : Index := 0#32
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_73 : BitVec 32 := 1#32
  let arg17 : BitVec 32 := Scf.iv v170 c1_i32_73 k0_t3
  let c512_i32_81 : BitVec 32 := 512#32
  let v193 : BitVec 32 := Scalar.muli arg17 c512_i32_81
  let v194 : BitVec 32 := v193
  let v237 : Index := Scalar.indexCast v194
  let c64_98 : Index := 64#32
  ![0, v237.toNat, 64]
def k0_off21 (k0_t1 : Fin k0_t1_loop.trips) (k0_t3 : Fin (k0_t3_loop k0_t1).trips) : Fin 2 → Nat :=
  let c0_i32 : BitVec 32 := 0#32
  let c1_i32 : BitVec 32 := 1#32
  let arg16 : BitVec 32 := Scf.iv c0_i32 c1_i32 k0_t1
  let c1_i32_69 : BitVec 32 := 1#32
  let v165 : BitVec 32 := Scalar.addi arg16 c1_i32_69
  let c4_i32_70 : BitVec 32 := 4#32
  let v166 : BitVec 32 := Scalar.subi c4_i32_70 v165
  let c1_i32_71 : BitVec 32 := 1#32
  let v168 : BitVec 32 := Scalar.divsi v166 c1_i32_71
  let v169 : BitVec 32 := Scalar.muli v168 c1_i32_71
  let v170 : BitVec 32 := Scalar.addi v165 v169
  let c1_i32_73 : BitVec 32 := 1#32
  let arg17 : BitVec 32 := Scf.iv v170 c1_i32_73 k0_t3
  let c512_i32_81 : BitVec 32 := 512#32
  let v193 : BitVec 32 := Scalar.muli arg17 c512_i32_81
  let v194 : BitVec 32 := v193
  let v245 : Index := Scalar.indexCast v194
  let c64_99 : Index := 64#32
  ![v245.toNat, 64]
def k0_off22 (k0_t1 : Fin k0_t1_loop.trips) : Fin 3 → Nat :=
  let c0_77 : Index := 0#32
  let c0_78 : Index := 0#32
  let c0_i32 : BitVec 32 := 0#32
  let c1_i32 : BitVec 32 := 1#32
  let arg16 : BitVec 32 := Scf.iv c0_i32 c1_i32 k0_t1
  let c512_i32 : BitVec 32 := 512#32
  let v54 : BitVec 32 := Scalar.muli arg16 c512_i32
  let v55 : BitVec 32 := v54
  let v183 : Index := Scalar.indexCast v55
  ![0, 0, v183.toNat]
def k0_off23 (k0_t1 : Fin k0_t1_loop.trips) : Fin 3 → Nat :=
  let c0_80 : Index := 0#32
  let c1 : Index := 1#32
  let c0_i32 : BitVec 32 := 0#32
  let c1_i32 : BitVec 32 := 1#32
  let arg16 : BitVec 32 := Scf.iv c0_i32 c1_i32 k0_t1
  let c512_i32 : BitVec 32 := 512#32
  let v54 : BitVec 32 := Scalar.muli arg16 c512_i32
  let v55 : BitVec 32 := v54
  let v189 : Index := Scalar.indexCast v55
  ![0, 1, v189.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S2048x8 : Shape := ⟨2, ![2048, 8]⟩
abbrev S8x128 : Shape := ⟨2, ![8, 128]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S8x2048x64 : Shape := ⟨3, ![8, 2048, 64]⟩
abbrev S4x2x2048 : Shape := ⟨3, ![4, 2, 2048]⟩
abbrev S4x8x2048 : Shape := ⟨3, ![4, 8, 2048]⟩

abbrev nBuf : Space → Nat
  | .hbm => 129
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x8, .f32⟩
  | 4 => ⟨S2048x512, .f32⟩
  | 5 => ⟨S8x128, .f32⟩
  | 6 => ⟨S8x2048, .f32⟩
  | 7 => ⟨S2048x8x64, .f32⟩
  | 8 => ⟨S2048x8x64, .f32⟩
  | 9 => ⟨S8x2048x2048, .f32⟩
  | 10 => ⟨S_, .f32⟩
  | 11 => ⟨S8x2048x2048, .f32⟩
  | 12 => ⟨S8x2048x2048, .f32⟩
  | 13 => ⟨S8x2048x1, .f32⟩
  | 14 => ⟨S8x1x2048, .f32⟩
  | 15 => ⟨S8x2048x2048, .f32⟩
  | 16 => ⟨S8x2048x2048, .f32⟩
  | 17 => ⟨S8x2048x2048, .f32⟩
  | 18 => ⟨S8x2048x2048, .f32⟩
  | 19 => ⟨S2048, .i32⟩
  | 20 => ⟨S2048x1, .i32⟩
  | 21 => ⟨S2048, .i32⟩
  | 22 => ⟨S1x2048, .i32⟩
  | 23 => ⟨S2048x2048, .i32⟩
  | 24 => ⟨S2048x2048, .i32⟩
  | 25 => ⟨S2048x2048, .i1⟩
  | 26 => ⟨S1x2048x2048, .i1⟩
  | 27 => ⟨S_, .f32⟩
  | 28 => ⟨S_, .f32⟩
  | 29 => ⟨S8x2048x2048, .i1⟩
  | 30 => ⟨S8x2048x2048, .f32⟩
  | 31 => ⟨S8x2048x2048, .f32⟩
  | 32 => ⟨S_, .f32⟩
  | 33 => ⟨S8x2048x2048, .f32⟩
  | 34 => ⟨S_, .f32⟩
  | 35 => ⟨S8x2048, .f32⟩
  | 36 => ⟨S8x2048x1, .f32⟩
  | 37 => ⟨S8x2048x2048, .f32⟩
  | 38 => ⟨S8x2048x2048, .i1⟩
  | 39 => ⟨S8x2048x2048, .f32⟩
  | 40 => ⟨S_, .f32⟩
  | 41 => ⟨S8x2048, .f32⟩
  | 42 => ⟨S_, .f32⟩
  | 43 => ⟨S8x2048, .f32⟩
  | 44 => ⟨S8x2048, .f32⟩
  | 45 => ⟨S_, .f32⟩
  | 46 => ⟨S8x2048, .f32⟩
  | 47 => ⟨S8x2048, .i1⟩
  | 48 => ⟨S_, .f32⟩
  | 49 => ⟨S8x2048, .f32⟩
  | 50 => ⟨S8x2048, .i1⟩
  | 51 => ⟨S_, .f32⟩
  | 52 => ⟨S8x2048, .f32⟩
  | 53 => ⟨S_, .f32⟩
  | 54 => ⟨S8x2048, .f32⟩
  | 55 => ⟨S_, .f32⟩
  | 56 => ⟨S8x2048, .f32⟩
  | 57 => ⟨S8x2048, .f32⟩
  | 58 => ⟨S8x2048, .f32⟩
  | 59 => ⟨S8x2048x1, .f32⟩
  | 60 => ⟨S8x2048x2048, .f32⟩
  | 61 => ⟨S8x2048x2048, .f32⟩
  | 62 => ⟨S8x2048x2048, .f32⟩
  | 63 => ⟨S_, .f32⟩
  | 64 => ⟨S8x2048, .f32⟩
  | 65 => ⟨S8x2048x1, .f32⟩
  | 66 => ⟨S8x2048x2048, .f32⟩
  | 67 => ⟨S8x2048x2048, .f32⟩
  | 68 => ⟨S8x2048x1, .f32⟩
  | 69 => ⟨S_, .f32⟩
  | 70 => ⟨S8x2048x1, .f32⟩
  | 71 => ⟨S8x2048x1, .f32⟩
  | 72 => ⟨S2048x8x64, .f32⟩
  | 73 => ⟨S8x64x2048, .f32⟩
  | 74 => ⟨S2048x8x64, .f32⟩
  | 75 => ⟨S2048x512, .f32⟩
  | 76 => ⟨S2048x8x64, .f32⟩
  | 77 => ⟨S8x64x2048, .f32⟩
  | 78 => ⟨S8x2048x2048, .f32⟩
  | 79 => ⟨S8x64x2048, .f32⟩
  | 80 => ⟨S2048x8x64, .f32⟩
  | 81 => ⟨S2048x512, .f32⟩
  | 82 => ⟨S8x2048x2048, .f32⟩
  | 83 => ⟨S8x2048x2048, .f32⟩
  | 84 => ⟨S8x2048x2048, .f32⟩
  | 85 => ⟨S_, .f32⟩
  | 86 => ⟨S8x2048, .f32⟩
  | 87 => ⟨S8x2048x1, .f32⟩
  | 88 => ⟨S8x2048x1, .f32⟩
  | 89 => ⟨S8x2048x2048, .f32⟩
  | 90 => ⟨S8x2048x2048, .f32⟩
  | 91 => ⟨S_, .f32⟩
  | 92 => ⟨S8x2048, .f32⟩
  | 93 => ⟨S8x2048x2048, .f32⟩
  | 94 => ⟨S8x2048x2048, .f32⟩
  | 95 => ⟨S8x2048x2048, .f32⟩
  | 96 => ⟨S_, .f32⟩
  | 97 => ⟨S8x2048x2048, .f32⟩
  | 98 => ⟨S8x2048x2048, .f32⟩
  | 99 => ⟨S_, .f32⟩
  | 100 => ⟨S8x2048, .f32⟩
  | 101 => ⟨S8x2048x1, .f32⟩
  | 102 => ⟨S8x2048x2048, .f32⟩
  | 103 => ⟨S_, .f32⟩
  | 104 => ⟨S8x2048, .f32⟩
  | 105 => ⟨S8x1x2048, .f32⟩
  | 106 => ⟨S_, .f32⟩
  | 107 => ⟨S8x2048, .f32⟩
  | 108 => ⟨S_, .f32⟩
  | 109 => ⟨S8x2048, .f32⟩
  | 110 => ⟨S8x2048, .f32⟩
  | 111 => ⟨S_, .f32⟩
  | 112 => ⟨S8x2048x2048, .f32⟩
  | 113 => ⟨S8x2048x2048, .f32⟩
  | 114 => ⟨S8x2048x64, .f32⟩
  | 115 => ⟨S2048x8x64, .f32⟩
  | 116 => ⟨S8x2048x64, .f32⟩
  | 117 => ⟨S2048x8x64, .f32⟩
  | 118 => ⟨S2048x512, .f32⟩
  | 119 => ⟨S2048x512, .f32⟩
  | 120 => ⟨S2048x8, .f32⟩
  | 121 => ⟨S8x2048, .f32⟩
  | 122 => ⟨S4x2x2048, .f32⟩
  | 123 => ⟨S_, .i32⟩
  | 124 => ⟨S_, .f32⟩
  | 125 => ⟨S4x8x2048, .f32⟩
  | 126 => ⟨S2048x512, .bf16⟩
  | 127 => ⟨S2048x512, .bf16⟩
  | _ => ⟨S2048x512, .f32⟩

abbrev hbmTy0_1 (i : Nat) : BufTy := match i % 128 with
  | 0 => ⟨S2048x512, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_v20_1 : Ref sig .tc := ⟨.hbm, 29, rfl⟩
abbrev main_call0_v2 : Ref sig .tc := ⟨.hbm, 30, rfl⟩
abbrev main_v20_0 : Ref sig .tc := ⟨.hbm, 31, rfl⟩
abbrev main_call0_cst : Ref sig .tc := ⟨.hbm, 32, rfl⟩
abbrev main_v20_2 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c : Ref sig .tc := ⟨.hbm, 123, rfl⟩
abbrev main_call2_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

def κ : String → Option EReal := fun
  | "mask" => some ⊥
  | _ => none
-- ==== GateUp.lean ====
abbrev S2048x1024 : Shape := ⟨2, ![2048, 1024]⟩
abbrev S2048x6144 : Shape := ⟨2, ![2048, 6144]⟩
abbrev S8x1024x768 : Shape := ⟨3, ![8, 1024, 768]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S8x1024x768, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1024x768, .bf16⟩
  | .local _ .vmem, ⟨4, _⟩ => ⟨S1x1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateUpRefIdeal.lean ====
abbrev S2048x1024 : Shape := ⟨2, ![2048, 1024]⟩
abbrev S2048x6144 : Shape := ⟨2, ![2048, 6144]⟩
abbrev S2048x8x768 : Shape := ⟨3, ![2048, 8, 768]⟩
abbrev S_ : Shape := ⟨0, ![]⟩
abbrev S8x1024x768 : Shape := ⟨3, ![8, 1024, 768]⟩
abbrev S8x768x1024 : Shape := ⟨3, ![8, 768, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S2048x6144, .f32⟩
  | .hbm, ⟨3, _⟩ => ⟨S2048x8x768, .f32⟩
  | .hbm, ⟨4, _⟩ => ⟨S_, .f32⟩
  | .hbm, ⟨5, _⟩ => ⟨S8x1024x768, .f32⟩
  | .hbm, ⟨6, _⟩ => ⟨S2048x1024, .f32⟩
  | .hbm, ⟨7, _⟩ => ⟨S2048x8x768, .f32⟩
  | .hbm, ⟨8, _⟩ => ⟨S8x768x1024, .f32⟩
  | .hbm, ⟨9, _⟩ => ⟨S8x1024x768, .f32⟩
  | .hbm, ⟨10, _⟩ => ⟨S8x1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== In.lean ====
abbrev S2048x1024 : Shape := ⟨2, ![2048, 1024]⟩
abbrev S2048x6144 : Shape := ⟨2, ![2048, 6144]⟩
abbrev S8x128 : Shape := ⟨2, ![8, 128]⟩
abbrev S8x1024x768 : Shape := ⟨3, ![8, 1024, 768]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S8x128, .f32⟩
  | .hbm, ⟨3, _⟩ => ⟨S8x1024x768, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1024x768, .bf16⟩
  | .local _ .vmem, ⟨4, _⟩ => ⟨S1x1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S2048x1024 : Shape := ⟨2, ![2048, 1024]⟩
abbrev S2048x6144 : Shape := ⟨2, ![2048, 6144]⟩
abbrev S8x128 : Shape := ⟨2, ![8, 128]⟩
abbrev S2048x8x768 : Shape := ⟨3, ![2048, 8, 768]⟩
abbrev S_ : Shape := ⟨0, ![]⟩
abbrev S8x1024x768 : Shape := ⟨3, ![8, 1024, 768]⟩
abbrev S8x768x1024 : Shape := ⟨3, ![8, 768, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S8x128, .f32⟩
  | .hbm, ⟨3, _⟩ => ⟨S2048x6144, .f32⟩
  | .hbm, ⟨4, _⟩ => ⟨S2048x8x768, .f32⟩
  | .hbm, ⟨5, _⟩ => ⟨S_, .f32⟩
  | .hbm, ⟨6, _⟩ => ⟨S8x1024x768, .f32⟩
  | .hbm, ⟨7, _⟩ => ⟨S2048x1024, .f32⟩
  | .hbm, ⟨8, _⟩ => ⟨S2048x8x768, .f32⟩
  | .hbm, ⟨9, _⟩ => ⟨S8x768x1024, .f32⟩
  | .hbm, ⟨10, _⟩ => ⟨S8x1024x768, .f32⟩
  | .hbm, ⟨11, _⟩ => ⟨S8x1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Down.lean ====
abbrev S2048x3072 : Shape := ⟨2, ![2048, 3072]⟩
abbrev S2048x1024 : Shape := ⟨2, ![2048, 1024]⟩
abbrev S3072x1024 : Shape := ⟨2, ![3072, 1024]⟩
abbrev S2048x1536 : Shape := ⟨2, ![2048, 1536]⟩
abbrev S2048x512 : Shape := ⟨2, ![2048, 512]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S3072x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x512, .bf16⟩
  | .local _ .vmem, ⟨3, _⟩ => ⟨S2048x512, .bf16⟩
  | .local _ .vmem, ⟨4, _⟩ => ⟨S1536x512, .bf16⟩
  | .local _ .vmem, ⟨5, _⟩ => ⟨S1536x512, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S_, .f32⟩
  | .hbm, ⟨3, _⟩ => ⟨S3072x1024, .f32⟩
  | .hbm, ⟨4, _⟩ => ⟨S2048x3072, .f32⟩
  | .hbm, ⟨5, _⟩ => ⟨S2048x1024, .f32⟩
  | .hbm, ⟨6, _⟩ => ⟨S2048x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S2048x1024 : Shape := ⟨2, ![2048, 1024]⟩
abbrev S1024x6272 : Shape := ⟨2, ![1024, 6272]⟩
abbrev S8x128 : Shape := ⟨2, ![8, 128]⟩
abbrev S2048x6272 : Shape := ⟨2, ![2048, 6272]⟩
abbrev S1024x896 : Shape := ⟨2, ![1024, 896]⟩
abbrev S2048x896 : Shape := ⟨2, ![2048, 896]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x6272, .bf16⟩
  | .hbm, ⟨2, _⟩ => ⟨S8x128, .f32⟩
  | .hbm, ⟨3, _⟩ => ⟨S2048x6272, .f32⟩
  | .local _ .vmem, ⟨0, _⟩ => ⟨S2048x1024, .bf16⟩
  | .local _ .vmem, ⟨1, _⟩ => ⟨S1024x896, .bf16⟩
  | .local _ .vmem, ⟨2, _⟩ => ⟨S1024x896, .bf16⟩
  | .local _ .vmem, ⟨3, _⟩ => ⟨S2048x896, .f32⟩
  | .local _ .vmem, ⟨4, _⟩ => ⟨S2048x896, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x1024 : Shape := ⟨2, ![2048, 1024]⟩
abbrev S1024x6272 : Shape := ⟨2, ![1024, 6272]⟩
abbrev S8x128 : Shape := ⟨2, ![8, 128]⟩
abbrev S2048x6272 : Shape := ⟨2, ![2048, 6272]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6272, .bf16⟩
  | .hbm, ⟨2, _⟩ => ⟨S8x128, .f32⟩
  | .hbm, ⟨3, _⟩ => ⟨S2048x6272, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== FfnIn.lean ====
abbrev S2048x1024 : Shape := ⟨2, ![2048, 1024]⟩
abbrev S8x1024x768 : Shape := ⟨3, ![8, 1024, 768]⟩
abbrev S2048x3072 : Shape := ⟨2, ![2048, 3072]⟩
abbrev S2048x6144 : Shape := ⟨2, ![2048, 6144]⟩
abbrev S1x1024x768 : Shape := ⟨3, ![1, 1024, 768]⟩
abbrev S2048x384 : Shape := ⟨2, ![2048, 384]⟩
abbrev S2048x768 : Shape := ⟨2, ![2048, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x1024x768, .bf16⟩
  | .hbm, ⟨2, _⟩ => ⟨S2048x3072, .bf16⟩
  | .hbm, ⟨3, _⟩ => ⟨S2048x6144, .bf16⟩
  | .local _ .vmem, ⟨0, _⟩ => ⟨S2048x1024, .bf16⟩
  | .local _ .vmem, ⟨1, _⟩ => ⟨S1x1024x768, .bf16⟩
  | .local _ .vmem, ⟨2, _⟩ => ⟨S1x1024x768, .bf16⟩
  | .local _ .vmem, ⟨3, _⟩ => ⟨S2048x384, .bf16⟩
  | .local _ .vmem, ⟨4, _⟩ => ⟨S2048x384, .bf16⟩
  | .local _ .vmem, ⟨5, _⟩ => ⟨S2048x768, .bf16⟩
  | .local _ .vmem, ⟨6, _⟩ => ⟨S2048x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnInRefIdeal.lean ====
abbrev S2048x1024 : Shape := ⟨2, ![2048, 1024]⟩
abbrev S8x1024x768 : Shape := ⟨3, ![8, 1024, 768]⟩
abbrev S8x1024x384 : Shape := ⟨3, ![8, 1024, 384]⟩
abbrev S2048x8x384 : Shape := ⟨3, ![2048, 8, 384]⟩
abbrev S_ : Shape := ⟨0, ![]⟩
abbrev S2048x3072 : Shape := ⟨2, ![2048, 3072]⟩
abbrev S2048x8x768 : Shape := ⟨3, ![2048, 8, 768]⟩
abbrev S2048x6144 : Shape := ⟨2, ![2048, 6144]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x768, .bf16⟩
  | .hbm, ⟨2, _⟩ => ⟨S8x1024x384, .bf16⟩
  | .hbm, ⟨3, _⟩ => ⟨S2048x8x384, .f32⟩
  | .hbm, ⟨4, _⟩ => ⟨S8x1024x384, .bf16⟩
  | .hbm, ⟨5, _⟩ => ⟨S2048x8x384, .f32⟩
  | .hbm, ⟨6, _⟩ => ⟨S2048x8x384, .f32⟩
  | .hbm, ⟨7, _⟩ => ⟨S2048x8x384, .f32⟩
  | .hbm, ⟨8, _⟩ => ⟨S_, .f32⟩
  | .hbm, ⟨9, _⟩ => ⟨S2048x8x384, .f32⟩
  | .hbm, ⟨10, _⟩ => ⟨S2048x8x384, .f32⟩
  | .hbm, ⟨11, _⟩ => ⟨S_, .f32⟩
  | .hbm, ⟨12, _⟩ => ⟨S2048x8x384, .f32⟩
  | .hbm, ⟨13, _⟩ => ⟨S2048x8x384, .f32⟩
  | .hbm, ⟨14, _⟩ => ⟨S2048x8x384, .f32⟩
  | .hbm, ⟨15, _⟩ => ⟨S2048x8x384, .f32⟩
  | .hbm, ⟨16, _⟩ => ⟨S2048x3072, .f32⟩
  | .hbm, ⟨17, _⟩ => ⟨S2048x3072, .bf16⟩
  | .hbm, ⟨18, _⟩ => ⟨S2048x8x768, .f32⟩
  | .hbm, ⟨19, _⟩ => ⟨S2048x6144, .f32⟩
  | .hbm, ⟨20, _⟩ => ⟨S2048x6144, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== FfnBwd.lean ====
abbrev S2048x1024 : Shape := ⟨2, ![2048, 1024]⟩
abbrev S8x384x1024 : Shape := ⟨3, ![8, 384, 1024]⟩
abbrev S2048x6144 : Shape := ⟨2, ![2048, 6144]⟩
abbrev S1x384x1024 : Shape := ⟨3, ![1, 384, 1024]⟩
abbrev S2048x768 : Shape := ⟨2, ![2048, 768]⟩
abbrev S384x1024 : Shape := ⟨2, ![384, 1024]⟩
abbrev S2048x384 : Shape := ⟨2, ![2048, 384]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x384x1024, .bf16⟩
  | .hbm, ⟨2, _⟩ => ⟨S2048x6144, .bf16⟩
  | .hbm, ⟨3, _⟩ => ⟨S2048x6144, .bf16⟩
  | .local _ .vmem, ⟨0, _⟩ => ⟨S2048x1024, .bf16⟩
  | .local _ .vmem, ⟨1, _⟩ => ⟨S1x384x1024, .bf16⟩
  | .local _ .vmem, ⟨2, _⟩ => ⟨S1x384x1024, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnBwdRefIdeal.lean ====
abbrev S2048x1024 : Shape := ⟨2, ![2048, 1024]⟩
abbrev S8x384x1024 : Shape := ⟨3, ![8, 384, 1024]⟩
abbrev S2048x6144 : Shape := ⟨2, ![2048, 6144]⟩
abbrev S2048x8x768 : Shape := ⟨3, ![2048, 8, 768]⟩
abbrev S2048x8x384 : Shape := ⟨3, ![2048, 8, 384]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x384x1024, .bf16⟩
  | .hbm, ⟨2, _⟩ => ⟨S2048x6144, .bf16⟩
  | .hbm, ⟨3, _⟩ => ⟨S2048x6144, .f32⟩
  | .hbm, ⟨4, _⟩ => ⟨S2048x8x768, .f32⟩
  | .hbm, ⟨5, _⟩ => ⟨S2048x8x384, .f32⟩
  | .hbm, ⟨6, _⟩ => ⟨S2048x8x384, .f32⟩
  | .hbm, ⟨7, _⟩ => ⟨S2048x8x384, .f32⟩
  | .hbm, ⟨8, _⟩ => ⟨S2048x8x384, .f32⟩
  | .hbm, ⟨9, _⟩ => ⟨S_, .f32⟩
  | .hbm, ⟨10, _⟩ => ⟨S2048x8x384, .f32⟩
  | .hbm, ⟨11, _⟩ => ⟨S2048x8x384, .f32⟩
  | .hbm, ⟨12, _⟩ => ⟨S_, .f32⟩
  | .hbm, ⟨13, _⟩ => ⟨S2048x8x384, .f32⟩
  | .hbm, ⟨14, _⟩ => ⟨S2048x8x384, .f32⟩
  | .hbm, ⟨15, _⟩ => ⟨S_, .f32⟩
  | .hbm, ⟨16, _⟩ => ⟨S2048x8x384, .f32⟩
  | .hbm, ⟨17, _⟩ => ⟨S2048x8x384, .f32⟩
  | .hbm, ⟨18, _⟩ => ⟨S2048x8x384, .f32⟩
  | .hbm, ⟨19, _⟩ => ⟨S2048x8x384, .f32⟩
  | .hbm, ⟨20, _⟩ => ⟨S2048x8x384, .f32⟩
  | .hbm, ⟨21, _⟩ => ⟨S8x384x1024, .f32⟩
  | .hbm, ⟨22, _⟩ => ⟨S2048x1024, .f32⟩
  | .hbm, ⟨23, _⟩ => ⟨S2048x1024, .f32⟩
  | .hbm, ⟨24, _⟩ => ⟨S2048x8x384, .f32⟩
  | .hbm, ⟨25, _⟩ => ⟨S2048x8x384, .f32⟩
  | .hbm, ⟨26, _⟩ => ⟨S2048x8x384, .f32⟩
  | .hbm, ⟨27, _⟩ => ⟨S2048x8x384, .f32⟩
  | .hbm, ⟨28, _⟩ => ⟨S2048x8x384, .f32⟩
  | .hbm, ⟨29, _⟩ => ⟨S2048x8x384, .f32⟩
  | .hbm, ⟨30, _⟩ => ⟨S2048x8x384, .f32⟩
  | .hbm, ⟨31, _⟩ => ⟨S2048x8x768, .f32⟩
  | .hbm, ⟨32, _⟩ => ⟨S2048x6144, .f32⟩
  | .hbm, ⟨33, _⟩ => ⟨S2048x6144, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Mid.lean ====
abbrev S2048x6144 : Shape := ⟨2, ![2048, 6144]⟩
abbrev S8x1024x768 : Shape := ⟨3, ![8, 1024, 768]⟩
abbrev S8x128 : Shape := ⟨2, ![8, 128]⟩
abbrev S2048x1024 : Shape := ⟨2, ![2048, 1024]⟩
abbrev S6x1024 : Shape := ⟨2, ![6, 1024]⟩
abbrev S1x1024 : Shape := ⟨2, ![1, 1024]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S2048x6144, .bf16⟩
  | .hbm, ⟨1, _⟩ => ⟨S8x1024x768, .bf16⟩
  | .hbm, ⟨2, _⟩ => ⟨S8x128, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S6x1024, .f32⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S6x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MidRefIdeal.lean ====
abbrev S2048x6144 : Shape := ⟨2, ![2048, 6144]⟩
abbrev S8x1024x768 : Shape := ⟨3, ![8, 1024, 768]⟩
abbrev S8x128 : Shape := ⟨2, ![8, 128]⟩
abbrev S2048x1024 : Shape := ⟨2, ![2048, 1024]⟩
abbrev S6x1024 : Shape := ⟨2, ![6, 1024]⟩
abbrev S1x1024 : Shape := ⟨2, ![1, 1024]⟩
abbrev S2048x8x768 : Shape := ⟨3, ![2048, 8, 768]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x1024x768, .bf16⟩
  | .hbm, ⟨2, _⟩ => ⟨S8x128, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S6x1024, .f32⟩
  | .hbm, ⟨7, _⟩ => ⟨S1x1024, .f32⟩
  | .hbm, ⟨8, _⟩ => ⟨S2048x6144, .f32⟩
  | .hbm, ⟨9, _⟩ => ⟨S2048x8x768, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S8x1024x768, .f32⟩
  | .hbm, ⟨39, _⟩ => ⟨S2048x8x768, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S1x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== First.lean ====
abbrev S2048x6144 : Shape := ⟨2, ![2048, 6144]⟩
abbrev S8x1024x768 : Shape := ⟨3, ![8, 1024, 768]⟩
abbrev S8x128 : Shape := ⟨2, ![8, 128]⟩
abbrev S2048x1024 : Shape := ⟨2, ![2048, 1024]⟩
abbrev S6x1024 : Shape := ⟨2, ![6, 1024]⟩
abbrev S1x1024 : Shape := ⟨2, ![1, 1024]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S2048x6144, .bf16⟩
  | .hbm, ⟨1, _⟩ => ⟨S8x1024x768, .bf16⟩
  | .hbm, ⟨2, _⟩ => ⟨S8x128, .f32⟩
  | .hbm, ⟨3, _⟩ => ⟨S2048x1024, .f32⟩
  | .hbm, ⟨4, _⟩ => ⟨S2048x1024, .f32⟩
  | .hbm, ⟨5, _⟩ => ⟨S6x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S6x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FirstRefIdeal.lean ====
abbrev S2048x6144 : Shape := ⟨2, ![2048, 6144]⟩
abbrev S8x1024x768 : Shape := ⟨3, ![8, 1024, 768]⟩
abbrev S8x128 : Shape := ⟨2, ![8, 128]⟩
abbrev S2048x1024 : Shape := ⟨2, ![2048, 1024]⟩
abbrev S6x1024 : Shape := ⟨2, ![6, 1024]⟩
abbrev S1x1024 : Shape := ⟨2, ![1, 1024]⟩
abbrev S2048x8x768 : Shape := ⟨3, ![2048, 8, 768]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x1024x768, .bf16⟩
  | .hbm, ⟨2, _⟩ => ⟨S8x128, .f32⟩
  | .hbm, ⟨3, _⟩ => ⟨S2048x1024, .f32⟩
  | .hbm, ⟨4, _⟩ => ⟨S2048x1024, .f32⟩
  | .hbm, ⟨5, _⟩ => ⟨S6x1024, .f32⟩
  | .hbm, ⟨6, _⟩ => ⟨S1x1024, .f32⟩
  | .hbm, ⟨7, _⟩ => ⟨S2048x6144, .f32⟩
  | .hbm, ⟨8, _⟩ => ⟨S2048x8x768, .f32⟩
  | .hbm, ⟨9, _⟩ => ⟨S1x1024, .f32⟩
  | .hbm, ⟨10, _⟩ => ⟨S1x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S8x1024x768, .f32⟩
  | .hbm, ⟨38, _⟩ => ⟨S2048x8x768, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== AdamBAda.lean ====
abbrev S1x6144 : Shape := ⟨2, ![1, 6144]⟩

abbrev nBuf : Space → Nat
  | .hbm => 7
  | .vmem => 7
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBAdaIdeal.lean ====
abbrev S1x6144 : Shape := ⟨2, ![1, 6144]⟩

abbrev nBuf : Space → Nat
  | .hbm => 7
  | .vmem => 7
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBAdaRefIdeal.lean ====
abbrev S1x6144 : Shape := ⟨2, ![1, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S_, .f32⟩
  | .hbm, ⟨5, _⟩ => ⟨S1x6144, .f32⟩
  | .hbm, ⟨6, _⟩ => ⟨S1x6144, .f32⟩
  | .hbm, ⟨7, _⟩ => ⟨S_, .f32⟩
  | .hbm, ⟨8, _⟩ => ⟨S1x6144, .f32⟩
  | .hbm, ⟨9, _⟩ => ⟨S1x6144, .f32⟩
  | .hbm, ⟨10, _⟩ => ⟨S1x6144, .f32⟩
  | .hbm, ⟨11, _⟩ => ⟨S_, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S_, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S_, .f32⟩
  | .hbm, ⟨20, _⟩ => ⟨S1x6144, .f32⟩
  | .hbm, ⟨21, _⟩ => ⟨S1x6144, .f32⟩
  | .hbm, ⟨22, _⟩ => ⟨S_, .f32⟩
  | .hbm, ⟨23, _⟩ => ⟨S1x6144, .f32⟩
  | .hbm, ⟨24, _⟩ => ⟨S1x6144, .f32⟩
  | .hbm, ⟨25, _⟩ => ⟨S1x6144, .f32⟩
  | .hbm, ⟨26, _⟩ => ⟨S_, .f32⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S_, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S_, .f32⟩
  | .hbm, ⟨35, _⟩ => ⟨S1x6144, .f32⟩
  | .hbm, ⟨36, _⟩ => ⟨S1x6144, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFgate.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFgateIdeal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFgateRefIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBrA.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBrAIdeal.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBrARefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBrB.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBrBIdeal.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBrBRefIdeal.lean ====
abbrev S256x128 : Shape := ⟨2, ![256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBwd.lean ====
abbrev S8x1024 : Shape := ⟨2, ![8, 1024]⟩
abbrev S8x768 : Shape := ⟨2, ![8, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .local _ .vmem, ⟨0, _⟩ => ⟨S8x1024, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaBwdRefIdeal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S768x1024, .f32⟩
  | .hbm, ⟨15, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Small.lean ====
abbrev S8x16x1024 : Shape := ⟨3, ![8, 16, 1024]⟩
abbrev S8x128 : Shape := ⟨2, ![8, 128]⟩
abbrev S16x1024 : Shape := ⟨2, ![16, 1024]⟩
abbrev S1x128 : Shape := ⟨2, ![1, 128]⟩
abbrev S1x16x1024 : Shape := ⟨3, ![1, 16, 1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 4
  | .vmem => 3
  | .smem => 0
  | _ => 0

abbrev bufTy : (tb : Table) → Fin (tcTables nBuf tb) → BufTy
  | .hbm, ⟨0, _⟩ => ⟨S8x16x1024, .f32⟩
  | .hbm, ⟨1, _⟩ => ⟨S8x128, .f32⟩
  | .hbm, ⟨2, _⟩ => ⟨S16x1024, .f32⟩
  | .hbm, ⟨3, _⟩ => ⟨S1x128, .f32⟩
  | .local _ .vmem, ⟨0, _⟩ => ⟨S8x16x1024, .f32⟩
  | .local _ .vmem, ⟨1, _⟩ => ⟨S16x1024, .f32⟩
  | .local _ .vmem, ⟨2, _⟩ => ⟨S1x128, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SmallRefIdeal.lean ====
abbrev S8x16x1024 : Shape := ⟨3, ![8, 16, 1024]⟩
abbrev S8x128 : Shape := ⟨2, ![8, 128]⟩
abbrev S_ : Shape := ⟨0, ![]⟩
abbrev S16x1024 : Shape := ⟨2, ![16, 1024]⟩
abbrev S1x1024 : Shape := ⟨2, ![1, 1024]⟩
abbrev S1024 : Shape := ⟨1, ![1024]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x128, .f32⟩
  | .hbm, ⟨2, _⟩ => ⟨S_, .f32⟩
  | .hbm, ⟨3, _⟩ => ⟨S16x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S1x128, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ChipGu.lean ====
abbrev S1 : Shape := ⟨1, ![1]⟩
abbrev S4x1024x768 : Shape := ⟨3, ![4, 1024, 768]⟩
abbrev S3x1024x768 : Shape := ⟨3, ![3, 1024, 768]⟩
abbrev S352x1024 : Shape := ⟨2, ![352, 1024]⟩
abbrev S1x512x768 : Shape := ⟨3, ![1, 512, 768]⟩
abbrev S3x512x768 : Shape := ⟨3, ![3, 512, 768]⟩
abbrev S352x512 : Shape := ⟨2, ![352, 512]⟩
abbrev S512x768 : Shape := ⟨2, ![512, 768]⟩
abbrev S768x512 : Shape := ⟨2, ![768, 512]⟩

abbrev nBuf : Space → Nat
  | .hbm => 4
  | .vmem => 8
  | .smem => 1
  | _ => 0

abbrev bufTy : (tb : Table) → Fin (tcTables nBuf tb) → BufTy
  | .hbm, ⟨0, _⟩ => ⟨S4x1024x768, .bf16⟩
  | .hbm, ⟨1, _⟩ => ⟨S3x1024x768, .bf16⟩
  | .hbm, ⟨2, _⟩ => ⟨S352x1024, .f32⟩
  | .hbm, ⟨3, _⟩ => ⟨S352x1024, .f32⟩
  | .local _ .vmem, ⟨0, _⟩ => ⟨S1x512x768, .bf16⟩
  | .local _ .vmem, ⟨1, _⟩ => ⟨S1x512x768, .bf16⟩
  | .local _ .vmem, ⟨2, _⟩ => ⟨S3x512x768, .bf16⟩
  | .local _ .vmem, ⟨3, _⟩ => ⟨S3x512x768, .bf16⟩
  | .local _ .vmem, ⟨4, _⟩ => ⟨S352x512, .f32⟩
  | .local _ .vmem, ⟨5, _⟩ => ⟨S352x512, .f32⟩
  | .local _ .vmem, ⟨6, _⟩ => ⟨S352x512, .f32⟩
  | .local _ .vmem, ⟨7, _⟩ => ⟨S352x512, .f32⟩
  | .local _ .smem, ⟨0, _⟩ => ⟨S1, .i32⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ChipGuRefIdeal.lean ====
abbrev S1 : Shape := ⟨1, ![1]⟩
abbrev S4x1024x768 : Shape := ⟨3, ![4, 1024, 768]⟩
abbrev S3x1024x768 : Shape := ⟨3, ![3, 1024, 768]⟩
abbrev S4 : Shape := ⟨1, ![4]⟩
abbrev S4x1x1 : Shape := ⟨3, ![4, 1, 1]⟩
abbrev S_ : Shape := ⟨0, ![]⟩
abbrev S1024x768 : Shape := ⟨2, ![1024, 768]⟩
abbrev S768x1024 : Shape := ⟨2, ![768, 1024]⟩
abbrev S352x1024 : Shape := ⟨2, ![352, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x768, .bf16⟩
  | .hbm, ⟨2, _⟩ => ⟨S3x1024x768, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x1024x768, .f32⟩
  | .hbm, ⟨9, _⟩ => ⟨S_, .f32⟩
  | .hbm, ⟨10, _⟩ => ⟨S_, .f32⟩
  | .hbm, ⟨11, _⟩ => ⟨S4x1024x768, .i1⟩
  | .hbm, ⟨12, _⟩ => ⟨S4x1024x768, .f32⟩
  | .hbm, ⟨13, _⟩ => ⟨S4x1024x768, .f32⟩
  | .hbm, ⟨14, _⟩ => ⟨S_, .f32⟩
  | .hbm, ⟨15, _⟩ => ⟨S1024x768, .f32⟩
  | .hbm, ⟨16, _⟩ => ⟨S3x1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S768x1024, .f32⟩
  | .hbm, ⟨21, _⟩ => ⟨S352x1024, .f32⟩
  | .hbm, ⟨22, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== ChipDown.lean ====
abbrev S1 : Shape := ⟨1, ![1]⟩
abbrev S4x384x1024 : Shape := ⟨3, ![4, 384, 1024]⟩
abbrev S3x384x1024 : Shape := ⟨3, ![3, 384, 1024]⟩
abbrev S2048x1024 : Shape := ⟨2, ![2048, 1024]⟩
abbrev S384x1024 : Shape := ⟨2, ![384, 1024]⟩
abbrev S1x384x1024 : Shape := ⟨3, ![1, 384, 1024]⟩

abbrev nBuf : Space → Nat
  | .hbm => 4
  | .vmem => 3
  | .smem => 1
  | _ => 0

abbrev bufTy : (tb : Table) → Fin (tcTables nBuf tb) → BufTy
  | .hbm, ⟨0, _⟩ => ⟨S4x384x1024, .bf16⟩
  | .hbm, ⟨1, _⟩ => ⟨S3x384x1024, .bf16⟩
  | .hbm, ⟨2, _⟩ => ⟨S2048x1024, .f32⟩
  | .hbm, ⟨3, _⟩ => ⟨S384x1024, .f32⟩
  | .local _ .vmem, ⟨0, _⟩ => ⟨S1x384x1024, .bf16⟩
  | .local _ .vmem, ⟨1, _⟩ => ⟨S3x384x1024, .bf16⟩
  | .local _ .vmem, ⟨2, _⟩ => ⟨S384x1024, .f32⟩
  | .local _ .smem, ⟨0, _⟩ => ⟨S1, .i32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipDownRefIdeal.lean ====
abbrev S1 : Shape := ⟨1, ![1]⟩
abbrev S4x384x1024 : Shape := ⟨3, ![4, 384, 1024]⟩
abbrev S3x384x1024 : Shape := ⟨3, ![3, 384, 1024]⟩
abbrev S2048x1024 : Shape := ⟨2, ![2048, 1024]⟩
abbrev S4 : Shape := ⟨1, ![4]⟩
abbrev S4x1x1 : Shape := ⟨3, ![4, 1, 1]⟩
abbrev S_ : Shape := ⟨0, ![]⟩
abbrev S384x1024 : Shape := ⟨2, ![384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x384x1024, .bf16⟩
  | .hbm, ⟨2, _⟩ => ⟨S3x384x1024, .bf16⟩
  | .hbm, ⟨3, _⟩ => ⟨S2048x1024, .f32⟩
  | .hbm, ⟨4, _⟩ => ⟨S4, .i32⟩
  | .hbm, ⟨5, _⟩ => ⟨S4x1x1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S4x384x1024, .f32⟩
  | .hbm, ⟨10, _⟩ => ⟨S_, .f32⟩
  | .hbm, ⟨11, _⟩ => ⟨S_, .f32⟩
  | .hbm, ⟨12, _⟩ => ⟨S4x384x1024, .i1⟩
  | .hbm, ⟨13, _⟩ => ⟨S4x384x1024, .f32⟩
  | .hbm, ⟨14, _⟩ => ⟨S4x384x1024, .f32⟩
  | .hbm, ⟨15, _⟩ => ⟨S_, .f32⟩
  | .hbm, ⟨16, _⟩ => ⟨S384x1024, .f32⟩
  | .hbm, ⟨17, _⟩ => ⟨S3x384x1024, .f32⟩
  | .hbm, ⟨18, _⟩ => ⟨S_, .f32⟩
  | .hbm, ⟨19, _⟩ => ⟨S384x1024, .f32⟩
  | .hbm, ⟨20, _⟩ => ⟨S384x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== ChipSmall.lean ====
abbrev S1 : Shape := ⟨1, ![1]⟩
abbrev S4x224x1024 : Shape := ⟨3, ![4, 224, 1024]⟩
abbrev S3x224x1024 : Shape := ⟨3, ![3, 224, 1024]⟩
abbrev S224x1024 : Shape := ⟨2, ![224, 1024]⟩
abbrev S1x224x1024 : Shape := ⟨3, ![1, 224, 1024]⟩

abbrev nBuf : Space → Nat
  | .hbm => 3
  | .vmem => 3
  | .smem => 1
  | _ => 0

abbrev bufTy : (tb : Table) → Fin (tcTables nBuf tb) → BufTy
  | .hbm, ⟨0, _⟩ => ⟨S4x224x1024, .bf16⟩
  | .hbm, ⟨1, _⟩ => ⟨S3x224x1024, .bf16⟩
  | .hbm, ⟨2, _⟩ => ⟨S224x1024, .f32⟩
  | .local _ .vmem, ⟨0, _⟩ => ⟨S1x224x1024, .bf16⟩
  | .local _ .vmem, ⟨1, _⟩ => ⟨S3x224x1024, .bf16⟩
  | .local _ .vmem, ⟨2, _⟩ => ⟨S224x1024, .f32⟩
  | .local _ .smem, ⟨0, _⟩ => ⟨S1, .i32⟩
  | _, _ => ⟨S4x224x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipSmallRefIdeal.lean ====
abbrev S1 : Shape := ⟨1, ![1]⟩
abbrev S4x224x1024 : Shape := ⟨3, ![4, 224, 1024]⟩
abbrev S3x224x1024 : Shape := ⟨3, ![3, 224, 1024]⟩
abbrev S4 : Shape := ⟨1, ![4]⟩
abbrev S4x1x1 : Shape := ⟨3, ![4, 1, 1]⟩
abbrev S_ : Shape := ⟨0, ![]⟩
abbrev S224x1024 : Shape := ⟨2, ![224, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x224x1024, .bf16⟩
  | .hbm, ⟨2, _⟩ => ⟨S3x224x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x224x1024, .f32⟩
  | .hbm, ⟨9, _⟩ => ⟨S_, .f32⟩
  | .hbm, ⟨10, _⟩ => ⟨S_, .f32⟩
  | .hbm, ⟨11, _⟩ => ⟨S4x224x1024, .i1⟩
  | .hbm, ⟨12, _⟩ => ⟨S4x224x1024, .f32⟩
  | .hbm, ⟨13, _⟩ => ⟨S4x224x1024, .f32⟩
  | .hbm, ⟨14, _⟩ => ⟨S_, .f32⟩
  | .hbm, ⟨15, _⟩ => ⟨S224x1024, .f32⟩
  | .hbm, ⟨16, _⟩ => ⟨S3x224x1024, .f32⟩
  | .hbm, ⟨17, _⟩ => ⟨S_, .f32⟩
  | .hbm, ⟨18, _⟩ => ⟨S224x1024, .f32⟩
  | .hbm, ⟨19, _⟩ => ⟨S224x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== ChipIn.lean ====
abbrev S1 : Shape := ⟨1, ![1]⟩
abbrev S4x1024x768 : Shape := ⟨3, ![4, 1024, 768]⟩
abbrev S3x1024x768 : Shape := ⟨3, ![3, 1024, 768]⟩
abbrev S737x1x1024 : Shape := ⟨3, ![737, 1, 1024]⟩
abbrev S1x512x768 : Shape := ⟨3, ![1, 512, 768]⟩
abbrev S3x512x768 : Shape := ⟨3, ![3, 512, 768]⟩
abbrev S737x1x512 : Shape := ⟨3, ![737, 1, 512]⟩
abbrev S512x768 : Shape := ⟨2, ![512, 768]⟩
abbrev S768x512 : Shape := ⟨2, ![768, 512]⟩
abbrev S737x512 : Shape := ⟨2, ![737, 512]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x768, .bf16⟩
  | .hbm, ⟨1, _⟩ => ⟨S3x1024x768, .bf16⟩
  | .hbm, ⟨2, _⟩ => ⟨S737x1x1024, .f32⟩
  | .local _ .vmem, ⟨0, _⟩ => ⟨S1x512x768, .bf16⟩
  | .local _ .vmem, ⟨1, _⟩ => ⟨S1x512x768, .bf16⟩
  | .local _ .vmem, ⟨2, _⟩ => ⟨S3x512x768, .bf16⟩
  | .local _ .vmem, ⟨3, _⟩ => ⟨S3x512x768, .bf16⟩
  | .local _ .vmem, ⟨4, _⟩ => ⟨S737x1x512, .f32⟩
  | .local _ .vmem, ⟨5, _⟩ => ⟨S737x1x512, .f32⟩
  | .local _ .smem, ⟨0, _⟩ => ⟨S1, .i32⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S737x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipInRefIdeal.lean ====
abbrev S1 : Shape := ⟨1, ![1]⟩
abbrev S4x1024x768 : Shape := ⟨3, ![4, 1024, 768]⟩
abbrev S3x1024x768 : Shape := ⟨3, ![3, 1024, 768]⟩
abbrev S4 : Shape := ⟨1, ![4]⟩
abbrev S4x1x1 : Shape := ⟨3, ![4, 1, 1]⟩
abbrev S_ : Shape := ⟨0, ![]⟩
abbrev S1024x768 : Shape := ⟨2, ![1024, 768]⟩
abbrev S768x1024 : Shape := ⟨2, ![768, 1024]⟩
abbrev S737x1024 : Shape := ⟨2, ![737, 1024]⟩
abbrev S737x1x1024 : Shape := ⟨3, ![737, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x768, .bf16⟩
  | .hbm, ⟨2, _⟩ => ⟨S3x1024x768, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x1024x768, .f32⟩
  | .hbm, ⟨9, _⟩ => ⟨S_, .f32⟩
  | .hbm, ⟨10, _⟩ => ⟨S_, .f32⟩
  | .hbm, ⟨11, _⟩ => ⟨S4x1024x768, .i1⟩
  | .hbm, ⟨12, _⟩ => ⟨S4x1024x768, .f32⟩
  | .hbm, ⟨13, _⟩ => ⟨S4x1024x768, .f32⟩
  | .hbm, ⟨14, _⟩ => ⟨S_, .f32⟩
  | .hbm, ⟨15, _⟩ => ⟨S1024x768, .f32⟩
  | .hbm, ⟨16, _⟩ => ⟨S3x1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S768x1024, .f32⟩
  | .hbm, ⟨21, _⟩ => ⟨S737x1024, .f32⟩
  | .hbm, ⟨22, _⟩ => ⟨S737x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Products.GateUp.lean ====
/-
  The gradient of the gate and up weights: each grid step's block is the product, over the sequence, of the input
  features with one shard's columns; the reference is the same sum.
-/
module

public import proofs.«01_k».proof.Defs
public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.Pipeline.ValueKit
public import Idealize.ShloMosaic.Lib.Pointwise
public import Idealize.ShloMosaic.Lib.Claim

@[expose] public section

noncomputable section

namespace Cert.Proof.GateUp

open Idealize.ShloMosaic Idealize.ShloMosaic.TcCoe Idealize.SL.Sem
open Idealize.ShloMosaic.Pipeline (Dat)
open Cert.GateUpIdeal Cert.GateUpIdeal.Gen
open scoped BigOperators

variable (m : (ℓ : Loc nD τ sig) → Buf (Elt Ideal) ℓ) (ρ : Dev nD → PrngReg)

/-- Feature `d` of the input against column `e` of shard `j`, summed over the sequence. -/
def grad (h : FVec Ideal S2048x1024 .bf16) (g : FVec Ideal S2048x6144 .bf16) : FVec Ideal S8x1024x768 .bf16 :=
  fun y => ∑ s : Fin 2048, h (ix2 s (y 1)) * g (ix2 s ⟨768 * (y 0).val + (y 2).val, by have h0 : (y 0).val < 8 := (y 0).isLt; have h2 : (y 2).val < 768 := (y 2).isLt; omega⟩)

theorem idx : ∀ t : Fin cfg0.N, win0_0.index t = ![0, 0] ∧ win0_1.index t = ![0, t.val] ∧ win0_2.index t = ![t.val, 0, 0] := by
  decide +kernel

/-- One grid step's block. -/
theorem block (a : FVec Ideal S2048x1024 .bf16) (b : FVec Ideal S2048x768 .bf16) (y : S1x1024x768.Idx) :
    k0_pay1 (F := Ideal) a b y = ∑ s : Fin 2048, a (ix2 s (y 1)) * b (ix2 s (y 2)) := by
  rw [eq_ix3 y]
  pointwise [k0_pay1]

/-- The kernel's result array. -/
theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block (iblk m c 0 t) (iblk m c 1 t) y).trans (Finset.sum_congr rfl fun s _ => ?_)
  obtain ⟨e0, e1, e2⟩ := idx t
  congr 1 <;> blk_ext [iblk, V, e0, e1, e2]

open Cert.GateUpRefIdeal.Read in
/-- The reference's result. -/
theorem ref_eq (h : FVec Ideal S2048x1024 .bf16) (g : FVec Ideal S2048x6144 .bf16) : val_main_v7 (F := Ideal) h g = grad h g := by
  funext y
  rw [val_main_v7_apply, val_main_v6_apply]
  refine (val_main_v5_apply h g _).trans (Finset.sum_congr rfl fun s _ => (mul_comm _ _).trans ?_)
  rw [val_main_v1_apply, val_main_v0_apply, val_main_v3_apply]
  have h0 : (y 0).val < 8 := (y 0).isLt
  have h2 : (y 2).val < 768 := (y 2).isLt
  refine congrArg₂ (· * ·) (congrArg h (funext fun a => ?_)) (congrArg g (funext fun a => Fin.ext ?_))
  · fin_cases a <;> rfl
  · fin_cases a
    · show ((s.val * 8 + (y 0).val) * 768 + (y 2).val) / 6144 = s.val
      omega
    · show ((s.val * 8 + (y 0).val) * 768 + (y 2).val) % 6144 = 768 * (y 0).val + (y 2).val
      omega

/-- Both programs end with the same weight gradient. -/
theorem algebraic : Cert.algebraic_GateUpIdeal_GateUpRefIdeal := fun m g m' g' _ hm =>
  ⟨_, (θ_run Cert.GateUpIdeal.defs _ _).mono (fun r h c => ⟨(h c).1.trans (final m c), (h c).2⟩)
      (Cert.GateUpIdeal.Value.run_blocks m g),
    (θ_run Cert.GateUpRefIdeal.defs _ _).mono
      (fun r h c => ⟨(h c).1.trans ((Cert.GateUpRefIdeal.Read.val_main_v7_eq _ _).trans ((ref_eq _ _).trans
        (congrArg₂ grad (hm c).1 (hm c).2))), (h c).2⟩)
      (Cert.GateUpRefIdeal.Value.run (F := Ideal) m' g')⟩

end Cert.Proof.GateUp

end
-- ==== Proof.Products.In.lean ====
/-
  The gradient of the input projection's weights: the same sum as the gate and up weights' (`GateUp.grad`). The third
  argument only orders the call after another.
-/
module

public import proofs.«01_k».proof.Defs
public import proofs.«01_k».proof.Proof.Products.GateUp
public import proofs.«01_k».proof.Proof.Gen.InIdeal.Value
public import proofs.«01_k».proof.Proof.Gen.InRefIdeal.Run
public import proofs.«01_k».proof.Proof.Gen.InRefIdeal.Read
public import Idealize.ShloMosaic.Lib.Pipeline.ValueKit
public import Idealize.ShloMosaic.Lib.Pointwise
public import Idealize.ShloMosaic.Lib.Claim

@[expose] public section

noncomputable section

namespace Cert.Proof.In

open Idealize.ShloMosaic Idealize.ShloMosaic.TcCoe Idealize.SL.Sem
open Idealize.ShloMosaic.Pipeline (Dat)
open Cert.InIdeal Cert.InIdeal.Gen
open Cert.Proof.GateUp (grad)
open scoped BigOperators

variable (m : (ℓ : Loc nD τ sig) → Buf (Elt Ideal) ℓ) (ρ : Dev nD → PrngReg)

theorem idx : ∀ t : Fin cfg0.N, win0_0.index t = ![0, 0] ∧ win0_1.index t = ![0, t.val] ∧ win0_2.index t = ![t.val, 0, 0] := by
  decide +kernel

/-- One grid step's block. -/
theorem block (a : FVec Ideal S2048x1024 .bf16) (b : FVec Ideal S2048x768 .bf16) (y : S1x1024x768.Idx) :
    k0_pay1 (F := Ideal) a b y = ∑ s : Fin 2048, a (ix2 s (y 1)) * b (ix2 s (y 2)) := by
  rw [eq_ix3 y]
  pointwise [k0_pay1]

/-- The kernel's result array. -/
theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (block (iblk m c 0 t) (iblk m c 1 t) y).trans (Finset.sum_congr rfl fun s _ => ?_)
  obtain ⟨e0, e1, e2⟩ := idx t
  congr 1 <;> blk_ext [iblk, V, e0, e1, e2]

open Cert.InRefIdeal.Read in
/-- The reference's result. -/
theorem ref_eq (h : FVec Ideal S2048x1024 .bf16) (g : FVec Ideal S2048x6144 .bf16) : val_main_v7 (F := Ideal) h g = grad h g := by
  funext y
  rw [val_main_v7_apply, val_main_v6_apply]
  refine (val_main_v5_apply h g _).trans (Finset.sum_congr rfl fun s _ => (mul_comm _ _).trans ?_)
  rw [val_main_v1_apply, val_main_v0_apply, val_main_v3_apply]
  have h0 : (y 0).val < 8 := (y 0).isLt
  have h2 : (y 2).val < 768 := (y 2).isLt
  refine congrArg₂ (· * ·) (congrArg h (funext fun a => ?_)) (congrArg g (funext fun a => Fin.ext ?_))
  · fin_cases a <;> rfl
  · fin_cases a
    · show ((s.val * 8 + (y 0).val) * 768 + (y 2).val) / 6144 = s.val
      omega
    · show ((s.val * 8 + (y 0).val) * 768 + (y 2).val) % 6144 = 768 * (y 0).val + (y 2).val
      omega

/-- Both programs end with the same weight gradient. -/
theorem algebraic : Cert.algebraic_InIdeal_InRefIdeal := fun m g m' g' _ hm =>
  ⟨_, (θ_run Cert.InIdeal.defs _ _).mono (fun r h c => ⟨(h c).1.trans (final m c), (h c).2⟩)
      (Cert.InIdeal.Value.run_blocks m g),
    (θ_run Cert.InRefIdeal.defs _ _).mono
      (fun r h c => ⟨(h c).1.trans ((Cert.InRefIdeal.Read.val_main_v7_eq _ _).trans ((ref_eq _ _).trans
        (congrArg₂ grad (hm c).1 (hm c).2.1))), (h c).2⟩)
      (Cert.InRefIdeal.Value.run (F := Ideal) m' g')⟩

end Cert.Proof.In

end
-- ==== Proof.Products.Down.lean ====
/-
  The gradient of the down projection's weights: each grid step's block is the product, over the sequence, of 1536
  features of the activation with 512 columns of the cotangent; the reference is the same sum.
-/
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Claim

@[expose] public section

noncomputable section

namespace Cert.Proof.Down

open Idealize.ShloMosaic Idealize.ShloMosaic.TcCoe Idealize.SL.Sem
open Idealize.ShloMosaic.Pipeline (Dat)
open Cert.DownIdeal Cert.DownIdeal.Gen
open scoped BigOperators

variable (m : (ℓ : Loc nD τ sig) → Buf (Elt Ideal) ℓ) (ρ : Dev nD → PrngReg)

/-- Feature `f` of the activation against column `e` of the cotangent, summed over the sequence. -/
def grad (h : FVec Ideal S2048x3072 .bf16) (g : FVec Ideal S2048x1024 .bf16) : FVec Ideal S3072x1024 .bf16 :=
  fun y => ∑ s : Fin 2048, h (ix2 s (y 0)) * g (ix2 s (y 1))

theorem idx : ∀ t : Fin cfg0.N, win0_0.index t = ![0, t.val / 2] ∧ win0_1.index t = ![0, t.val % 2]
    ∧ win0_2.index t = ![t.val / 2, t.val % 2] := by
  decide +kernel

/-- One grid step's block. -/
theorem block (a : FVec Ideal S2048x1536 .bf16) (b : FVec Ideal S2048x512 .bf16) (y : S1536x512.Idx) :
    k0_pay1 (F := Ideal) a b y = ∑ s : Fin 2048, a (ix2 s (y 0)) * b (ix2 s (y 1)) := by
  rw [eq_ix2 y]
  pointwise [k0_pay1]

/-- The kernel's result array. -/
theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block (iblk m c 0 t) (iblk m c 1 t) y).trans (Finset.sum_congr rfl fun s _ => ?_)
  obtain ⟨e0, e1, e2⟩ := idx t
  congr 1 <;> blk_ext [iblk, V, e0, e1, e2]

open Cert.DownRefIdeal.Read in
/-- The reference's result. -/
theorem ref_eq (h : FVec Ideal S2048x3072 .bf16) (g : FVec Ideal S2048x1024 .bf16) : val_main_v6 (F := Ideal) h g = grad h g := by
  funext y
  rw [val_main_v6_apply, val_main_v5_apply]
  refine (val_main_v4_apply h g _).trans (Finset.sum_congr rfl fun s _ => (mul_comm _ _).trans ?_)
  refine congrArg₂ (· * ·) (congrArg h (funext fun a => ?_)) (congrArg g (funext fun a => ?_)) <;> fin_cases a <;> rfl

/-- Both programs end with the same weight gradient. -/
theorem algebraic : Cert.algebraic_DownIdeal_DownRefIdeal := fun m g m' g' _ hm =>
  ⟨_, (θ_run Cert.DownIdeal.defs _ _).mono (fun r h c => ⟨(h c).1.trans (final m c), (h c).2⟩)
      (Cert.DownIdeal.Value.run_blocks m g),
    (θ_run Cert.DownRefIdeal.defs _ _).mono
      (fun r h c => ⟨(h c).1.trans ((Cert.DownRefIdeal.Read.val_main_v6_eq _ _).trans ((ref_eq _ _).trans
        (congrArg₂ grad (hm c).1 (hm c).2))), (h c).2⟩)
      (Cert.DownRefIdeal.Value.run (F := Ideal) m' g')⟩

end Cert.Proof.Down

end
-- ==== Proof.Products.Out.lean ====
/-
  The gradient of the output projection's weights: each grid step's block is the product, over the sequence, of the
  merged branches with 512 columns of the cotangent; the reference is the same sum.
-/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise
public import Idealize.ShloMosaic.Lib.Claim

@[expose] public section

noncomputable section

namespace Cert.Proof.Out

open Idealize.ShloMosaic Idealize.ShloMosaic.TcCoe Idealize.SL.Sem
open Idealize.ShloMosaic.Pipeline (Dat)
open Cert.OutIdeal Cert.OutIdeal.Gen
open scoped BigOperators

variable (m : (ℓ : Loc nD τ sig) → Buf (Elt Ideal) ℓ) (ρ : Dev nD → PrngReg)

/-- Feature `d` of the merged branches against column `e` of the cotangent, summed over the sequence. -/
def grad (h : FVec Ideal S2048x1024 .bf16) (g : FVec Ideal S2048x1024 .bf16) : FVec Ideal S1024x1024 .bf16 :=
  fun y => ∑ s : Fin 2048, h (ix2 s (y 0)) * g (ix2 s (y 1))

theorem idx : ∀ t : Fin cfg0.N, win0_0.index t = ![0, 0] ∧ win0_1.index t = ![0, t.val]
    ∧ win0_2.index t = ![0, t.val] := by
  decide +kernel

/-- One grid step's block. -/
theorem block (a : FVec Ideal S2048x1024 .bf16) (b : FVec Ideal S2048x512 .bf16) (y : S1024x512.Idx) :
    k0_pay1 (F := Ideal) a b y = ∑ s : Fin 2048, a (ix2 s (y 0)) * b (ix2 s (y 1)) := by
  rw [eq_ix2 y]
  pointwise [k0_pay1]

/-- The kernel's result array. -/
theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block (iblk m c 0 t) (iblk m c 1 t) y).trans (Finset.sum_congr rfl fun s _ => ?_)
  obtain ⟨e0, e1, e2⟩ := idx t
  congr 1 <;> blk_ext [iblk, V, e0, e1, e2]

open Cert.OutRefIdeal.Read in
/-- The reference's result. -/
theorem ref_eq (h : FVec Ideal S2048x1024 .bf16) (g : FVec Ideal S2048x1024 .bf16) : val_main_v6 (F := Ideal) h g = grad h g := by
  funext y
  rw [val_main_v6_apply, val_main_v5_apply]
  refine (val_main_v4_apply h g _).trans (Finset.sum_congr rfl fun s _ => (mul_comm _ _).trans ?_)
  refine congrArg₂ (· * ·) (congrArg h (funext fun a => ?_)) (congrArg g (funext fun a => ?_)) <;> fin_cases a <;> rfl

/-- Both programs end with the same weight gradient. -/
theorem algebraic : Cert.algebraic_OutIdeal_OutRefIdeal := fun m g m' g' _ hm =>
  ⟨_, (θ_run Cert.OutIdeal.defs _ _).mono (fun r h c => ⟨(h c).1.trans (final m c), (h c).2⟩)
      (Cert.OutIdeal.Value.run_blocks m g),
    (θ_run Cert.OutRefIdeal.defs _ _).mono
      (fun r h c => ⟨(h c).1.trans ((Cert.OutRefIdeal.Read.val_main_v6_eq _ _).trans ((ref_eq _ _).trans
        (congrArg₂ grad (hm c).1 (hm c).2))), (h c).2⟩)
      (Cert.OutRefIdeal.Value.run (F := Ideal) m' g')⟩

end Cert.Proof.Out

end
-- ==== Proof.Products.Proj.lean ====
/-
  The input projection: each grid step's block is the product of the features with 896 columns of the weights; the
  third argument only orders the call after another.
-/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.Pointwise
public import Idealize.ShloMosaic.Lib.Claim

@[expose] public section

noncomputable section

namespace Cert.Proof.Proj

open Idealize.ShloMosaic Idealize.ShloMosaic.TcCoe Idealize.SL.Sem
open Idealize.ShloMosaic.Pipeline (Dat)
open Cert.ProjIdeal Cert.ProjIdeal.Gen
open scoped BigOperators

variable (m : (ℓ : Loc nD τ sig) → Buf (Elt Ideal) ℓ) (ρ : Dev nD → PrngReg)

/-- Row `s` of the features against column `e` of the weights. -/
def prod (h : FVec Ideal S2048x1024 .bf16) (w : FVec Ideal S1024x6272 .bf16) : FVec Ideal S2048x6272 .f32 :=
  fun y => ∑ d : Fin 1024, h (ix2 (y 0) d) * w (ix2 d (y 1))

theorem idx : ∀ t : Fin cfg0.N, win0_0.index t = ![0, 0] ∧ win0_1.index t = ![0, t.val]
    ∧ win0_2.index t = ![0, t.val] := by
  decide +kernel

/-- One grid step's block. -/
theorem block (a : FVec Ideal S2048x1024 .bf16) (b : FVec Ideal S1024x896 .bf16) (y : S2048x896.Idx) :
    k0_pay1 (F := Ideal) a b y = ∑ d : Fin 1024, a (ix2 (y 0) d) * b (ix2 d (y 1)) := by
  rw [eq_ix2 y]
  pointwise [k0_pay1]

/-- The kernel's result array. -/
theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (block (iblk m c 0 t) (iblk m c 1 t) y).trans (Finset.sum_congr rfl fun s _ => ?_)
  obtain ⟨e0, e1, e2⟩ := idx t
  congr 1 <;> blk_ext [iblk, V, e0, e1, e2]

open Cert.ProjRefIdeal.Read in
/-- The reference's result. -/
theorem ref_eq (h : FVec Ideal S2048x1024 .bf16) (w : FVec Ideal S1024x6272 .bf16) : val_main_v0 (F := Ideal) h w = prod h w := by
  funext y
  refine (val_main_v0_apply h w _).trans (Finset.sum_congr rfl fun s _ => ?_)
  refine congrArg₂ (· * ·) (congrArg h (funext fun a => ?_)) (congrArg w (funext fun a => ?_)) <;> fin_cases a <;> rfl

/-- Both programs end with the same product. -/
theorem algebraic : Cert.algebraic_ProjIdeal_ProjRefIdeal := fun m g m' g' _ hm =>
  ⟨_, (θ_run Cert.ProjIdeal.defs _ _).mono (fun r h c => ⟨(h c).1.trans (final m c), (h c).2⟩)
      (Cert.ProjIdeal.Value.run_blocks m g),
    (θ_run Cert.ProjRefIdeal.defs _ _).mono
      (fun r h c => ⟨(h c).1.trans ((Cert.ProjRefIdeal.Read.val_main_v0_eq _ _).trans ((ref_eq _ _).trans
        (congrArg₂ prod (hm c).1 (hm c).2.1))), (h c).2⟩)
      (Cert.ProjRefIdeal.Value.run (F := Ideal) m' g')⟩

end Cert.Proof.Proj

end
-- ==== Proof.Products.Gate.lean ====
/-
  The gate's sigmoid: the kernels write it through the hyperbolic tangent, the references by its quotient.
-/
module

public import Idealize.ShloMosaic.Lib.Pointwise
public import Idealize.ShloMosaic.Lib.IdealHost
public import Idealize.ShloMosaic.Lib.Claim

@[expose] public section

noncomputable section

namespace Cert.Proof.Gate

open Idealize.ShloMosaic

theorem half : Ideal.ofBits .f32 1056964608#32 = ((1 / 2 : ℝ) : EReal) := by
  simp [Ideal.ofBits, Ideal.ieee, -EReal.coe_mul]; norm_num

theorem tanh_half (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  have hb : b = a⁻¹ := by field_simp; linarith
  subst hb
  field_simp
  ring

/-- The kernel's sigmoid is the logistic function, at the infinities as well. -/
theorem sigmoid (x : EReal) :
    Ideal.ofBits .f32 1056964608#32 * Ideal.tanh (Ideal.ofBits .f32 1056964608#32 * x) + Ideal.ofBits .f32 1056964608#32
      = Ideal.logistic x := by
  rw [half]
  induction x using EReal.rec with
  | bot =>
    rw [EReal.coe_mul_bot_of_pos (by norm_num), Ideal.tanh_bot, Ideal.logistic_bot, show (-1 : EReal) = ((-1 : ℝ) : EReal) from rfl,
      ← EReal.coe_mul, ← EReal.coe_add]
    norm_num
  | coe r =>
    rw [← EReal.coe_mul, Ideal.tanh_coe, ← EReal.coe_mul, ← EReal.coe_add, Ideal.logistic_coe, tanh_half]
  | top =>
    rw [EReal.coe_mul_top_of_pos (by norm_num), Ideal.tanh_top, Ideal.logistic_top, mul_one, ← EReal.coe_add]
    norm_num

end Cert.Proof.Gate

end
-- ==== Proof.Products.FfnIn.lean ====
/-
  The gate and up projection: each grid step multiplies the input features with one shard's columns and gates the
  first half of them by its sigmoid times the second half; the reference does the same on all shards at once.
-/
module

public import proofs.«01_k».proof.Defs
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Products.Gate
public import Idealize.ShloMosaic.Lib.Pipeline.ValueKit
public import Idealize.ShloMosaic.Lib.Pointwise
public import Idealize.ShloMosaic.Lib.Claim

@[expose] public section

noncomputable section

namespace Cert.Proof.FfnIn

open Idealize.ShloMosaic Idealize.ShloMosaic.TcCoe Idealize.SL.Sem
open Idealize.ShloMosaic.Pipeline (Dat)
open Cert.FfnInIdeal Cert.FfnInIdeal.Gen
open scoped BigOperators

variable (m : (ℓ : Loc nD τ sig) → Buf (Elt Ideal) ℓ) (ρ : Dev nD → PrngReg)

/-- Row `s` of the features against column `e` of shard `j`. -/
def cols (h : FVec Ideal S2048x1024 .bf16) (w : FVec Ideal S8x1024x768 .bf16) : FVec Ideal Cert.FfnInRefIdeal.S2048x8x768 .f32 :=
  fun i => ∑ d : Fin 1024, h (ix2 (i 0) d) * w (ix3 (i 1) d (i 2))

/-- The gated features: gate times its sigmoid times up. -/
def act (h : FVec Ideal S2048x1024 .bf16) (w : FVec Ideal S8x1024x768 .bf16) : FVec Ideal S2048x3072 .bf16 :=
  fun y =>
    cols h w (ix3 (y 0) ⟨(y 1).val / 384, by have h1 : (y 1).val < 3072 := (y 1).isLt; omega⟩ ⟨(y 1).val % 384, by omega⟩)
      * Ideal.logistic (cols h w (ix3 (y 0) ⟨(y 1).val / 384, by have h1 : (y 1).val < 3072 := (y 1).isLt; omega⟩ ⟨(y 1).val % 384, by omega⟩))
      * cols h w (ix3 (y 0) ⟨(y 1).val / 384, by have h1 : (y 1).val < 3072 := (y 1).isLt; omega⟩ ⟨384 + (y 1).val % 384, by omega⟩)

/-- Gate and up side by side, shard after shard. -/
def both (h : FVec Ideal S2048x1024 .bf16) (w : FVec Ideal S8x1024x768 .bf16) : FVec Ideal S2048x6144 .bf16 :=
  fun y => cols h w (ix3 (y 0) ⟨(y 1).val / 768, by have h1 : (y 1).val < 6144 := (y 1).isLt; omega⟩ ⟨(y 1).val % 768, by omega⟩)

theorem idx : ∀ t : Fin cfg0.N, win0_0.index t = ![0, 0] ∧ win0_1.index t = ![t.val, 0, 0] ∧ win0_2.index t = ![0, t.val]
    ∧ win0_3.index t = ![0, t.val] := by
  decide +kernel

theorem block1 (a : FVec Ideal S2048x1024 .bf16) (b : FVec Ideal S1x1024x768 .bf16) (y : S2048x768.Idx) :
    k0_pay1 (F := Ideal) a b y = ∑ d : Fin 1024, a (ix2 (y 0) d) * b (ix3 0 d (y 1)) := by
  rw [eq_ix2 y]
  pointwise [k0_pay1]

theorem block2 (a : FVec Ideal S2048x1024 .bf16) (b : FVec Ideal S1x1024x768 .bf16) (y : S2048x384.Idx) :
    k0_pay2 (F := Ideal) a b y
      = k0_pay1 (F := Ideal) a b (ix2 (y 0) ⟨(y 1).val, by have h1 : (y 1).val < 384 := (y 1).isLt; omega⟩)
        * Ideal.logistic (k0_pay1 (F := Ideal) a b (ix2 (y 0) ⟨(y 1).val, by have h1 : (y 1).val < 384 := (y 1).isLt; omega⟩))
        * k0_pay1 (F := Ideal) a b (ix2 (y 0) ⟨384 + (y 1).val, by have h1 : (y 1).val < 384 := (y 1).isLt; omega⟩) := by
  rw [eq_ix2 y]
  unfold k0_pay2
  generalize k0_pay1 (F := Ideal) a b = z
  pointwise []
  rw [Gate.sigmoid]

theorem block3 (a : FVec Ideal S2048x1024 .bf16) (b : FVec Ideal S1x1024x768 .bf16) (y : S2048x768.Idx) :
    k0_pay3 (F := Ideal) a b y = k0_pay1 (F := Ideal) a b y := rfl

/-- A step's product is its shard's columns. -/
theorem shard (c : Dev nD) (t : Fin cfg0.N) (y : S2048x768.Idx) (i : Cert.FfnInRefIdeal.S2048x8x768.Idx)
    (h0 : (i 0).val = (y 0).val) (h1 : (i 1).val = t.val) (h2 : (i 2).val = (y 1).val) :
    k0_pay1 (F := Ideal) (iblk m c 0 t) (iblk m c 1 t) y
      = cols (m ((c : Thread nD τ).loc main_arg0)) (m ((c : Thread nD τ).loc main_arg1)) i := by
  refine (block1 (iblk m c 0 t) (iblk m c 1 t) y).trans (Finset.sum_congr rfl fun s _ => ?_)
  obtain ⟨e0, e1, e2, e3⟩ := idx t
  congr 1 <;> blk_ext [iblk, V, e0, e1, e2, h0, h1, h2]

theorem final2 (c : Dev nD) :
    (dats m 0 c).arrAt 2 cfg0.N = act (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block2 (iblk m c 0 t) (iblk m c 1 t) y).trans ?_
  obtain ⟨e0, e1, e2, e3⟩ := idx t
  have ht : t.val < 8 := t.isLt
  have hy : (y 1).val < 384 := (y 1).isLt
  refine congrArg₂ (· * ·) (congrArg₂ (· * ·) (shard m c t _ _ ?_ ?_ ?_) (congrArg Ideal.logistic (shard m c t _ _ ?_ ?_ ?_)))
    (shard m c t _ _ ?_ ?_ ?_) <;> blk_simp [e2] <;> simp only [ix2, ix3] <;> omega

theorem final3 (c : Dev nD) :
    (dats m 0 c).arrAt 3 cfg0.N = both (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨e0, e1, e2, e3⟩ := idx t
  have ht : t.val < 8 := t.isLt
  have hy : (y 1).val < 768 := (y 1).isLt
  refine shard m c t y _ ?_ ?_ ?_ <;> blk_simp [e3] <;> simp only [] <;> omega

open Cert.FfnInRefIdeal.Read in
theorem ref_gate (h : FVec Ideal S2048x1024 .bf16) (w : FVec Ideal S8x1024x768 .bf16) (i : Cert.FfnInRefIdeal.S2048x8x384.Idx) :
    val_main_v1 (F := Ideal) h w i = cols h w (ix3 (i 0) (i 1) ⟨(i 2).val, by have h2 : (i 2).val < 384 := (i 2).isLt; omega⟩) := by
  refine (val_main_v1_apply h w i).trans (Finset.sum_congr rfl fun d _ => ?_)
  rw [val_main_v0_apply]
  refine congrArg₂ (· * ·) (congrArg h (funext fun a => ?_)) (congrArg w (funext fun a => Fin.ext ?_))
  · fin_cases a <;> rfl
  · fin_cases a <;> rfl

open Cert.FfnInRefIdeal.Read in
theorem ref_up (h : FVec Ideal S2048x1024 .bf16) (w : FVec Ideal S8x1024x768 .bf16) (i : Cert.FfnInRefIdeal.S2048x8x384.Idx) :
    val_main_v3 (F := Ideal) h w i = cols h w (ix3 (i 0) (i 1) ⟨384 + (i 2).val, by have h2 : (i 2).val < 384 := (i 2).isLt; omega⟩) := by
  refine (val_main_v3_apply h w i).trans (Finset.sum_congr rfl fun d _ => ?_)
  rw [val_main_v2_apply]
  refine congrArg₂ (· * ·) (congrArg h (funext fun a => ?_)) (congrArg w (funext fun a => Fin.ext ?_))
  · fin_cases a <;> rfl
  · fin_cases a <;> first | rfl | exact Nat.add_comm _ _

open Cert.FfnInRefIdeal.Read in
theorem ref_sig (h : FVec Ideal S2048x1024 .bf16) (w : FVec Ideal S8x1024x768 .bf16) (i : Cert.FfnInRefIdeal.S2048x8x384.Idx) :
    val_main_call0_v5 (F := Ideal) h w i = Ideal.logistic (val_main_v1 (F := Ideal) h w i) := by
  unfold val_main_call0_v5 val_main_call0_v4 val_main_call0_v3 val_main_call0_v2 val_main_call0_v1 val_main_call0_v0 val_main_call0_cst val_main_call0_cst_0
  generalize val_main_v1 (F := Ideal) h w = z
  pointwise []
  rfl

open Cert.FfnInRefIdeal.Read in
theorem ref_act (h : FVec Ideal S2048x1024 .bf16) (w : FVec Ideal S8x1024x768 .bf16) : val_main_v7 (F := Ideal) h w = act h w := by
  funext y
  rw [val_main_v7_apply, val_main_v6_apply, val_main_v5_apply, val_main_v4_apply, ref_sig, ref_gate, ref_up]
  have h1 : (y 1).val < 3072 := (y 1).isLt
  have e0 : idx_main_v6 y 0 = y 0 := Fin.ext (by show ((y 0).val * 3072 + (y 1).val) / 3072 = (y 0).val; omega)
  have e1 : (idx_main_v6 y 1).val = (y 1).val / 384 := by show ((y 0).val * 3072 + (y 1).val) / 384 % 8 = _; omega
  have e2 : (idx_main_v6 y 2).val = (y 1).val % 384 := by show ((y 0).val * 3072 + (y 1).val) % 384 = _; omega
  unfold act
  have f (k k' : Fin 768) (hk : k.val = k'.val) : cols h w (ix3 (idx_main_v6 y 0) (idx_main_v6 y 1) k) = cols h w (ix3 (y 0) ⟨(y 1).val / 384, by omega⟩ k') := by
    rw [e0, show k = k' from Fin.ext hk, show idx_main_v6 y 1 = ⟨(y 1).val / 384, by omega⟩ from Fin.ext e1]
    rfl
  rw [f _ ⟨(y 1).val % 384, by omega⟩ e2, f _ ⟨384 + (y 1).val % 384, by omega⟩ (congrArg (384 + ·) e2)]
  rfl

open Cert.FfnInRefIdeal.Read in
theorem ref_pair (h : FVec Ideal S2048x1024 .bf16) (w : FVec Ideal S8x1024x768 .bf16) (i : Cert.FfnInRefIdeal.S2048x8x768.Idx) :
    val_main_v8 (F := Ideal) h w i = cols h w i := by
  have hg := ref_gate h w
  have hu := ref_up h w
  unfold val_main_v8
  generalize val_main_v1 (F := Ideal) h w = a at hg ⊢
  generalize val_main_v3 (F := Ideal) h w = b at hu ⊢
  rw [eq_ix3 i]
  pointwise []
  split
  · rw [hg]
    rfl
  · rw [hu]
    refine congrArg (cols h w) (funext fun a => Fin.ext ?_)
    fin_cases a
    · rfl
    · rfl
    · show 384 + ((i 2).val - 384) = (i 2).val
      omega

open Cert.FfnInRefIdeal.Read in
theorem ref_both (h : FVec Ideal S2048x1024 .bf16) (w : FVec Ideal S8x1024x768 .bf16) : val_main_v10 (F := Ideal) h w = both h w := by
  funext y
  rw [val_main_v10_apply, val_main_v9_apply]
  have h1 : (y 1).val < 6144 := (y 1).isLt
  have e0 : (idx_main_v9 y 0).val = (y 0).val := by show ((y 0).val * 6144 + (y 1).val) / 6144 = (y 0).val; omega
  have e1 : (idx_main_v9 y 1).val = (y 1).val / 768 := by show ((y 0).val * 6144 + (y 1).val) / 768 % 8 = _; omega
  have e2 : (idx_main_v9 y 2).val = (y 1).val % 768 := by show ((y 0).val * 6144 + (y 1).val) % 768 = _; omega
  rw [ref_pair]
  refine congrArg (cols h w) (funext fun a => Fin.ext ?_)
  fin_cases a
  · exact e0
  · exact e1
  · exact e2

/-- Both programs end with the same gated features and the same gate and up. -/
theorem algebraic : Cert.algebraic_FfnInIdeal_FfnInRefIdeal := fun m g m' g' _ hm =>
  ⟨_, _, (θ_run Cert.FfnInIdeal.defs _ _).mono (fun r h c => ⟨(h c).1.trans (final2 m c), (h c).2.1.trans (final3 m c), (h c).2.2⟩)
      (Cert.FfnInIdeal.Value.run_blocks m g),
    (θ_run Cert.FfnInRefIdeal.defs _ _).mono
      (fun r h c => ⟨(h c).1.trans ((Cert.FfnInRefIdeal.Read.val_main_v7_eq _ _).trans ((ref_act _ _).trans
        (congrArg₂ act (hm c).1 (hm c).2))), (h c).2.1.trans ((Cert.FfnInRefIdeal.Read.val_main_v10_eq _ _).trans ((ref_both _ _).trans
        (congrArg₂ both (hm c).1 (hm c).2))), (h c).2.2⟩)
      (Cert.FfnInRefIdeal.Value.run (F := Ideal) m' g')⟩

end Cert.Proof.FfnIn

end
-- ==== Proof.Products.Finite.lean ====
/-
  What a printed "every entry is finite" says at one entry.
-/
module

public import Idealize.ShloMosaic.Lib.Pointwise
public import Idealize.ShloMosaic.Lib.ReduceAll
public import Idealize.ShloMosaic.Lib.IdealHost
public import Idealize.ShloMosaic.Lib.Claim

@[expose] public section

noncomputable section

namespace Cert.Proof.Finite

open Idealize.ShloMosaic
open scoped BigOperators

theorem bit_and (a b : BitVec 1) (h : IntOp.andi a b = 1#1) : a = 1#1 ∧ b = 1#1 := by
  revert h
  revert a b
  decide

/-- Strictly between the infinities: a real. -/
theorem real_of_between (x : EReal) (h : IntOp.andi (Ideal.cmp .olt x ⊤) (Ideal.cmp .ogt x ⊥) = 1#1) : ∃ r : ℝ, x = r := by
  obtain ⟨h1, h2⟩ := bit_and _ _ h
  induction x using EReal.rec with
  | bot => simp [Ideal.cmp] at h2
  | coe r => exact ⟨r, rfl⟩
  | top => simp [Ideal.cmp] at h1

abbrev S0 : Shape := ⟨0, ![]⟩

instance : Subsingleton S0.Idx := ⟨fun a b => funext fun k => k.elim0⟩

theorem inf16 : Ideal.ofBits .bf16 0x7F80#16 = ⊤ ∧ Ideal.ofBits .bf16 0xFF80#16 = ⊥ := by
  simp [Ideal.ofBits, Ideal.ieee]

theorem inf32 : Ideal.ofBits .f32 0x7F800000#32 = ⊤ ∧ Ideal.ofBits .f32 0xFF800000#32 = ⊥ := by
  simp [Ideal.ofBits, Ideal.ieee]

theorem real16 {s : Shape} {axes : List (Fin s.rank)} (x : FVec Ideal s .bf16) (b b' : S0.BroadcastsInDim s (![] : Fin 0 → Fin s.rank))
    (h : s.ReducesTo axes S0) (hu : 0 < S0.numel) (j : S0.Idx)
    (e : Host.reduce IntOp.andi (andi (cmpf .olt x (broadcastInDim s ![] b (constant S0 .bf16 0x7F80#16)))
      (cmpf .ogt x (broadcastInDim s ![] b' (constant S0 .bf16 0xFF80#16)))) (constantI S0 1 1#1) h hu j = 1#1) (i : s.Idx) :
    ∃ r : ℝ, x i = r := by
  have k := Host.reduce_andi_all _ _ h hu j e i
  refine real_of_between (x i) (Eq.trans ?_ k)
  rw [← inf16.1, ← inf16.2]
  rfl

theorem real32 {s : Shape} {axes : List (Fin s.rank)} (x : FVec Ideal s .f32) (b b' : S0.BroadcastsInDim s (![] : Fin 0 → Fin s.rank))
    (h : s.ReducesTo axes S0) (hu : 0 < S0.numel) (j : S0.Idx)
    (e : Host.reduce IntOp.andi (andi (cmpf .olt x (broadcastInDim s ![] b (constant S0 .f32 0x7F800000#32)))
      (cmpf .ogt x (broadcastInDim s ![] b' (constant S0 .f32 0xFF800000#32)))) (constantI S0 1 1#1) h hu j = 1#1) (i : s.Idx) :
    ∃ r : ℝ, x i = r := by
  have k := Host.reduce_andi_all _ _ h hu j e i
  refine real_of_between (x i) (Eq.trans ?_ k)
  rw [← inf32.1, ← inf32.2]
  rfl

theorem coe_sum {ι : Type} (s : Finset ι) (f : ι → ℝ) : ((∑ i ∈ s, f i : ℝ) : EReal) = ∑ i ∈ s, (f i : EReal) :=
  map_sum (⟨⟨fun r : ℝ => (r : EReal), rfl⟩, EReal.coe_add⟩ : ℝ →+ EReal) f s

/-- A sum of products of reals is a real. -/
theorem sum_mul {n : Nat} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [coe_sum]
  exact Finset.sum_congr rfl fun k _ => by rw [ha, hb, EReal.coe_mul]

end Cert.Proof.Finite

end
-- ==== Proof.Products.FfnBwd.lean ====
/-
  Backward through the gate: each grid step multiplies one shard of the gradient's weights and turns the product into
  the gradients of its gate and up columns; the reference differentiates the forward pass.
-/
module

public import proofs.«01_k».proof.Defs
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Gen.Pre_finite_ffn
public import proofs.«01_k».proof.Proof.Products.Gate
public import proofs.«01_k».proof.Proof.Products.Finite
public import Idealize.ShloMosaic.Lib.Pipeline.ValueKit
public import Idealize.ShloMosaic.Lib.Pointwise
public import Idealize.ShloMosaic.Lib.Claim

@[expose] public section

noncomputable section

namespace Cert.Proof.FfnBwd

open Idealize.ShloMosaic Idealize.ShloMosaic.TcCoe Idealize.SL.Sem
open Idealize.ShloMosaic.Pipeline (Dat)
open Cert.FfnBwdIdeal Cert.FfnBwdIdeal.Gen
open scoped BigOperators

variable (m : (ℓ : Loc nD τ sig) → Buf (Elt Ideal) ℓ) (ρ : Dev nD → PrngReg)

theorem reals (d : FVec Ideal S2048x1024 .bf16) (w : FVec Ideal S8x384x1024 .bf16) (v : FVec Ideal S2048x6144 .bf16)
    (h : Cert.Pre_finite_ffn.fn (F := Ideal) d w v = fun _ => 1#1) :
    (∀ i, ∃ r : ℝ, d i = r) ∧ (∀ i, ∃ r : ℝ, w i = r) ∧ ∀ i, ∃ r : ℝ, v i = r := by
  have h0 := congrFun h (fun k => k.elim0)
  obtain ⟨h1, h2⟩ := Finite.bit_and _ _ h0
  obtain ⟨h3, h4⟩ := Finite.bit_and _ _ h1
  exact ⟨Finite.real16 d _ _ _ _ _ h3, Finite.real16 w _ _ _ _ _ h4, Finite.real16 v _ _ _ _ _ h2⟩

theorem idx : ∀ t : Fin cfg0.N, win0_0.index t = ![0, 0] ∧ win0_1.index t = ![t.val, 0, 0] ∧ win0_2.index t = ![0, t.val]
    ∧ win0_3.index t = ![0, t.val] := by
  decide +kernel

/-- Row `s` of the gradient against row `e` of shard `j` of the weights. -/
def dact (d : FVec Ideal S2048x1024 .bf16) (w : FVec Ideal S8x384x1024 .bf16) : FVec Ideal Cert.FfnBwdRefIdeal.S2048x8x384 .f32 :=
  fun i => ∑ k : Fin 1024, d (ix2 (i 0) k) * w (ix3 (i 1) (i 2) k)

/-- The gate's gradient: `x` times up times the derivative of the gate times its sigmoid. -/
def dgate (x a u : EReal) : EReal := x * u * (Ideal.logistic a * (1 + a * (1 - Ideal.logistic a)))

/-- Up's gradient: `x` times the gated gate. -/
def dup (x a : EReal) : EReal := x * (a * Ideal.logistic a)

theorem dgate_real (x a u : ℝ) : dgate x a u
    = x * u * Ideal.logistic a + a * (x * u) * (Ideal.logistic a * (1 - Ideal.logistic a)) := by
  rw [dgate, Ideal.logistic_coe]
  norm_cast
  ring

/-- Gate's and up's gradients side by side, on each shard. -/
def pair (d : FVec Ideal S2048x1024 .bf16) (w : FVec Ideal S8x384x1024 .bf16) (v : FVec Ideal S2048x6144 .bf16) :
    FVec Ideal Cert.FfnBwdRefIdeal.S2048x8x768 .f32 := fun i =>
  have h1 : (i 1).val < 8 := (i 1).isLt
  have h2 : (i 2).val < 768 := (i 2).isLt
  if h : (i 2).val < 384 then
    dgate (dact d w (ix3 (i 0) (i 1) ⟨(i 2).val, h⟩)) (v (ix2 (i 0) ⟨768 * (i 1).val + (i 2).val, by omega⟩))
      (v (ix2 (i 0) ⟨768 * (i 1).val + (384 + (i 2).val), by omega⟩))
  else
    dup (dact d w (ix3 (i 0) (i 1) ⟨(i 2).val - 384, by omega⟩)) (v (ix2 (i 0) ⟨768 * (i 1).val + ((i 2).val - 384), by omega⟩))

/-- The gradient of gate and up, shard after shard. -/
def grad (d : FVec Ideal S2048x1024 .bf16) (w : FVec Ideal S8x384x1024 .bf16) (v : FVec Ideal S2048x6144 .bf16) : FVec Ideal S2048x6144 .bf16 :=
  fun y => pair d w v (ix3 (y 0) ⟨(y 1).val / 768, by have h1 : (y 1).val < 6144 := (y 1).isLt; omega⟩ ⟨(y 1).val % 768, by omega⟩)

theorem block (a : FVec Ideal S2048x1024 .bf16) (b : FVec Ideal S1x384x1024 .bf16) (v : FVec Ideal S2048x768 .bf16) (y : S2048x768.Idx) :
    k0_pay1 (F := Ideal) a b v y =
      have h1 : (y 1).val < 768 := (y 1).isLt
      if h : (y 1).val < 384 then
        dgate (∑ k : Fin 1024, a (ix2 (y 0) k) * b (ix3 0 ⟨(y 1).val, h⟩ k)) (v (ix2 (y 0) ⟨(y 1).val, by omega⟩)) (v (ix2 (y 0) ⟨384 + (y 1).val, by omega⟩))
      else
        dup (∑ k : Fin 1024, a (ix2 (y 0) k) * b (ix3 0 ⟨(y 1).val - 384, by omega⟩ k)) (v (ix2 (y 0) ⟨(y 1).val - 384, by omega⟩)) := by
  rw [eq_ix2 y]
  pointwise [k0_pay1]
  simp only [Gate.sigmoid]
  split
  · have hv : v y = v (ix2 (y 0) ⟨(y 1).val, by omega⟩) := congrArg v (eq_ix2 y)
    rw [hv]
    rfl
  · rfl

/-- A step's columns are its shard's. -/
theorem shard (c : Dev nD) (t : Fin cfg0.N) (y : S2048x768.Idx) (i : Cert.FfnBwdRefIdeal.S2048x8x768.Idx)
    (h0 : (i 0).val = (y 0).val) (h1 : (i 1).val = t.val) (h2 : (i 2).val = (y 1).val) :
    k0_pay1 (F := Ideal) (iblk m c 0 t) (iblk m c 1 t) (iblk m c 2 t) y
      = pair (m ((c : Thread nD τ).loc main_arg0)) (m ((c : Thread nD τ).loc main_arg1)) (m ((c : Thread nD τ).loc main_arg2)) i := by
  refine (block (iblk m c 0 t) (iblk m c 1 t) (iblk m c 2 t) y).trans ?_
  obtain ⟨e0, e1, e2, e3⟩ := idx t
  have ht : t.val < 8 := t.isLt
  have hy : (y 1).val < 768 := (y 1).isLt
  unfold pair
  by_cases h : (y 1).val < 384
  · rw [dif_pos h, dif_pos (h2 ▸ h)]
    refine congr (congr (congrArg dgate (Finset.sum_congr rfl fun k _ => congrArg₂ (· * ·) ?_ ?_)) ?_) ?_ <;>
      blk_ext [iblk, V, e0, e1, e2, h0, h1, h2]
  · rw [dif_neg h, dif_neg (h2 ▸ h)]
    refine congr (congrArg dup (Finset.sum_congr rfl fun k _ => congrArg₂ (· * ·) ?_ ?_)) ?_ <;>
      blk_ext [iblk, V, e0, e1, e2, h0, h1, h2]

theorem final (c : Dev nD) :
    (dats m 0 c).arrAt 3 cfg0.N = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨e0, e1, e2, e3⟩ := idx t
  have ht : t.val < 8 := t.isLt
  have hy : (y 1).val < 768 := (y 1).isLt
  refine shard m c t y _ ?_ ?_ ?_ <;> blk_simp [e3] <;> simp only [] <;> omega

open Cert.FfnBwdRefIdeal.Read in
theorem ref_dact (d : FVec Ideal S2048x1024 .bf16) (w : FVec Ideal S8x384x1024 .bf16) (i : Cert.FfnBwdRefIdeal.S2048x8x384.Idx) :
    val_main_v9 (F := Ideal) d w i = dact d w i := by
  refine (val_main_v9_apply d w i).trans (Finset.sum_congr rfl fun k _ => ?_)
  rw [val_main_v8_apply, val_main_v6_apply]
  refine congrArg₂ (· * ·) (congrArg d (funext fun a => ?_)) (congrArg w (funext fun a => ?_)) <;> fin_cases a <;> rfl

open Cert.FfnBwdRefIdeal.Read in
theorem ref_gate (v : FVec Ideal S2048x6144 .bf16) (i : Cert.FfnBwdRefIdeal.S2048x8x384.Idx) (e : Fin 6144) (he : e.val = 768 * (i 1).val + (i 2).val) :
    val_main_v2 (F := Ideal) v i = v (ix2 (i 0) e) := by
  rw [val_main_v2_apply, val_main_v1_apply, val_main_v0_apply]
  refine congrArg v (funext fun a => Fin.ext ?_)
  have h1 : (i 1).val < 8 := (i 1).isLt
  have h2 : (i 2).val < 384 := (i 2).isLt
  fin_cases a
  · show (((i 0).val * 8 + (i 1).val) * 768 + (i 2).val) / 6144 = (i 0).val
    omega
  · show (((i 0).val * 8 + (i 1).val) * 768 + (i 2).val) % 6144 = e.val
    omega

open Cert.FfnBwdRefIdeal.Read in
theorem ref_up (v : FVec Ideal S2048x6144 .bf16) (i : Cert.FfnBwdRefIdeal.S2048x8x384.Idx) (e : Fin 6144) (he : e.val = 768 * (i 1).val + (384 + (i 2).val)) :
    val_main_v3 (F := Ideal) v i = v (ix2 (i 0) e) := by
  rw [val_main_v3_apply, val_main_v1_apply, val_main_v0_apply]
  refine congrArg v (funext fun a => Fin.ext ?_)
  have h1 : (i 1).val < 8 := (i 1).isLt
  have h2 : (i 2).val < 384 := (i 2).isLt
  fin_cases a
  · show (((i 0).val * 8 + (i 1).val) * 768 + (384 + (i 2).val)) / 6144 = (i 0).val
    omega
  · show (((i 0).val * 8 + (i 1).val) * 768 + (384 + (i 2).val)) % 6144 = e.val
    omega

open Cert.FfnBwdRefIdeal.Read in
theorem ref_sig (v : FVec Ideal S2048x6144 .bf16) (i : Cert.FfnBwdRefIdeal.S2048x8x384.Idx) :
    val_main_v4_2 (F := Ideal) v i = Ideal.logistic (val_main_v2 (F := Ideal) v i) := by
  unfold val_main_v4_2 val_main_call0_v4 val_main_call0_v3 val_main_call0_v2 val_main_call0_v1 val_main_call0_v0 val_main_call0_cst val_main_call0_cst_0
  generalize val_main_v2 (F := Ideal) v = z
  pointwise []
  rfl

open Cert.FfnBwdRefIdeal.Read in
theorem ref_der (v : FVec Ideal S2048x6144 .bf16) (i : Cert.FfnBwdRefIdeal.S2048x8x384.Idx) :
    val_main_v4_1 (F := Ideal) v i = Ideal.logistic (val_main_v2 (F := Ideal) v i) * (1 - Ideal.logistic (val_main_v2 (F := Ideal) v i)) := by
  have hs := ref_sig v
  unfold val_main_v4_1 val_main_call0_v7 val_main_call0_v6 val_main_call0_cst_1
  generalize val_main_v4_2 (F := Ideal) v = z at hs ⊢
  pointwise []
  rw [hs]

open Cert.FfnBwdRefIdeal.Read in
theorem ref_dup (d : FVec Ideal S2048x1024 .bf16) (w : FVec Ideal S8x384x1024 .bf16) (v : FVec Ideal S2048x6144 .bf16) (i : Cert.FfnBwdRefIdeal.S2048x8x384.Idx) :
    val_main_v10 (F := Ideal) d w v i = dup (dact d w i) (val_main_v2 (F := Ideal) v i) := by
  rw [val_main_v10_apply, ref_dact]
  show val_main_v2 (F := Ideal) v i * val_main_v4_2 (F := Ideal) v i * dact d w i = _
  rw [ref_sig]
  exact mul_comm _ _

open Cert.FfnBwdRefIdeal.Read in
theorem ref_dgate (d : FVec Ideal S2048x1024 .bf16) (w : FVec Ideal S8x384x1024 .bf16) (v : FVec Ideal S2048x6144 .bf16)
    (hd : ∀ i, ∃ r : ℝ, d i = r) (hw : ∀ i, ∃ r : ℝ, w i = r) (hv : ∀ i, ∃ r : ℝ, v i = r) (i : Cert.FfnBwdRefIdeal.S2048x8x384.Idx) :
    val_main_v12 (F := Ideal) d w v i = dgate (dact d w i) (val_main_v2 (F := Ideal) v i) (val_main_v3 (F := Ideal) v i) := by
  rw [val_main_v12_apply]
  show val_main_v9 (F := Ideal) d w i * val_main_v3 (F := Ideal) v i * val_main_v4_2 (F := Ideal) v i
    + val_main_v2 (F := Ideal) v i * (val_main_v9 (F := Ideal) d w i * val_main_v3 (F := Ideal) v i) * val_main_v4_1 (F := Ideal) v i = _
  rw [ref_der, ref_sig, ref_dact]
  obtain ⟨x, hx⟩ := Finite.sum_mul (fun k => d (ix2 (i 0) k)) (fun k => w (ix3 (i 1) (i 2) k)) (fun k => hd _) (fun k => hw _)
  have hx' : dact d w i = x := hx
  obtain ⟨a, ha⟩ : ∃ r : ℝ, val_main_v2 (F := Ideal) v i = r := by
    rw [val_main_v2_apply, val_main_v1_apply]; exact hv _
  obtain ⟨u, hu⟩ : ∃ r : ℝ, val_main_v3 (F := Ideal) v i = r := by
    rw [val_main_v3_apply, val_main_v1_apply]; exact hv _
  rw [hx', ha, hu, dgate_real]

open Cert.FfnBwdRefIdeal.Read in
theorem ref_pair (d : FVec Ideal S2048x1024 .bf16) (w : FVec Ideal S8x384x1024 .bf16) (v : FVec Ideal S2048x6144 .bf16)
    (hd : ∀ i, ∃ r : ℝ, d i = r) (hw : ∀ i, ∃ r : ℝ, w i = r) (hv : ∀ i, ∃ r : ℝ, v i = r) (i : Cert.FfnBwdRefIdeal.S2048x8x768.Idx) :
    val_main_v13 (F := Ideal) d w v i = pair d w v i := by
  have hg := ref_dgate d w v hd hw hv
  have hu := ref_dup d w v
  unfold val_main_v13
  generalize val_main_v12 (F := Ideal) d w v = a at hg ⊢
  generalize val_main_v10 (F := Ideal) d w v = b at hu ⊢
  have h1 : (i 1).val < 8 := (i 1).isLt
  have h2 : (i 2).val < 768 := (i 2).isLt
  unfold pair
  conv_lhs => rw [eq_ix3 i]
  pointwise []
  by_cases h : (i 2).val < 384
  · rw [dif_pos h, dif_pos h, hg, ref_gate v _ ⟨768 * (i 1).val + (i 2).val, by omega⟩ rfl, ref_up v _ ⟨768 * (i 1).val + (384 + (i 2).val), by omega⟩ rfl]
    rfl
  · rw [dif_neg h, dif_neg h, hu, ref_gate v _ ⟨768 * (i 1).val + ((i 2).val - 384), by omega⟩ rfl]
    rfl

open Cert.FfnBwdRefIdeal.Read in
theorem ref_eq (d : FVec Ideal S2048x1024 .bf16) (w : FVec Ideal S8x384x1024 .bf16) (v : FVec Ideal S2048x6144 .bf16)
    (hd : ∀ i, ∃ r : ℝ, d i = r) (hw : ∀ i, ∃ r : ℝ, w i = r) (hv : ∀ i, ∃ r : ℝ, v i = r) :
    val_main_v15 (F := Ideal) d w v = grad d w v := by
  funext y
  rw [val_main_v15_apply, val_main_v14_apply]
  have h1 : (y 1).val < 6144 := (y 1).isLt
  have e0 : (idx_main_v14 y 0).val = (y 0).val := by show ((y 0).val * 6144 + (y 1).val) / 6144 = (y 0).val; omega
  have e1 : (idx_main_v14 y 1).val = (y 1).val / 768 := by show ((y 0).val * 6144 + (y 1).val) / 768 % 8 = _; omega
  have e2 : (idx_main_v14 y 2).val = (y 1).val % 768 := by show ((y 0).val * 6144 + (y 1).val) % 768 = _; omega
  rw [ref_pair d w v hd hw hv]
  refine congrArg (pair d w v) (funext fun a => Fin.ext ?_)
  fin_cases a
  · exact e0
  · exact e1
  · exact e2

/-- Both programs end with the same gradient of gate and up. -/
theorem algebraic : Cert.algebraic_FfnBwdIdeal_FfnBwdRefIdeal_pre_finite_ffn := fun m g m' g' hp hm =>
  ⟨_, (θ_run Cert.FfnBwdIdeal.defs _ _).mono (fun r h c => ⟨(h c).1.trans (final m c), (h c).2⟩)
      (Cert.FfnBwdIdeal.Value.run_blocks m g),
    (θ_run Cert.FfnBwdRefIdeal.defs _ _).mono
      (fun r h c => ⟨(h c).1.trans ((Cert.FfnBwdRefIdeal.Read.val_main_v15_eq _ _ _).trans (by
        obtain ⟨h0, h1, h2⟩ := hm c
        obtain ⟨r0, r1, r2⟩ := reals _ _ _ (hp c)
        rw [h0, h1, h2]
        exact ref_eq _ _ _ r0 r1 r2)), (h c).2⟩)
      (Cert.FfnBwdRefIdeal.Value.run (F := Ideal) m' g')⟩

end Cert.Proof.FfnBwd

end
-- ==== Proof.Products.Rms.lean ====
/-
  One row of the root-mean-square norm and of its backward pass, and the two forms its derivative is written in.
-/
module

public import proofs.«01_k».proof.Proof.Products.Finite
public import Idealize.ShloMosaic.Lib.Pipeline.ValueKit
public import Idealize.ShloMosaic.Lib.Pointwise
public import Idealize.ShloMosaic.Lib.IdealHost

@[expose] public section

noncomputable section

namespace Cert.Proof.Rms

open Idealize.ShloMosaic
open scoped BigOperators

abbrev width : EReal := Ideal.ofBits .f32 0x44800000#32
abbrev eps : EReal := Ideal.ofBits .f32 0x358637BD#32

def ms (x : Fin 1024 → EReal) : EReal := Ideal.div (∑ k, x k * x k) width + eps

def inv (x : Fin 1024 → EReal) : EReal := Ideal.rsqrt (ms x)

/-- The derivative by the row `x`, plus `d`, where `v` is the derivative by the normed row: the kernel's form. -/
def back (x v : Fin 1024 → EReal) (d : EReal) (l : Fin 1024) : EReal :=
  d + inv x * (v l - x l * inv x * Ideal.div (∑ k, v k * (x k * inv x)) width)

/-- Half of what the norm's own derivative adds, as the chain rule writes it. -/
def half (x v : Fin 1024 → EReal) : EReal :=
  Ideal.div ((∑ k, x k * v k) * (Ideal.ofBits .f32 0xBF000000#32 * Ideal.div (inv x) (ms x))) width

/-- The same derivative in the chain rule's form. -/
def chain (x v : Fin 1024 → EReal) (d : EReal) (l : Fin 1024) : EReal :=
  d + v l * inv x + x l * half x v + half x v * x l

theorem width_eq : width = ((1024 : ℝ) : EReal) := by
  simp [Ideal.ofBits, Ideal.ieee, -EReal.coe_mul]
  norm_num

theorem eps_pos : ∃ e : ℝ, 0 < e ∧ eps = (e : EReal) := by
  refine ⟨8796093 / 2 ^ 43, by norm_num, ?_⟩
  simp [Ideal.ofBits, Ideal.ieee, -EReal.coe_mul]
  norm_num

theorem neg_half : Ideal.ofBits .f32 0xBF000000#32 = ((-1 / 2 : ℝ) : EReal) := by
  simp [Ideal.ofBits, Ideal.ieee, -EReal.coe_mul]
  norm_num

theorem sq_nonneg (a : EReal) : 0 ≤ a * a := by
  induction a using EReal.rec with
  | bot => simp
  | coe r => exact_mod_cast mul_self_nonneg r
  | top => simp

/-- A row's mean square is a positive real when its entries are reals, and infinite otherwise. -/
theorem ms_cases (x : Fin 1024 → EReal) :
    (∃ (f : Fin 1024 → ℝ) (r : ℝ), 0 < r ∧ (∀ k, x k = (f k : EReal)) ∧ ms x = (r : EReal)) ∨ ms x = ⊤ := by
  obtain ⟨e, he, hq⟩ := eps_pos
  by_cases h : ∀ k, ∃ r : ℝ, x k = r
  · left
    choose f hf using h
    refine ⟨f, (∑ k, f k * f k) * (1 / 1024) + e, ?_, hf, ?_⟩
    · have : 0 ≤ ∑ k, f k * f k := Finset.sum_nonneg fun k _ => mul_self_nonneg _
      positivity
    · rw [ms, width_eq, Ideal.div_coe (by norm_num), hq, EReal.coe_add, EReal.coe_mul, Finite.coe_sum]
      simp only [hf, EReal.coe_mul]
  · right
    push Not at h
    obtain ⟨k, hk⟩ := h
    have ht : x k * x k = ⊤ := by
      induction hx : x k using EReal.rec with
      | bot => rfl
      | coe r => exact absurd hx (hk r)
      | top => rfl
    have hs : ∑ k, x k * x k = ⊤ :=
      top_le_iff.1 (ht ▸ Finset.single_le_sum (f := fun k => x k * x k) (fun k _ => sq_nonneg _) (Finset.mem_univ k))
    rw [ms, hs, width_eq, Ideal.div_coe (by norm_num), hq, EReal.top_mul_coe_of_pos (by norm_num), EReal.top_add_coe]

theorem coe_mul_add {r : ℝ} (h : 0 ≤ r) (a b : EReal) : (r : EReal) * (a + b) = r * a + r * b :=
  EReal.left_distrib_of_nonneg_of_ne_top (by exact_mod_cast h) (EReal.coe_ne_top r) a b

theorem coe_mul_sum {r : ℝ} (h : 0 ≤ r) {ι : Type} (s : Finset ι) (f : ι → EReal) :
    (r : EReal) * ∑ k ∈ s, f k = ∑ k ∈ s, (r : EReal) * f k :=
  map_sum (⟨⟨fun a => (r : EReal) * a, mul_zero _⟩, coe_mul_add h⟩ : EReal →+ EReal) f s

theorem add_self (a : EReal) : a + a = ((2 : ℝ) : EReal) * a := by
  have h : ((2 : ℝ) : EReal) = 1 + 1 := by norm_cast
  rw [h, EReal.right_distrib_of_nonneg zero_le_one zero_le_one, one_mul]

theorem chain_eq (x v : Fin 1024 → EReal) (d : EReal) (l : Fin 1024) : chain x v d l = back x v d l := by
  rcases ms_cases x with ⟨f, q, hq, hf, hm⟩ | hm
  · have hi : inv x = (((Real.sqrt q)⁻¹ : ℝ) : EReal) := by
      rw [inv, hm]
      exact (if_neg (not_lt.2 hq.le)).trans (if_neg hq.ne')
    have hr : (Real.sqrt q)⁻¹ * (Real.sqrt q)⁻¹ = 1 / q := by
      rw [← mul_inv, Real.mul_self_sqrt hq.le, one_div]
    have hn : 0 ≤ (Real.sqrt q)⁻¹ := inv_nonneg.2 (Real.sqrt_nonneg q)
    generalize hR : (Real.sqrt q)⁻¹ = r at hi hr hn
    have hs : ∑ k, v k * (x k * (r : EReal)) = (r : EReal) * ∑ k, x k * v k := by
      rw [coe_mul_sum hn]
      exact Finset.sum_congr rfl fun k _ => by rw [mul_comm (v k), mul_comm (x k), mul_assoc]
    rw [chain, back, half, hi, hs, hm, width_eq, neg_half, hf l, Ideal.div_coe hq.ne', Ideal.div_coe (by norm_num),
      Ideal.div_coe (by norm_num), sub_eq_add_neg, coe_mul_add hn]
    generalize ∑ k, x k * v k = S
    have e1 : (f l : EReal) * (S * (((-1 / 2 : ℝ) : EReal) * ((r : EReal) * ((1 / q : ℝ) : EReal))) * ((1 / 1024 : ℝ) : EReal))
        = ((f l * ((-1 / 2) * (r * (1 / q))) * (1 / 1024) : ℝ) : EReal) * S := by
      simp only [EReal.coe_mul]
      ac_rfl
    have e2 : (r : EReal) * -((f l : EReal) * (r : EReal) * ((r : EReal) * S * ((1 / 1024 : ℝ) : EReal)))
        = ((-(f l * r * r * r * (1 / 1024)) : ℝ) : EReal) * S := by
      rw [mul_comm (r : EReal) (-_), EReal.neg_mul, EReal.coe_neg, EReal.neg_mul]
      simp only [EReal.coe_mul]
      congr 1
      ac_rfl
    rw [mul_comm (_ * _) (f l : EReal), e1, e2, add_assoc, add_self, mul_comm (v l), ← add_assoc, ← mul_assoc ((2 : ℝ) : EReal), ← EReal.coe_mul]
    congr 3
    rw [← hr]
    ring
  · have hi : inv x = 0 := by rw [inv, hm]; rfl
    have hz : half x v = 0 := by
      rw [half, hi, hm, width_eq, Ideal.div_coe (by norm_num)]
      simp [Ideal.div]
    rw [chain, back, hz, hi]
    simp

/-! ## One row through a stack of eight shards of weights, back to the modulated norm

  `p` is the row's gradient at the shards' columns, `w` the weights, `sc` and `g` the modulation's scale and the norm's gain. -/

abbrev Weights : Type := FVec Ideal ⟨3, ![8, 1024, 768]⟩ .bf16

def lin (p : Fin 6144 → EReal) (w : Weights) (k : Fin 1024) : EReal :=
  ∑ j : Fin 8, ∑ e : Fin 768, p ⟨768 * j.val + e.val, by omega⟩ * w (ix3 j k e)

/-- The gradient before the modulation's scale. -/
def scaled (p : Fin 6144 → EReal) (w : Weights) (sc : Fin 1024 → EReal) (k : Fin 1024) : EReal :=
  lin p w k * (1 + sc k)

def normed (x g : Fin 1024 → EReal) (k : Fin 1024) : EReal := x k * inv x * g k

/-- A row's gradient by the norm's input. -/
def grad (p : Fin 6144 → EReal) (w : Weights) (sc g x d : Fin 1024 → EReal) (k : Fin 1024) : EReal :=
  back x (fun k => scaled p w sc k * g k) (d k) k

/-- What a row adds to the gradient of the modulation's scale. -/
def dscale (p : Fin 6144 → EReal) (w : Weights) (g x : Fin 1024 → EReal) (k : Fin 1024) : EReal :=
  lin p w k * normed x g k

/-- What a row adds to the gradient of the norm's gain. -/
def dgain (p : Fin 6144 → EReal) (w : Weights) (sc x : Fin 1024 → EReal) (k : Fin 1024) : EReal :=
  scaled p w sc k * (x k * inv x)

/-- A row of a matrix. -/
abbrev row {n d : Nat} {e : FTy} (x : FVec Ideal ⟨2, ![n, d]⟩ e) (r : Fin n) : Fin d → EReal := fun k => x (ix2 r k)

/-! ## The gradients of 2048 rows; `q` is the row of the modulation that scales -/

section Arrays

variable (p : FVec Ideal ⟨2, ![2048, 6144]⟩ .bf16) (w : Weights) (q : Fin 6) (x d : FVec Ideal ⟨2, ![2048, 1024]⟩ .f32)
  (mod : FVec Ideal ⟨2, ![6, 1024]⟩ .f32) (g : FVec Ideal ⟨2, ![1, 1024]⟩ .f32)

def gradAll : FVec Ideal ⟨2, ![2048, 1024]⟩ .f32 :=
  fun i => grad (row p (i 0)) w (row mod q) (row g 0) (row x (i 0)) (row d (i 0)) (i 1)

def shiftAll : FVec Ideal ⟨2, ![1, 1024]⟩ .f32 := fun i => ∑ r : Fin 2048, lin (row p r) w (i 1)

def scaleAll : FVec Ideal ⟨2, ![1, 1024]⟩ .f32 := fun i => ∑ r : Fin 2048, dscale (row p r) w (row g 0) (row x r) (i 1)

def gainAll : FVec Ideal ⟨2, ![1, 1024]⟩ .f32 := fun i => ∑ r : Fin 2048, dgain (row p r) w (row mod q) (row x r) (i 1)

/-- The gradient by what a gated residual adds, gated by row 2 of the modulation. -/
def mixAll : FVec Ideal ⟨2, ![2048, 1024]⟩ .bf16 := fun i => gradAll p w q x d mod g i * mod (ix2 2 (i 1))

/-- The gradient by that gate. -/
def gateAll (mix : FVec Ideal ⟨2, ![2048, 1024]⟩ .f32) : FVec Ideal ⟨2, ![1, 1024]⟩ .f32 :=
  fun i => ∑ r : Fin 2048, gradAll p w q x d mod g (ix2 r (i 1)) * mix (ix2 r (i 1))

end Arrays

/-- A one-row index is its column. -/
theorem row1 (j : (⟨2, ![1, 1024]⟩ : Shape).Idx) : ∃ k : Fin 1024, j = ix2 0 k :=
  ⟨j 1, (eq_ix2 j).trans (congrArg (fun a : Fin 1 => ix2 a (j 1)) (Subsingleton.elim _ _))⟩

/-- Four steps of 512 rows are the 2048 rows. -/
theorem sum_steps (f : Fin 2048 → EReal) : ∑ t : Fin 4, ∑ r : Fin 512, f ⟨512 * t.val + r.val, by omega⟩ = ∑ r : Fin 2048, f r :=
  Fin.sum_mul_add_congr fun t r h => congrArg f (Fin.ext (by simp only []; omega))

end Cert.Proof.Rms

end
-- ==== Proof.Products.FirstRef.lean ====
/-
  The reference of the first projection's backward pass, read row by row.
-/
module

public import proofs.«01_k».proof.Proof.Gen.FirstRefIdeal.Read
public import proofs.«01_k».proof.Proof.Products.Rms

@[expose] public section

noncomputable section

namespace Cert.Proof.FirstRef

open Idealize.ShloMosaic
open Cert.FirstRefIdeal Cert.FirstRefIdeal.Read
open scoped BigOperators

variable (p : FVec Ideal S2048x6144 .bf16) (w : FVec Ideal S8x1024x768 .bf16) (x d : FVec Ideal S2048x1024 .f32)
  (mod : FVec Ideal S6x1024 .f32) (g : FVec Ideal S1x1024 .f32) (s : Fin 2048) (k : Fin 1024)

theorem ms : val_main_v10 (F := Ideal) x (ix2 s 0) = Rms.ms (Rms.row x s) := by
  unfold val_main_v10 val_main_v8 val_main_v6 val_main_v5 val_main_v4 val_main_v7 val_main_v9 val_main_cst val_main_cst_0 val_main_cst_1
  pointwise []
  rfl

theorem inv : val_main_v11 (F := Ideal) x (ix2 s 0) = Rms.inv (Rms.row x s) := by
  unfold val_main_v11
  pointwise []
  rw [ms, Rms.inv]

theorem unit : val_main_v16 (F := Ideal) x (ix2 s k) = x (ix2 s k) * Rms.inv (Rms.row x s) := by
  unfold val_main_v16 val_main_v15
  pointwise []
  rw [inv]

theorem normed : val_main_v18 (F := Ideal) x g (ix2 s k) = Rms.normed (Rms.row x s) (Rms.row g 0) k := by
  unfold val_main_v18 val_main_v17
  pointwise []
  rw [unit]
  rfl

theorem lin : val_main_v27 (F := Ideal) p w (ix2 s k) = Rms.lin (Rms.row p s) w k := by
  unfold val_main_v27
  generalize hv : val_main_v1 (F := Ideal) p = v
  pointwise []
  refine Finset.sum_congr rfl fun j _ => Finset.sum_congr rfl fun e _ => congrArg₂ (· * ·) ?_ rfl
  rw [← hv, val_main_v1_apply]
  refine congrArg p (funext fun a => Fin.ext ?_)
  have hj := j.isLt
  have he := e.isLt
  fin_cases a
  · show ((s.val * 8 + j.val) * 768 + e.val) / 6144 = s.val
    omega
  · show ((s.val * 8 + j.val) * 768 + e.val) % 6144 = 768 * j.val + e.val
    omega

theorem scaled : val_main_v34 (F := Ideal) p w mod (ix2 s k) = Rms.scaled (Rms.row p s) w (Rms.row mod 1) k := by
  unfold val_main_v34 val_main_v33 val_main_v20 val_main_v19 val_main_cst_3 val_main_v3
  pointwise []
  rw [lin]
  rfl

theorem gained : val_main_v39 (F := Ideal) p w mod g (ix2 s k) = Rms.scaled (Rms.row p s) w (Rms.row mod 1) k * g (ix2 0 k) := by
  unfold val_main_v39 val_main_v38
  pointwise []
  rw [scaled]

theorem half : val_main_v48 (F := Ideal) p w x mod g (ix2 s 0)
    = Rms.half (Rms.row x s) (fun k => Rms.scaled (Rms.row p s) w (Rms.row mod 1) k * g (ix2 0 k)) := by
  unfold val_main_v48 val_main_v46 val_main_v42 val_main_v41 val_main_v40 val_main_v14 val_main_v13 val_main_v12 val_main_v47 val_main_cst_2
    val_main_cst_7 val_main_cst_8
  pointwise []
  simp only [gained, ms, inv]
  rfl

theorem grad : val_main_v54 (F := Ideal) p w x d mod g (ix2 s k)
    = Rms.grad (Rms.row p s) w (Rms.row mod 1) (Rms.row g 0) (Rms.row x s) (Rms.row d s) k := by
  unfold val_main_v54 val_main_v53 val_main_v52 val_main_v51 val_main_v45 val_main_v44 val_main_v43 val_main_v50 val_main_v49 val_main_cst_9
  pointwise []
  simp only [Fin.sum_univ_one, gained, half, inv]
  exact Rms.chain_eq (Rms.row x s) (fun k => Rms.scaled (Rms.row p s) w (Rms.row mod 1) k * g (ix2 0 k)) (d (ix2 s k)) k

theorem dshift : val_main_v29 (F := Ideal) p w (ix2 0 k) = ∑ r : Fin 2048, Rms.lin (Rms.row p r) w k := by
  unfold val_main_v29 val_main_v28 val_main_cst_4
  pointwise []
  exact Finset.sum_congr rfl fun r _ => lin p w r k

theorem dscale : val_main_v32 (F := Ideal) p w x g (ix2 0 k)
    = ∑ r : Fin 2048, Rms.dscale (Rms.row p r) w (Rms.row g 0) (Rms.row x r) k := by
  unfold val_main_v32 val_main_v31 val_main_v30 val_main_cst_5
  pointwise []
  exact Finset.sum_congr rfl fun r _ => by rw [lin, normed, mul_comm]; rfl

theorem dgain : val_main_v37 (F := Ideal) p w x mod (ix2 0 k)
    = ∑ r : Fin 2048, Rms.dgain (Rms.row p r) w (Rms.row mod 1) (Rms.row x r) k := by
  unfold val_main_v37 val_main_v36 val_main_v35 val_main_cst_6
  pointwise []
  exact Finset.sum_congr rfl fun r _ => by rw [scaled, unit, mul_comm]; rfl

theorem grad_eq : val_main_v54 (F := Ideal) p w x d mod g = Rms.gradAll p w 1 x d mod g :=
  funext fun i => (congrArg _ (eq_ix2 i)).trans (grad p w x d mod g (i 0) (i 1))

theorem dshift_eq : val_main_v29 (F := Ideal) p w = Rms.shiftAll p w := by
  funext i
  obtain ⟨k, rfl⟩ := Rms.row1 i
  exact dshift p w k

theorem dscale_eq : val_main_v32 (F := Ideal) p w x g = Rms.scaleAll p w x g := by
  funext i
  obtain ⟨k, rfl⟩ := Rms.row1 i
  exact dscale p w x g k

theorem dgain_eq : val_main_v37 (F := Ideal) p w x mod = Rms.gainAll p w 1 x mod := by
  funext i
  obtain ⟨k, rfl⟩ := Rms.row1 i
  exact dgain p w x mod k

end Cert.Proof.FirstRef

end
-- ==== Proof.Products.MidRef.lean ====
/-
  The reference of the backward pass between the two halves of the block, read row by row.
-/
module

public import proofs.«01_k».proof.Proof.Gen.MidRefIdeal.Read
public import proofs.«01_k».proof.Proof.Products.FirstRef

@[expose] public section

noncomputable section

namespace Cert.Proof.MidRef

open Idealize.ShloMosaic
open Cert.MidRefIdeal Cert.MidRefIdeal.Read
open scoped BigOperators

variable (p : FVec Ideal S2048x6144 .bf16) (w : FVec Ideal S8x1024x768 .bf16) (x d mix : FVec Ideal S2048x1024 .f32)
  (mod : FVec Ideal S6x1024 .f32) (g : FVec Ideal S1x1024 .f32) (s : Fin 2048) (k : Fin 1024)

theorem ms : val_main_v10 (F := Ideal) x (ix2 s 0) = Rms.ms (Rms.row x s) := FirstRef.ms x s

theorem inv : val_main_v11 (F := Ideal) x (ix2 s 0) = Rms.inv (Rms.row x s) := FirstRef.inv x s

theorem unit : val_main_v16 (F := Ideal) x (ix2 s k) = x (ix2 s k) * Rms.inv (Rms.row x s) := FirstRef.unit x s k

theorem lin : val_main_v27 (F := Ideal) p w (ix2 s k) = Rms.lin (Rms.row p s) w k := FirstRef.lin p w s k

theorem scaled : val_main_v34 (F := Ideal) p w mod (ix2 s k) = Rms.scaled (Rms.row p s) w (Rms.row mod 4) k := by
  unfold val_main_v34 val_main_v33 val_main_v20 val_main_v19 val_main_cst_3 val_main_v3
  pointwise []
  rw [lin]
  rfl

theorem gained : val_main_v39 (F := Ideal) p w mod g (ix2 s k) = Rms.scaled (Rms.row p s) w (Rms.row mod 4) k * g (ix2 0 k) := by
  unfold val_main_v39 val_main_v38
  pointwise []
  rw [scaled]

theorem half : val_main_v48 (F := Ideal) p w x mod g (ix2 s 0)
    = Rms.half (Rms.row x s) (fun k => Rms.scaled (Rms.row p s) w (Rms.row mod 4) k * g (ix2 0 k)) := by
  unfold val_main_v48 val_main_v46 val_main_v42 val_main_v41 val_main_v40 val_main_v14 val_main_v13 val_main_v12 val_main_v47 val_main_cst_2
    val_main_cst_7 val_main_cst_8
  pointwise []
  simp only [gained, ms, inv]
  rfl

theorem grad : val_main_v54 (F := Ideal) p w x d mod g (ix2 s k)
    = Rms.grad (Rms.row p s) w (Rms.row mod 4) (Rms.row g 0) (Rms.row x s) (Rms.row d s) k := by
  unfold val_main_v54 val_main_v53 val_main_v52 val_main_v51 val_main_v45 val_main_v44 val_main_v43 val_main_v50 val_main_v49 val_main_cst_9
  pointwise []
  simp only [Fin.sum_univ_one, gained, half, inv]
  exact Rms.chain_eq (Rms.row x s) (fun k => Rms.scaled (Rms.row p s) w (Rms.row mod 4) k * g (ix2 0 k)) (d (ix2 s k)) k

theorem dgain : val_main_v37 (F := Ideal) p w x mod (ix2 0 k)
    = ∑ r : Fin 2048, Rms.dgain (Rms.row p r) w (Rms.row mod 4) (Rms.row x r) k := by
  unfold val_main_v37 val_main_v36 val_main_v35 val_main_cst_6
  pointwise []
  exact Finset.sum_congr rfl fun r _ => by rw [scaled, unit, mul_comm]; rfl

theorem grad_eq : val_main_v54 (F := Ideal) p w x d mod g = Rms.gradAll p w 4 x d mod g :=
  funext fun i => (congrArg _ (eq_ix2 i)).trans (grad p w x d mod g (i 0) (i 1))

theorem dshift_eq : val_main_v29 (F := Ideal) p w = Rms.shiftAll p w := FirstRef.dshift_eq p w

theorem dscale_eq : val_main_v32 (F := Ideal) p w x g = Rms.scaleAll p w x g := FirstRef.dscale_eq p w x g

theorem dgain_eq : val_main_v37 (F := Ideal) p w x mod = Rms.gainAll p w 4 x mod := by
  funext i
  obtain ⟨k, rfl⟩ := Rms.row1 i
  exact dgain p w x mod k

theorem mix_eq : val_main_v63 (F := Ideal) p w x d mod g = Rms.mixAll p w 4 x d mod g := by
  funext i
  obtain ⟨s, k, rfl⟩ : ∃ (s : Fin 2048) (k : Fin 1024), i = ix2 s k := ⟨i 0, i 1, eq_ix2 i⟩
  unfold val_main_v63 val_main_v59 val_main_v58 val_main_v55
  rw [grad_eq]
  generalize hv : Rms.gradAll p w 4 x d mod g = v
  pointwise []
  rw [mul_comm, ← hv]
  rfl

theorem gate_eq : val_main_v62 (F := Ideal) p w x d mix mod g = Rms.gateAll p w 4 x d mod g mix := by
  funext i
  obtain ⟨k, rfl⟩ := Rms.row1 i
  unfold val_main_v62 val_main_v61 val_main_v60 val_main_cst_10
  rw [grad_eq]
  generalize hv : Rms.gradAll p w 4 x d mod g = v
  pointwise []
  rw [← hv]
  rfl

end Cert.Proof.MidRef

end
-- ==== Proof.Products.First.lean ====
/-
  The backward pass of the first projection: each grid step carries 512 rows of the gradient back through the stack of
  weights and the norm, and adds its rows' shares to three one-row gradients.
-/
module

public import proofs.«01_k».proof.Defs
public import proofs.«01_k».proof.Proof.Gen.FirstIdeal.Value
public import proofs.«01_k».proof.Proof.Gen.FirstRefIdeal.Run
public import proofs.«01_k».proof.Proof.Products.FirstRef
public import proofs.«01_k».proof.Proof.Products.Rms
public import Idealize.ShloMosaic.Lib.Pipeline.ValueKit
public import Idealize.ShloMosaic.Lib.Pointwise
public import Idealize.ShloMosaic.Lib.Claim

@[expose] public section

set_option maxRecDepth 16384

noncomputable section

namespace Cert.Proof.First

open Idealize.ShloMosaic Idealize.ShloMosaic.TcCoe Idealize.SL.Sem
open Idealize.ShloMosaic.Pipeline (Dat)
open Cert.FirstIdeal Cert.FirstIdeal.Gen
open scoped BigOperators

variable (m : (ℓ : Loc nD τ sig) → Buf (Elt Ideal) ℓ) (ρ : Dev nD → PrngReg)

theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![0, 0] ∧ win0_6.index t = ![t.val, 0] := by
  decide +kernel

/-- A step's product with the eight shards, in the order of its additions. -/
theorem block_dot (p0 p1 p2 p3 p4 p5 p6 p7 : FVec Ideal S512x768 .bf16) (w0 w1 w2 w3 w4 w5 w6 w7 : FVec Ideal S1x1024x768 .bf16)
    (r : Fin 512) (k : Fin 1024) :
    k0_pay2 (F := Ideal) (k0_pay1 p0 w0 p1 w1 p2 w2 p3 w3 p4 w4) p5 w5 p6 w6 p7 w7 (ix2 r k)
      = ∑ e : Fin 768, p0 (ix2 r e) * w0 (ix3 0 k e) + ∑ e : Fin 768, p1 (ix2 r e) * w1 (ix3 0 k e)
        + ∑ e : Fin 768, p2 (ix2 r e) * w2 (ix3 0 k e) + ∑ e : Fin 768, p3 (ix2 r e) * w3 (ix3 0 k e)
        + ∑ e : Fin 768, p4 (ix2 r e) * w4 (ix3 0 k e) + ∑ e : Fin 768, p5 (ix2 r e) * w5 (ix3 0 k e)
        + ∑ e : Fin 768, p6 (ix2 r e) * w6 (ix3 0 k e) + ∑ e : Fin 768, p7 (ix2 r e) * w7 (ix3 0 k e) := by
  pointwise [k0_pay2, k0_pay1]

def lanes (p : FVec Ideal S512x6144 .bf16) (o : Nat) (h : ∀ a, (![0, o] : Fin 2 → Nat) a + S512x768.size a ≤ S512x6144.size a) :
    FVec Ideal S512x768 .bf16 :=
  View.ld (Val := Elt Ideal) (e' := .bf16) p (Rect.unit (s := S512x6144) ![0, o] S512x768.size h)

def shard (w : FVec Ideal S8x1024x768 .bf16) (n : Nat) (h : ∀ a, (![n, 0, 0] : Fin 3 → Nat) a + S1x1024x768.size a ≤ S8x1024x768.size a) :
    FVec Ideal S1x1024x768 .bf16 :=
  View.ld (Val := Elt Ideal) (e' := .bf16) w (Rect.unit (s := S8x1024x768) ![n, 0, 0] S1x1024x768.size h)

/-- One shard's part of it, read from the whole operands. -/
theorem part (p : FVec Ideal S512x6144 .bf16) (w : FVec Ideal S8x1024x768 .bf16) (r : Fin 512) (k : Fin 1024) (j : Fin 8)
    (o n : Nat) (ho : o = 768 * j.val) (hn : n = j.val) (h) (h') :
    ∑ e : Fin 768, lanes p o h (ix2 r e) * shard w n h' (ix3 0 k e)
      = ∑ e : Fin 768, Rms.row p r ⟨768 * j.val + e.val, by omega⟩ * w (ix3 j k e) := by
  subst ho hn
  refine Finset.sum_congr rfl fun e _ => congrArg₂ (· * ·) (View.ld_unit_apply_of (S := S512x6144) (Val := Elt Ideal) (e := .bf16) p _ _ h _ _ fun a => ?_)
    (View.ld_unit_apply_of (S := S8x1024x768) (Val := Elt Ideal) (e := .bf16) w _ _ h' _ _ fun a => ?_) <;>
    fin_cases a <;> simp

/-- A step's product with the eight shards. -/
def dh (p : FVec Ideal S512x6144 .bf16) (w : FVec Ideal S8x1024x768 .bf16) : FVec Ideal S512x1024 .f32 :=
  k0_pay2 (F := Ideal) (k0_pay1
    (lanes p 0 inb_S512x6144_S512x768_0_0) (shard w 0 inb_S8x1024x768_S1x1024x768_0_0_0)
    (lanes p 768 inb_S512x6144_S512x768_0_768) (shard w 1 inb_S8x1024x768_S1x1024x768_1_0_0)
    (lanes p 1536 inb_S512x6144_S512x768_0_1536) (shard w 2 inb_S8x1024x768_S1x1024x768_2_0_0)
    (lanes p 2304 inb_S512x6144_S512x768_0_2304) (shard w 3 inb_S8x1024x768_S1x1024x768_3_0_0)
    (lanes p 3072 inb_S512x6144_S512x768_0_3072) (shard w 4 inb_S8x1024x768_S1x1024x768_4_0_0))
    (lanes p 3840 inb_S512x6144_S512x768_0_3840) (shard w 5 inb_S8x1024x768_S1x1024x768_5_0_0)
    (lanes p 4608 inb_S512x6144_S512x768_0_4608) (shard w 6 inb_S8x1024x768_S1x1024x768_6_0_0)
    (lanes p 5376 inb_S512x6144_S512x768_0_5376) (shard w 7 inb_S8x1024x768_S1x1024x768_7_0_0)

theorem dh_eq (p : FVec Ideal S512x6144 .bf16) (w : FVec Ideal S8x1024x768 .bf16) (r : Fin 512) (k : Fin 1024) :
    dh p w (ix2 r k) = Rms.lin (Rms.row p r) w k := by
  refine (block_dot _ _ _ _ _ _ _ _ _ _ _ _ _ _ _ _ r k).trans ?_
  rw [part p w r k 0, part p w r k 1, part p w r k 2, part p w r k 3, part p w r k 4, part p w r k 5, part p w r k 6,
    part p w r k 7, Rms.lin, Fin.sum_univ_eight] <;> rfl

theorem block_scaled (a : FVec Ideal S512x1024 .f32) (p5 p6 p7 : FVec Ideal S512x768 .bf16) (w5 w6 w7 : FVec Ideal S1x1024x768 .bf16)
    (mod : FVec Ideal S6x1024 .f32) (r : Fin 512) (k : Fin 1024) :
    k0_pay5 (F := Ideal) a p5 w5 p6 w6 p7 w7 mod (ix2 r k)
      = k0_pay2 (F := Ideal) a p5 w5 p6 w6 p7 w7 (ix2 r k) * (1 + mod (ix2 1 k)) := by
  unfold k0_pay5
  generalize k0_pay2 (F := Ideal) a p5 w5 p6 w6 p7 w7 = v
  pointwise []

/-- The product times one plus the modulation's scale. -/
def dn (p : FVec Ideal S512x6144 .bf16) (w : FVec Ideal S8x1024x768 .bf16) (mod : FVec Ideal S6x1024 .f32) : FVec Ideal S512x1024 .f32 :=
  k0_pay5 (F := Ideal) (k0_pay1
    (lanes p 0 inb_S512x6144_S512x768_0_0) (shard w 0 inb_S8x1024x768_S1x1024x768_0_0_0)
    (lanes p 768 inb_S512x6144_S512x768_0_768) (shard w 1 inb_S8x1024x768_S1x1024x768_1_0_0)
    (lanes p 1536 inb_S512x6144_S512x768_0_1536) (shard w 2 inb_S8x1024x768_S1x1024x768_2_0_0)
    (lanes p 2304 inb_S512x6144_S512x768_0_2304) (shard w 3 inb_S8x1024x768_S1x1024x768_3_0_0)
    (lanes p 3072 inb_S512x6144_S512x768_0_3072) (shard w 4 inb_S8x1024x768_S1x1024x768_4_0_0))
    (lanes p 3840 inb_S512x6144_S512x768_0_3840) (shard w 5 inb_S8x1024x768_S1x1024x768_5_0_0)
    (lanes p 4608 inb_S512x6144_S512x768_0_4608) (shard w 6 inb_S8x1024x768_S1x1024x768_6_0_0)
    (lanes p 5376 inb_S512x6144_S512x768_0_5376) (shard w 7 inb_S8x1024x768_S1x1024x768_7_0_0) mod

theorem dn_eq (p : FVec Ideal S512x6144 .bf16) (w : FVec Ideal S8x1024x768 .bf16) (mod : FVec Ideal S6x1024 .f32) (r : Fin 512) (k : Fin 1024) :
    dn p w mod (ix2 r k) = Rms.scaled (Rms.row p r) w (Rms.row mod 1) k :=
  (block_scaled _ _ _ _ _ _ _ mod r k).trans (congrArg (· * _) (dh_eq p w r k))

open Rms in
theorem block_inv (x : FVec Ideal S512x1024 .f32) (r : Fin 512) :
    k0_pay3 (F := Ideal) x (ix2 r 0) = inv (row x r) := by
  pointwise [k0_pay3]
  rfl

open Rms in
theorem block_norm (x : FVec Ideal S512x1024 .f32) (r : Fin 512) (k : Fin 1024) :
    k0_pay4 (F := Ideal) x (ix2 r k) = x (ix2 r k) * inv (row x r) := by
  unfold k0_pay4
  pointwise []
  rw [block_inv]

open Rms in
theorem block_back (x d v : FVec Ideal S512x1024 .f32) (g : FVec Ideal S1x1024 .f32) (r : Fin 512) (k : Fin 1024) :
    k0_pay7 (F := Ideal) d (k0_pay3 x) (k0_pay4 x) v (k0_pay6 g) (ix2 r k)
      = back (row x r) (fun k => v (ix2 r k) * g (ix2 0 k)) (d (ix2 r k)) k := by
  unfold k0_pay7 k0_pay6
  pointwise []
  simp only [block_norm, block_inv]
  rfl

theorem block_sum (v : FVec Ideal S512x1024 .f32) (a : FVec Ideal S1x1024 .f32) (k : Fin 1024) :
    k0_pay11 (F := Ideal) v a (ix2 0 k) = a (ix2 0 k) + ∑ r : Fin 512, v (ix2 r k) := by
  pointwise [k0_pay11]

theorem block_scale (v n : FVec Ideal S512x1024 .f32) (g a : FVec Ideal S1x1024 .f32) (k : Fin 1024) :
    k0_pay12 (F := Ideal) v g n a (ix2 0 k) = a (ix2 0 k) + ∑ r : Fin 512, v (ix2 r k) * (n (ix2 r k) * g (ix2 0 k)) := by
  pointwise [k0_pay12]

theorem block_gain (v n : FVec Ideal S512x1024 .f32) (a : FVec Ideal S1x1024 .f32) (k : Fin 1024) :
    k0_pay13 (F := Ideal) n v a (ix2 0 k) = a (ix2 0 k) + ∑ r : Fin 512, v (ix2 r k) * n (ix2 r k) := by
  pointwise [k0_pay13]

/-! ## A step's rows in the whole arrays -/

def at_ (t : Fin cfg0.N) (r : Fin 512) : Fin 2048 := ⟨512 * t.val + r.val, by have : t.val < 4 := t.isLt; omega⟩

abbrev arr0 (c : Dev nD) : FVec Ideal S2048x6144 .bf16 := m ((c : Thread nD τ).loc main_arg0)
abbrev arr1 (c : Dev nD) : FVec Ideal S8x1024x768 .bf16 := m ((c : Thread nD τ).loc main_arg1)
abbrev arr3 (c : Dev nD) : FVec Ideal S2048x1024 .f32 := m ((c : Thread nD τ).loc main_arg3)
abbrev arr4 (c : Dev nD) : FVec Ideal S2048x1024 .f32 := m ((c : Thread nD τ).loc main_arg4)
abbrev arr5 (c : Dev nD) : FVec Ideal S6x1024 .f32 := m ((c : Thread nD τ).loc main_arg5)
abbrev arr6 (c : Dev nD) : FVec Ideal S1x1024 .f32 := m ((c : Thread nD τ).loc main_arg6)

abbrev blk0 (c : Dev nD) (t : Fin cfg0.N) : FVec Ideal S512x6144 .bf16 := iblk m c 0 t
abbrev blk1 (c : Dev nD) (t : Fin cfg0.N) : FVec Ideal S8x1024x768 .bf16 := iblk m c 1 t
abbrev blk2 (c : Dev nD) (t : Fin cfg0.N) : FVec Ideal S512x1024 .f32 := iblk m c 2 t
abbrev blk3 (c : Dev nD) (t : Fin cfg0.N) : FVec Ideal S512x1024 .f32 := iblk m c 3 t
abbrev blk4 (c : Dev nD) (t : Fin cfg0.N) : FVec Ideal S6x1024 .f32 := iblk m c 4 t
abbrev blk5 (c : Dev nD) (t : Fin cfg0.N) : FVec Ideal S1x1024 .f32 := iblk m c 5 t

theorem rows0 (c : Dev nD) (t : Fin cfg0.N) (r : Fin 512) : Rms.row (blk0 m c t) r = Rms.row (arr0 m c) (at_ t r) := by
  obtain ⟨e0, e1, e2, e3, e4, e5, e6⟩ := idx t
  funext k
  show iblk m c 0 t (ix2 r k) = m ((c : Thread nD τ).loc main_arg0) (ix2 (at_ t r) k)
  blk_ext [iblk, V, e0, at_]

theorem rows2 (c : Dev nD) (t : Fin cfg0.N) (r : Fin 512) : Rms.row (blk2 m c t) r = Rms.row (arr3 m c) (at_ t r) := by
  obtain ⟨e0, e1, e2, e3, e4, e5, e6⟩ := idx t
  funext k
  show iblk m c 2 t (ix2 r k) = m ((c : Thread nD τ).loc main_arg3) (ix2 (at_ t r) k)
  blk_ext [iblk, V, e2, at_]

theorem rows3 (c : Dev nD) (t : Fin cfg0.N) (r : Fin 512) : Rms.row (blk3 m c t) r = Rms.row (arr4 m c) (at_ t r) := by
  obtain ⟨e0, e1, e2, e3, e4, e5, e6⟩ := idx t
  funext k
  show iblk m c 3 t (ix2 r k) = m ((c : Thread nD τ).loc main_arg4) (ix2 (at_ t r) k)
  blk_ext [iblk, V, e3, at_]

theorem whole1 (c : Dev nD) (t : Fin cfg0.N) : blk1 m c t = arr1 m c := by
  obtain ⟨e0, e1, e2, e3, e4, e5, e6⟩ := idx t
  funext y
  blk_ext [iblk, V, e1]

theorem whole4 (c : Dev nD) (t : Fin cfg0.N) : blk4 m c t = arr5 m c := by
  obtain ⟨e0, e1, e2, e3, e4, e5, e6⟩ := idx t
  funext y
  blk_ext [iblk, V, e4]

theorem whole5 (c : Dev nD) (t : Fin cfg0.N) : blk5 m c t = arr6 m c := by
  obtain ⟨e0, e1, e2, e3, e4, e5, e6⟩ := idx t
  funext y
  blk_ext [iblk, V, e5]

abbrev grad (c : Dev nD) : FVec Ideal S2048x1024 .f32 := Rms.gradAll (arr0 m c) (arr1 m c) 1 (arr3 m c) (arr4 m c) (arr5 m c) (arr6 m c)

abbrev dshift (c : Dev nD) : FVec Ideal S1x1024 .f32 := Rms.shiftAll (arr0 m c) (arr1 m c)

abbrev dscale (c : Dev nD) : FVec Ideal S1x1024 .f32 := Rms.scaleAll (arr0 m c) (arr1 m c) (arr3 m c) (arr6 m c)

abbrev dgain (c : Dev nD) : FVec Ideal S1x1024 .f32 := Rms.gainAll (arr0 m c) (arr1 m c) 1 (arr3 m c) (arr5 m c)

theorem step_grad (c : Dev nD) (t : Fin cfg0.N) (y : S512x1024.Idx) (i : S2048x1024.Idx)
    (h0 : (i 0).val = 512 * t.val + (y 0).val) (h1 : (i 1).val = (y 1).val) :
    k0_pay7 (F := Ideal) (blk3 m c t) (k0_pay3 (blk2 m c t)) (k0_pay4 (blk2 m c t)) (dn (blk0 m c t) (blk1 m c t) (blk4 m c t)) (k0_pay6 (blk5 m c t)) y
      = grad m c i := by
  obtain ⟨r, k, rfl⟩ : ∃ (r : Fin 512) (k : Fin 1024), y = ix2 r k := ⟨y 0, y 1, eq_ix2 y⟩
  obtain rfl : i = ix2 (at_ t r) k := (eq_ix2 i).trans (congrArg₂ ix2 (Fin.ext h0) (Fin.ext h1))
  rw [block_back]
  simp only [dn_eq, rows0, rows2, whole1, whole4, whole5]
  exact congrArg (fun d => Rms.back _ _ d _) (congrFun (rows3 m c t r) k)

theorem final6 (c : Dev nD) : (dats m 0 c).arrAt 6 cfg0.N = grad m c := by
  refine (dats m 0 c).arrAt_eq_of_covers 6 _ (by decide +kernel) fun t hf y => ?_
  obtain ⟨e0, e1, e2, e3, e4, e5, e6⟩ := idx t
  blk_simp
  rw [after0_6]
  by_cases h : t.val % 4 = 0
  · rw [outsAt0_A m c t h]
    frame_out
    refine step_grad m c t y _ ?_ ?_ <;> blk_simp [e6] <;> simp only [] <;> omega
  · rw [outsAt0_B m c t h]
    frame_out
    refine step_grad m c t y _ ?_ ?_ <;> blk_simp [e6] <;> simp only [] <;> omega

theorem step_shift (c : Dev nD) (t : Fin cfg0.N) (a : FVec Ideal S1x1024 .f32) (j : S1x1024.Idx) :
    k0_pay11 (F := Ideal) (dh (blk0 m c t) (blk1 m c t)) a j = a j + ∑ r : Fin 512, Rms.lin (Rms.row (arr0 m c) (at_ t r)) (arr1 m c) (j 1) := by
  obtain ⟨k, rfl⟩ := Rms.row1 j
  rw [block_sum]
  simp only [dh_eq, rows0, whole1]
  rfl

theorem step_scale (c : Dev nD) (t : Fin cfg0.N) (a : FVec Ideal S1x1024 .f32) (j : S1x1024.Idx) :
    k0_pay12 (F := Ideal) (dh (blk0 m c t) (blk1 m c t)) (blk5 m c t) (k0_pay4 (blk2 m c t)) a j = a j
      + ∑ r : Fin 512, Rms.dscale (Rms.row (arr0 m c) (at_ t r)) (arr1 m c) (Rms.row (arr6 m c) 0) (Rms.row (arr3 m c) (at_ t r)) (j 1) := by
  obtain ⟨k, rfl⟩ := Rms.row1 j
  rw [block_scale]
  have hx : ∀ r, blk2 m c t (ix2 r k) = arr3 m c (ix2 (at_ t r) k) := fun r => congrFun (rows2 m c t r) k
  simp only [dh_eq, block_norm, hx, rows0, rows2, whole1, whole5]
  rfl

theorem step_gain (c : Dev nD) (t : Fin cfg0.N) (a : FVec Ideal S1x1024 .f32) (j : S1x1024.Idx) :
    k0_pay13 (F := Ideal) (k0_pay4 (blk2 m c t)) (dn (blk0 m c t) (blk1 m c t) (blk4 m c t)) a j = a j
      + ∑ r : Fin 512, Rms.dgain (Rms.row (arr0 m c) (at_ t r)) (arr1 m c) (Rms.row (arr5 m c) 1) (Rms.row (arr3 m c) (at_ t r)) (j 1) := by
  obtain ⟨k, rfl⟩ := Rms.row1 j
  rw [block_gain]
  have hx : ∀ r, blk2 m c t (ix2 r k) = arr3 m c (ix2 (at_ t r) k) := fun r => congrFun (rows2 m c t r) k
  simp only [dn_eq, block_norm, hx, rows0, rows2, whole1, whole4]
  rfl

theorem zero8 (j : S1x1024.Idx) : k0_pay8 (F := Ideal) j = 0 := by
  pointwise [k0_pay8]

theorem zero9 (j : S1x1024.Idx) : k0_pay9 (F := Ideal) j = 0 := by
  pointwise [k0_pay9]

theorem zero10 (j : S1x1024.Idx) : k0_pay10 (F := Ideal) j = 0 := by
  pointwise [k0_pay10]

theorem last7 (c : Dev nD) (j : S1x1024.Idx) : (outsAt0 m c t0_3.val t0_3.isLt).2.1 j = dshift m c j := by
  refine (Pipeline.eq_sum_fin_of_reset_step_apply_last (fun n h => (outsAt0 m c n h).2.1) 4 (fun _ => (0 : EReal)) _ (fun t h j => by
     rw [outsAt0_A m c t h]
     frame_out
     exact (step_shift m c t _ j).trans (congrArg (· + _) (zero8 j))) (fun t h j => by
     rw [outsAt0_B m c t h]
     frame_out
     exact step_shift m c t _ j) (le_of_eq N_0) t0_3 rfl j).trans ?_
  rw [zero_add]
  exact Rms.sum_steps fun r => Rms.lin (Rms.row (arr0 m c) r) (arr1 m c) (j 1)

theorem final7 (c : Dev nD) : (dats m 0 c).arrAt 7 cfg0.N = dshift m c := by
  refine (dats m 0 c).arrAt_eq_of_after_last 7 t0_3 (by decide +kernel) _ fun j => ?_
  blk_simp
  rw [after0_7]
  exact last7 m c j

theorem last8 (c : Dev nD) (j : S1x1024.Idx) : (outsAt0 m c t0_3.val t0_3.isLt).2.2.1 j = dscale m c j := by
  refine (Pipeline.eq_sum_fin_of_reset_step_apply_last (fun n h => (outsAt0 m c n h).2.2.1) 4 (fun _ => (0 : EReal)) _ (fun t h j => by
     rw [outsAt0_A m c t h]
     frame_out
     exact (step_scale m c t _ j).trans (congrArg (· + _) (zero9 j))) (fun t h j => by
     rw [outsAt0_B m c t h]
     frame_out
     exact step_scale m c t _ j) (le_of_eq N_0) t0_3 rfl j).trans ?_
  rw [zero_add]
  exact Rms.sum_steps fun r => Rms.dscale (Rms.row (arr0 m c) r) (arr1 m c) (Rms.row (arr6 m c) 0) (Rms.row (arr3 m c) r) (j 1)

theorem final8 (c : Dev nD) : (dats m 0 c).arrAt 8 cfg0.N = dscale m c := by
  refine (dats m 0 c).arrAt_eq_of_after_last 8 t0_3 (by decide +kernel) _ fun j => ?_
  blk_simp
  rw [after0_8]
  exact last8 m c j

theorem last9 (c : Dev nD) (j : S1x1024.Idx) : (outsAt0 m c t0_3.val t0_3.isLt).2.2.2 j = dgain m c j := by
  refine (Pipeline.eq_sum_fin_of_reset_step_apply_last (fun n h => (outsAt0 m c n h).2.2.2) 4 (fun _ => (0 : EReal)) _ (fun t h j => by
     rw [outsAt0_A m c t h]
     frame_out
     exact (step_gain m c t _ j).trans (congrArg (· + _) (zero10 j))) (fun t h j => by
     rw [outsAt0_B m c t h]
     frame_out
     exact step_gain m c t _ j) (le_of_eq N_0) t0_3 rfl j).trans ?_
  rw [zero_add]
  exact Rms.sum_steps fun r => Rms.dgain (Rms.row (arr0 m c) r) (arr1 m c) (Rms.row (arr5 m c) 1) (Rms.row (arr3 m c) r) (j 1)

theorem final9 (c : Dev nD) : (dats m 0 c).arrAt 9 cfg0.N = dgain m c := by
  refine (dats m 0 c).arrAt_eq_of_after_last 9 t0_3 (by decide +kernel) _ fun j => ?_
  blk_simp
  rw [after0_9]
  exact last9 m c j

theorem algebraic : Cert.algebraic_FirstIdeal_FirstRefIdeal := fun m g m' g' _ hm =>
  ⟨_, _, _, _, (θ_run Cert.FirstIdeal.defs _ _).mono (fun r h c => ⟨(h c).1.trans (final6 m c), (h c).2.1.trans (final7 m c),
      (h c).2.2.1.trans (final8 m c), (h c).2.2.2.1.trans (final9 m c), (h c).2.2.2.2⟩) (Cert.FirstIdeal.Value.run_blocks m g),
    (θ_run Cert.FirstRefIdeal.defs _ _).mono (fun r h c => by
      obtain ⟨h0, h1, h2, h3, h4, h5, h6⟩ := hm c
      refine ⟨(h c).1.trans ?_, (h c).2.1.trans ?_, (h c).2.2.1.trans ?_, (h c).2.2.2.1.trans ?_, (h c).2.2.2.2⟩
      · rw [Cert.FirstRefIdeal.Read.val_main_v54_eq, h0, h1, h3, h4, h5, h6]
        exact FirstRef.grad_eq _ _ _ _ _ _
      · rw [Cert.FirstRefIdeal.Read.val_main_v29_eq, h0, h1]
        exact FirstRef.dshift_eq _ _
      · rw [Cert.FirstRefIdeal.Read.val_main_v32_eq, h0, h1, h3, h6]
        exact FirstRef.dscale_eq _ _ _ _
      · rw [Cert.FirstRefIdeal.Read.val_main_v37_eq, h0, h1, h3, h5]
        exact FirstRef.dgain_eq _ _ _ _)
      (Cert.FirstRefIdeal.Value.run (F := Ideal) m' g')⟩

end Cert.Proof.First

end
-- ==== Proof.Products.Mid.lean ====
/-
  The backward pass between the two halves of the block: each grid step carries 512 rows of the gradient back through the
  stack of weights and the norm, gates what the residual adds, and adds its rows' shares to four one-row gradients.
-/
module

public import proofs.«01_k».proof.Defs
public import proofs.«01_k».proof.Proof.Gen.MidIdeal.Value
public import proofs.«01_k».proof.Proof.Gen.MidRefIdeal.Run
public import proofs.«01_k».proof.Proof.Products.MidRef
public import proofs.«01_k».proof.Proof.Products.First
public import Idealize.ShloMosaic.Lib.Pipeline.ValueKit
public import Idealize.ShloMosaic.Lib.Pointwise
public import Idealize.ShloMosaic.Lib.Claim

@[expose] public section

set_option maxRecDepth 16384

noncomputable section

namespace Cert.Proof.Mid

open Idealize.ShloMosaic Idealize.ShloMosaic.TcCoe Idealize.SL.Sem
open Idealize.ShloMosaic.Pipeline (Dat)
open Cert.MidIdeal Cert.MidIdeal.Gen
open scoped BigOperators

variable (m : (ℓ : Loc nD τ sig) → Buf (Elt Ideal) ℓ) (ρ : Dev nD → PrngReg)

theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] := by
  decide +kernel

/-! ## What the steps store; the arithmetic is the first projection's, with another row of the modulation -/

theorem block_scaled (v : FVec Ideal S512x1024 .f32) (mod : FVec Ideal S6x1024 .f32) (r : Fin 512) (k : Fin 1024) :
    k0_pay9 (F := Ideal) v (k0_pay8 mod) (ix2 r k) = v (ix2 r k) * (1 + mod (ix2 4 k)) := by
  pointwise [k0_pay9, k0_pay8]

theorem block_back (x d v : FVec Ideal S512x1024 .f32) (mod : FVec Ideal S6x1024 .f32) (g : FVec Ideal S1x1024 .f32) (r : Fin 512) (k : Fin 1024) :
    k0_pay10 (F := Ideal) v d g (k0_pay6 x) (k0_pay7 x) (k0_pay8 mod) (ix2 r k)
      = Rms.back (Rms.row x r) (fun k => k0_pay9 (F := Ideal) v (k0_pay8 mod) (ix2 r k) * g (ix2 0 k)) (d (ix2 r k)) k :=
  First.block_back x d (k0_pay9 (F := Ideal) v (k0_pay8 mod)) g r k

theorem block_mix (x d v : FVec Ideal S512x1024 .f32) (i : FVec Ideal S512x1 .f32) (sc g : FVec Ideal S1x1024 .f32) (mod : FVec Ideal S6x1024 .f32)
    (r : Fin 512) (k : Fin 1024) :
    k0_pay14 (F := Ideal) v d mod g i x sc (ix2 r k) = k0_pay10 (F := Ideal) v d g i x sc (ix2 r k) * mod (ix2 2 k) := by
  unfold k0_pay14
  generalize k0_pay10 (F := Ideal) v d g i x sc = u
  pointwise []

theorem block_sum (v : FVec Ideal S512x1024 .f32) (a : FVec Ideal S1x1024 .f32) (k : Fin 1024) :
    k0_pay19 (F := Ideal) v a (ix2 0 k) = a (ix2 0 k) + ∑ r : Fin 512, v (ix2 r k) :=
  First.block_sum v a k

theorem block_scale (v n : FVec Ideal S512x1024 .f32) (g a : FVec Ideal S1x1024 .f32) (k : Fin 1024) :
    k0_pay1 (F := Ideal) (k0_pay11 v g n) a (ix2 0 k) = a (ix2 0 k) + ∑ r : Fin 512, v (ix2 r k) * (n (ix2 r k) * g (ix2 0 k)) :=
  First.block_scale v n g a k

theorem block_gain (v n : FVec Ideal S512x1024 .f32) (sc a : FVec Ideal S1x1024 .f32) (k : Fin 1024) :
    k0_pay2 (F := Ideal) (k0_pay12 v n sc) a (ix2 0 k) = a (ix2 0 k) + ∑ r : Fin 512, k0_pay9 (F := Ideal) v sc (ix2 r k) * n (ix2 r k) :=
  First.block_gain (k0_pay9 (F := Ideal) v sc) n a k

theorem block_gate (v d mix n : FVec Ideal S512x1024 .f32) (i : FVec Ideal S512x1 .f32) (sc g a : FVec Ideal S1x1024 .f32) (k : Fin 1024) :
    k0_pay3 (F := Ideal) (k0_pay13 v d mix g i n sc) a (ix2 0 k)
      = a (ix2 0 k) + ∑ r : Fin 512, k0_pay10 (F := Ideal) v d g i n sc (ix2 r k) * mix (ix2 r k) :=
  First.block_gain (k0_pay10 (F := Ideal) v d g i n sc) mix a k

theorem block_norm (x : FVec Ideal S512x1024 .f32) (r : Fin 512) (k : Fin 1024) :
    k0_pay7 (F := Ideal) x (ix2 r k) = x (ix2 r k) * Rms.inv (Rms.row x r) :=
  First.block_norm x r k

/-! ## A step's rows in the whole arrays -/

def at_ (t : Fin cfg0.N) (r : Fin 512) : Fin 2048 := ⟨512 * t.val + r.val, by have : t.val < 4 := t.isLt; omega⟩

abbrev dau (c : Dev nD) : FVec Ideal S2048x6144 .bf16 := m ((c : Thread nD τ).loc main_arg0)
abbrev wts (c : Dev nD) : FVec Ideal S8x1024x768 .bf16 := m ((c : Thread nD τ).loc main_arg1)
abbrev inp (c : Dev nD) : FVec Ideal S2048x1024 .f32 := m ((c : Thread nD τ).loc main_arg3)
abbrev dx2 (c : Dev nD) : FVec Ideal S2048x1024 .f32 := m ((c : Thread nD τ).loc main_arg4)
abbrev mix (c : Dev nD) : FVec Ideal S2048x1024 .f32 := m ((c : Thread nD τ).loc main_arg5)
abbrev modv (c : Dev nD) : FVec Ideal S6x1024 .f32 := m ((c : Thread nD τ).loc main_arg6)
abbrev gain (c : Dev nD) : FVec Ideal S1x1024 .f32 := m ((c : Thread nD τ).loc main_arg7)

abbrev blk0 (c : Dev nD) (t : Fin cfg0.N) : FVec Ideal S512x6144 .bf16 := iblk m c 0 t
abbrev blk1 (c : Dev nD) (t : Fin cfg0.N) : FVec Ideal S8x1024x768 .bf16 := iblk m c 1 t
abbrev blk2 (c : Dev nD) (t : Fin cfg0.N) : FVec Ideal S512x1024 .f32 := iblk m c 2 t
abbrev blk3 (c : Dev nD) (t : Fin cfg0.N) : FVec Ideal S512x1024 .f32 := iblk m c 3 t
abbrev blk4 (c : Dev nD) (t : Fin cfg0.N) : FVec Ideal S512x1024 .f32 := iblk m c 4 t
abbrev blk5 (c : Dev nD) (t : Fin cfg0.N) : FVec Ideal S6x1024 .f32 := iblk m c 5 t
abbrev blk6 (c : Dev nD) (t : Fin cfg0.N) : FVec Ideal S1x1024 .f32 := iblk m c 6 t

theorem rows0 (c : Dev nD) (t : Fin cfg0.N) (r : Fin 512) : Rms.row (blk0 m c t) r = Rms.row (dau m c) (at_ t r) := by
  obtain ⟨e0, e1, e2, e3, e4, e5, e6, e7, e8⟩ := idx t
  funext k
  show iblk m c 0 t (ix2 r k) = m ((c : Thread nD τ).loc main_arg0) (ix2 (at_ t r) k)
  blk_ext [iblk, V, e0, at_]

theorem whole1 (c : Dev nD) (t : Fin cfg0.N) : blk1 m c t = wts m c := by
  obtain ⟨e0, e1, e2, e3, e4, e5, e6, e7, e8⟩ := idx t
  funext y
  blk_ext [iblk, V, e1]

theorem rows2 (c : Dev nD) (t : Fin cfg0.N) (r : Fin 512) : Rms.row (blk2 m c t) r = Rms.row (inp m c) (at_ t r) := by
  obtain ⟨e0, e1, e2, e3, e4, e5, e6, e7, e8⟩ := idx t
  funext k
  show iblk m c 2 t (ix2 r k) = m ((c : Thread nD τ).loc main_arg3) (ix2 (at_ t r) k)
  blk_ext [iblk, V, e2, at_]

theorem rows3 (c : Dev nD) (t : Fin cfg0.N) (r : Fin 512) : Rms.row (blk3 m c t) r = Rms.row (dx2 m c) (at_ t r) := by
  obtain ⟨e0, e1, e2, e3, e4, e5, e6, e7, e8⟩ := idx t
  funext k
  show iblk m c 3 t (ix2 r k) = m ((c : Thread nD τ).loc main_arg4) (ix2 (at_ t r) k)
  blk_ext [iblk, V, e3, at_]

theorem rows4 (c : Dev nD) (t : Fin cfg0.N) (r : Fin 512) : Rms.row (blk4 m c t) r = Rms.row (mix m c) (at_ t r) := by
  obtain ⟨e0, e1, e2, e3, e4, e5, e6, e7, e8⟩ := idx t
  funext k
  show iblk m c 4 t (ix2 r k) = m ((c : Thread nD τ).loc main_arg5) (ix2 (at_ t r) k)
  blk_ext [iblk, V, e4, at_]

theorem whole5 (c : Dev nD) (t : Fin cfg0.N) : blk5 m c t = modv m c := by
  obtain ⟨e0, e1, e2, e3, e4, e5, e6, e7, e8⟩ := idx t
  funext y
  blk_ext [iblk, V, e5]

theorem whole6 (c : Dev nD) (t : Fin cfg0.N) : blk6 m c t = gain m c := by
  obtain ⟨e0, e1, e2, e3, e4, e5, e6, e7, e8⟩ := idx t
  funext y
  blk_ext [iblk, V, e6]

/-- A step's product with the eight shards. -/
abbrev dh (c : Dev nD) (t : Fin cfg0.N) : FVec Ideal S512x1024 .f32 := First.dh (blk0 m c t) (blk1 m c t)

theorem dh_eq (c : Dev nD) (t : Fin cfg0.N) (r : Fin 512) (k : Fin 1024) :
    dh m c t (ix2 r k) = Rms.lin (Rms.row (dau m c) (at_ t r)) (wts m c) k := by
  rw [dh, First.dh_eq, rows0, whole1]

abbrev dn (c : Dev nD) (t : Fin cfg0.N) : FVec Ideal S512x1024 .f32 := k0_pay9 (F := Ideal) (dh m c t) (k0_pay8 (blk5 m c t))

theorem dn_eq (c : Dev nD) (t : Fin cfg0.N) (r : Fin 512) (k : Fin 1024) :
    dn m c t (ix2 r k) = Rms.scaled (Rms.row (dau m c) (at_ t r)) (wts m c) (Rms.row (modv m c) 4) k := by
  rw [dn, block_scaled, dh_eq, whole5]
  rfl

/-- A step's rows of the gradient by the norm's input. -/
abbrev dx (c : Dev nD) (t : Fin cfg0.N) : FVec Ideal S512x1024 .f32 :=
  k0_pay10 (F := Ideal) (dh m c t) (blk3 m c t) (blk6 m c t) (k0_pay6 (blk2 m c t)) (k0_pay7 (blk2 m c t)) (k0_pay8 (blk5 m c t))

abbrev grad (c : Dev nD) : FVec Ideal S2048x1024 .f32 := Rms.gradAll (dau m c) (wts m c) 4 (inp m c) (dx2 m c) (modv m c) (gain m c)

abbrev dmix (c : Dev nD) : FVec Ideal S2048x1024 .bf16 := Rms.mixAll (dau m c) (wts m c) 4 (inp m c) (dx2 m c) (modv m c) (gain m c)

abbrev dshift (c : Dev nD) : FVec Ideal S1x1024 .f32 := Rms.shiftAll (dau m c) (wts m c)

abbrev dscale (c : Dev nD) : FVec Ideal S1x1024 .f32 := Rms.scaleAll (dau m c) (wts m c) (inp m c) (gain m c)

abbrev dgain (c : Dev nD) : FVec Ideal S1x1024 .f32 := Rms.gainAll (dau m c) (wts m c) 4 (inp m c) (modv m c)

abbrev dgate (c : Dev nD) : FVec Ideal S1x1024 .f32 :=
  Rms.gateAll (dau m c) (wts m c) 4 (inp m c) (dx2 m c) (modv m c) (gain m c) (mix m c)

theorem dx_eq (c : Dev nD) (t : Fin cfg0.N) (r : Fin 512) (k : Fin 1024) : dx m c t (ix2 r k) = grad m c (ix2 (at_ t r) k) := by
  rw [dx, block_back]
  simp only [dn_eq, rows2, whole6]
  exact congrArg (fun d => Rms.back _ _ d _) (congrFun (rows3 m c t r) k)

theorem step_grad (c : Dev nD) (t : Fin cfg0.N) (y : S512x1024.Idx) (i : S2048x1024.Idx)
    (h0 : (i 0).val = 512 * t.val + (y 0).val) (h1 : (i 1).val = (y 1).val) : dx m c t y = grad m c i := by
  obtain ⟨r, k, rfl⟩ : ∃ (r : Fin 512) (k : Fin 1024), y = ix2 r k := ⟨y 0, y 1, eq_ix2 y⟩
  obtain rfl : i = ix2 (at_ t r) k := (eq_ix2 i).trans (congrArg₂ ix2 (Fin.ext h0) (Fin.ext h1))
  exact dx_eq m c t r k

theorem step_mix (c : Dev nD) (t : Fin cfg0.N) (y : S512x1024.Idx) (i : S2048x1024.Idx)
    (h0 : (i 0).val = 512 * t.val + (y 0).val) (h1 : (i 1).val = (y 1).val) :
    k0_pay14 (F := Ideal) (dh m c t) (blk3 m c t) (blk5 m c t) (blk6 m c t) (k0_pay6 (blk2 m c t)) (k0_pay7 (blk2 m c t)) (k0_pay8 (blk5 m c t)) y
      = dmix m c i := by
  obtain ⟨r, k, rfl⟩ : ∃ (r : Fin 512) (k : Fin 1024), y = ix2 r k := ⟨y 0, y 1, eq_ix2 y⟩
  obtain rfl : i = ix2 (at_ t r) k := (eq_ix2 i).trans (congrArg₂ ix2 (Fin.ext h0) (Fin.ext h1))
  have e := dx_eq m c t r k
  rw [dx] at e
  rw [block_mix, e, whole5]
  rfl

theorem final7 (c : Dev nD) : (dats m 0 c).arrAt 7 cfg0.N = grad m c := by
  refine (dats m 0 c).arrAt_eq_of_covers 7 _ (by decide +kernel) fun t hf y => ?_
  obtain ⟨e0, e1, e2, e3, e4, e5, e6, e7, e8⟩ := idx t
  blk_simp
  rw [after0_7]
  by_cases h : t.val % 4 = 0
  · rw [outsAt0_A m c t h]
    frame_out
    refine step_grad m c t y _ ?_ ?_ <;> blk_simp [e7] <;> simp only [] <;> omega
  · rw [outsAt0_B m c t h]
    frame_out
    refine step_grad m c t y _ ?_ ?_ <;> blk_simp [e7] <;> simp only [] <;> omega

theorem final8 (c : Dev nD) : (dats m 0 c).arrAt 8 cfg0.N = dmix m c := by
  refine (dats m 0 c).arrAt_eq_of_covers 8 _ (by decide +kernel) fun t hf y => ?_
  obtain ⟨e0, e1, e2, e3, e4, e5, e6, e7, e8⟩ := idx t
  blk_simp
  rw [after0_8]
  by_cases h : t.val % 4 = 0
  · rw [outsAt0_A m c t h]
    frame_out
    refine step_mix m c t y _ ?_ ?_ <;> blk_simp [e8] <;> simp only [] <;> omega
  · rw [outsAt0_B m c t h]
    frame_out
    refine step_mix m c t y _ ?_ ?_ <;> blk_simp [e8] <;> simp only [] <;> omega

theorem step_shift (c : Dev nD) (t : Fin cfg0.N) (a : FVec Ideal S1x1024 .f32) (j : S1x1024.Idx) :
    k0_pay19 (F := Ideal) (dh m c t) a j
      = a j + ∑ r : Fin 512, Rms.lin (Rms.row (dau m c) (at_ t r)) (wts m c) (j 1) := by
  obtain ⟨k, rfl⟩ := Rms.row1 j
  rw [block_sum]
  simp only [dh_eq]
  rfl

theorem step_scale (c : Dev nD) (t : Fin cfg0.N) (a : FVec Ideal S1x1024 .f32) (j : S1x1024.Idx) :
    k0_pay1 (F := Ideal) (k0_pay11 (dh m c t) (blk6 m c t) (k0_pay7 (blk2 m c t))) a j
      = a j + ∑ r : Fin 512, Rms.dscale (Rms.row (dau m c) (at_ t r)) (wts m c) (Rms.row (gain m c) 0) (Rms.row (inp m c) (at_ t r)) (j 1) := by
  obtain ⟨k, rfl⟩ := Rms.row1 j
  have hx : ∀ r, blk2 m c t (ix2 r k) = inp m c (ix2 (at_ t r) k) := fun r => congrFun (rows2 m c t r) k
  rw [block_scale]
  simp only [dh_eq, block_norm, hx, rows2, whole6]
  rfl

theorem step_gain (c : Dev nD) (t : Fin cfg0.N) (a : FVec Ideal S1x1024 .f32) (j : S1x1024.Idx) :
    k0_pay2 (F := Ideal) (k0_pay12 (dh m c t) (k0_pay7 (blk2 m c t)) (k0_pay8 (blk5 m c t))) a j
      = a j + ∑ r : Fin 512, Rms.dgain (Rms.row (dau m c) (at_ t r)) (wts m c) (Rms.row (modv m c) 4) (Rms.row (inp m c) (at_ t r)) (j 1) := by
  obtain ⟨k, rfl⟩ := Rms.row1 j
  have hx : ∀ r, blk2 m c t (ix2 r k) = inp m c (ix2 (at_ t r) k) := fun r => congrFun (rows2 m c t r) k
  rw [block_gain]
  simp only [dn_eq, block_norm, hx, rows2]
  rfl

theorem step_gate (c : Dev nD) (t : Fin cfg0.N) (a : FVec Ideal S1x1024 .f32) (j : S1x1024.Idx) :
    k0_pay3 (F := Ideal) (k0_pay13 (dh m c t) (blk3 m c t) (blk4 m c t) (blk6 m c t) (k0_pay6 (blk2 m c t)) (k0_pay7 (blk2 m c t)) (k0_pay8 (blk5 m c t))) a j
      = a j + ∑ r : Fin 512, grad m c (ix2 (at_ t r) (j 1)) * mix m c (ix2 (at_ t r) (j 1)) := by
  obtain ⟨k, rfl⟩ := Rms.row1 j
  have hx : ∀ r, blk4 m c t (ix2 r k) = mix m c (ix2 (at_ t r) k) := fun r => congrFun (rows4 m c t r) k
  rw [block_gate]
  simp only [dx_eq, hx]
  rfl

theorem zero15 (j : S1x1024.Idx) : k0_pay15 (F := Ideal) j = 0 := by
  pointwise [k0_pay15]

theorem zero16 (j : S1x1024.Idx) : k0_pay16 (F := Ideal) j = 0 := by
  pointwise [k0_pay16]

theorem zero17 (j : S1x1024.Idx) : k0_pay17 (F := Ideal) j = 0 := by
  pointwise [k0_pay17]

theorem zero18 (j : S1x1024.Idx) : k0_pay18 (F := Ideal) j = 0 := by
  pointwise [k0_pay18]

theorem last9 (c : Dev nD) (j : S1x1024.Idx) : (outsAt0 m c t0_3.val t0_3.isLt).2.2.1 j = dshift m c j := by
  refine (Pipeline.eq_sum_fin_of_reset_step_apply_last (fun n h => (outsAt0 m c n h).2.2.1) 4 (fun _ => (0 : EReal)) _ (fun t h j => by
     rw [outsAt0_A m c t h]
     frame_out
     exact (step_shift m c t _ j).trans (congrArg (· + _) (zero15 j))) (fun t h j => by
     rw [outsAt0_B m c t h]
     frame_out
     exact step_shift m c t _ j) (le_of_eq N_0) t0_3 rfl j).trans ?_
  rw [zero_add]
  exact Rms.sum_steps fun r => Rms.lin (Rms.row (dau m c) r) (wts m c) (j 1)

theorem final9 (c : Dev nD) : (dats m 0 c).arrAt 9 cfg0.N = dshift m c := by
  refine (dats m 0 c).arrAt_eq_of_after_last 9 t0_3 (by decide +kernel) _ fun j => ?_
  blk_simp
  rw [after0_9]
  exact last9 m c j

theorem last10 (c : Dev nD) (j : S1x1024.Idx) : (outsAt0 m c t0_3.val t0_3.isLt).2.2.2.1 j = dscale m c j := by
  refine (Pipeline.eq_sum_fin_of_reset_step_apply_last (fun n h => (outsAt0 m c n h).2.2.2.1) 4 (fun _ => (0 : EReal)) _ (fun t h j => by
     rw [outsAt0_A m c t h]
     frame_out
     exact (step_scale m c t _ j).trans (congrArg (· + _) (zero16 j))) (fun t h j => by
     rw [outsAt0_B m c t h]
     frame_out
     exact step_scale m c t _ j) (le_of_eq N_0) t0_3 rfl j).trans ?_
  rw [zero_add]
  exact Rms.sum_steps fun r => Rms.dscale (Rms.row (dau m c) r) (wts m c) (Rms.row (gain m c) 0) (Rms.row (inp m c) r) (j 1)

theorem final10 (c : Dev nD) : (dats m 0 c).arrAt 10 cfg0.N = dscale m c := by
  refine (dats m 0 c).arrAt_eq_of_after_last 10 t0_3 (by decide +kernel) _ fun j => ?_
  blk_simp
  rw [after0_10]
  exact last10 m c j

theorem last11 (c : Dev nD) (j : S1x1024.Idx) : (outsAt0 m c t0_3.val t0_3.isLt).2.2.2.2.1 j = dgain m c j := by
  refine (Pipeline.eq_sum_fin_of_reset_step_apply_last (fun n h => (outsAt0 m c n h).2.2.2.2.1) 4 (fun _ => (0 : EReal)) _ (fun t h j => by
     rw [outsAt0_A m c t h]
     frame_out
     exact (step_gain m c t _ j).trans (congrArg (· + _) (zero17 j))) (fun t h j => by
     rw [outsAt0_B m c t h]
     frame_out
     exact step_gain m c t _ j) (le_of_eq N_0) t0_3 rfl j).trans ?_
  rw [zero_add]
  exact Rms.sum_steps fun r => Rms.dgain (Rms.row (dau m c) r) (wts m c) (Rms.row (modv m c) 4) (Rms.row (inp m c) r) (j 1)

theorem final11 (c : Dev nD) : (dats m 0 c).arrAt 11 cfg0.N = dgain m c := by
  refine (dats m 0 c).arrAt_eq_of_after_last 11 t0_3 (by decide +kernel) _ fun j => ?_
  blk_simp
  rw [after0_11]
  exact last11 m c j

theorem last12 (c : Dev nD) (j : S1x1024.Idx) : (outsAt0 m c t0_3.val t0_3.isLt).2.2.2.2.2 j = dgate m c j := by
  refine (Pipeline.eq_sum_fin_of_reset_step_apply_last (fun n h => (outsAt0 m c n h).2.2.2.2.2) 4 (fun _ => (0 : EReal)) _ (fun t h j => by
     rw [outsAt0_A m c t h]
     frame_out
     exact (step_gate m c t _ j).trans (congrArg (· + _) (zero18 j))) (fun t h j => by
     rw [outsAt0_B m c t h]
     frame_out
     exact step_gate m c t _ j) (le_of_eq N_0) t0_3 rfl j).trans ?_
  rw [zero_add]
  exact Rms.sum_steps fun r => grad m c (ix2 r (j 1)) * mix m c (ix2 r (j 1))

theorem final12 (c : Dev nD) : (dats m 0 c).arrAt 12 cfg0.N = dgate m c := by
  refine (dats m 0 c).arrAt_eq_of_after_last 12 t0_3 (by decide +kernel) _ fun j => ?_
  blk_simp
  rw [after0_12]
  exact last12 m c j

theorem algebraic : Cert.algebraic_MidIdeal_MidRefIdeal := fun m g m' g' _ hm =>
  ⟨_, _, _, _, _, _, (θ_run Cert.MidIdeal.defs _ _).mono (fun r h c => ⟨(h c).1.trans (final7 m c), (h c).2.1.trans (final8 m c),
      (h c).2.2.1.trans (final9 m c), (h c).2.2.2.1.trans (final10 m c), (h c).2.2.2.2.1.trans (final11 m c),
      (h c).2.2.2.2.2.1.trans (final12 m c), (h c).2.2.2.2.2.2⟩) (Cert.MidIdeal.Value.run_blocks m g),
    (θ_run Cert.MidRefIdeal.defs _ _).mono (fun r h c => by
      obtain ⟨h0, h1, h2, h3, h4, h5, h6, h7⟩ := hm c
      refine ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩
      · rw [Cert.MidRefIdeal.Read.val_main_v54_eq, h0, h1, h3, h4, h6, h7]
        exact MidRef.grad_eq _ _ _ _ _ _
      · rw [Cert.MidRefIdeal.Read.val_main_v63_eq, h0, h1, h3, h4, h6, h7]
        exact MidRef.mix_eq _ _ _ _ _ _
      · rw [Cert.MidRefIdeal.Read.val_main_v29_eq, h0, h1]
        exact MidRef.dshift_eq _ _
      · rw [Cert.MidRefIdeal.Read.val_main_v32_eq, h0, h1, h3, h7]
        exact MidRef.dscale_eq _ _ _ _
      · rw [Cert.MidRefIdeal.Read.val_main_v37_eq, h0, h1, h3, h6]
        exact MidRef.dgain_eq _ _ _ _
      · rw [Cert.MidRefIdeal.Read.val_main_v62_eq, h0, h1, h3, h4, h5, h6, h7]
        exact MidRef.gate_eq _ _ _ _ _ _ _)
      (Cert.MidRefIdeal.Value.run (F := Ideal) m' g')⟩

end Cert.Proof.Mid

end
-- ==== Proof.Products.AdamW.lean ====
/-
  AdamW's step, entry by entry: the calls and their references write the same arithmetic.
-/
module

public import proofs.«01_k».proof.Defs
public import proofs.«01_k».proof.Proof.Gen.AdamBAdaIdeal.Value
public import proofs.«01_k».proof.Proof.Gen.AdamBAdaRefIdeal.Run
public import proofs.«01_k».proof.Proof.Gen.AdamBAdaRefIdeal.Read
public import proofs.«01_k».proof.Proof.Gen.AdamNormIdeal.Value
public import proofs.«01_k».proof.Proof.Gen.AdamNormRefIdeal.Run
public import proofs.«01_k».proof.Proof.Gen.AdamNormRefIdeal.Read
public import proofs.«01_k».proof.Proof.Gen.AdamFgateIdeal.Value
public import proofs.«01_k».proof.Proof.Gen.AdamFgateRefIdeal.Run
public import proofs.«01_k».proof.Proof.Gen.AdamFgateRefIdeal.Read
public import proofs.«01_k».proof.Proof.Gen.AdamBrAIdeal.Value
public import proofs.«01_k».proof.Proof.Gen.AdamBrARefIdeal.Run
public import proofs.«01_k».proof.Proof.Gen.AdamBrARefIdeal.Read
public import proofs.«01_k».proof.Proof.Gen.AdamBrBIdeal.Value
public import proofs.«01_k».proof.Proof.Gen.AdamBrBRefIdeal.Run
public import proofs.«01_k».proof.Proof.Gen.AdamBrBRefIdeal.Read
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Claim

@[expose] public section

noncomputable section

namespace Cert.Proof.AdamW

open Idealize.ShloMosaic Idealize.ShloMosaic.TcCoe Idealize.SL.Sem

/-- The modulation's bias. -/
theorem algebraic_BAda : Cert.algebraic_AdamBAdaIdeal_AdamBAdaRefIdeal := fun m g m' g' _ hm =>
  ⟨_, _, _, Cert.AdamBAdaIdeal.Value.run m g,
    (θ_run Cert.AdamBAdaRefIdeal.defs _ _).mono (fun r h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamBAdaRefIdeal.Value.run (F := Ideal) m' g')⟩

/-- The gain of a norm. -/
theorem algebraic_Norm : Cert.algebraic_AdamNormIdeal_AdamNormRefIdeal := fun m g m' g' _ hm =>
  ⟨_, _, _, Cert.AdamNormIdeal.Value.run m g,
    (θ_run Cert.AdamNormRefIdeal.defs _ _).mono (fun r h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamNormRefIdeal.Value.run (F := Ideal) m' g')⟩

/-- The forget gate's bias. -/
theorem algebraic_Fgate : Cert.algebraic_AdamFgateIdeal_AdamFgateRefIdeal := fun m g m' g' _ hm =>
  ⟨_, _, _, Cert.AdamFgateIdeal.Value.run m g,
    (θ_run Cert.AdamFgateRefIdeal.defs _ _).mono (fun r h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamFgateRefIdeal.Value.run (F := Ideal) m' g')⟩

/-- The forgetting branch's projection. -/
theorem algebraic_BrA : Cert.algebraic_AdamBrAIdeal_AdamBrARefIdeal := fun m g m' g' _ hm =>
  ⟨_, _, _, Cert.AdamBrAIdeal.Value.run m g,
    (θ_run Cert.AdamBrARefIdeal.defs _ _).mono (fun r h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamBrARefIdeal.Value.run (F := Ideal) m' g')⟩

/-- The dilated branch's projection. -/
theorem algebraic_BrB : Cert.algebraic_AdamBrBIdeal_AdamBrBRefIdeal := fun m g m' g' _ hm =>
  ⟨_, _, _, Cert.AdamBrBIdeal.Value.run m g,
    (θ_run Cert.AdamBrBRefIdeal.defs _ _).mono (fun r h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamBrBRefIdeal.Value.run (F := Ideal) m' g')⟩

/-- The output projection. -/
theorem algebraic_Out : Cert.algebraic_AdamOutIdeal_AdamOutRefIdeal := fun m g m' g' _ hm =>
  ⟨_, _, _, Cert.AdamOutIdeal.Value.run m g,
    (θ_run Cert.AdamOutRefIdeal.defs _ _).mono (fun r h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamOutRefIdeal.Value.run (F := Ideal) m' g')⟩

end Cert.Proof.AdamW

end
-- ==== Proof.Products.AdaBwd.lean ====
/-
  The gradient of the modulation's weights: the features through silu, against the gradients of all devices' modulations.
-/
module

public import proofs.«01_k».proof.Defs
public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.Products.Gate
public import Idealize.ShloMosaic.Lib.Pipeline.ValueKit
public import Idealize.ShloMosaic.Lib.Pointwise
public import Idealize.ShloMosaic.Lib.Claim

@[expose] public section

noncomputable section

namespace Cert.Proof.AdaBwd

open Idealize.ShloMosaic Idealize.ShloMosaic.TcCoe Idealize.SL.Sem
open Cert.AdaBwdIdeal Cert.AdaBwdIdeal.Gen
open scoped BigOperators

/-- Entry `(d, e)`: the sum over the examples of silu of the feature times the gradient. -/
def outer (c : FVec Ideal S8x1024 .f32) (g : FVec Ideal S8x768 .f32) : FVec Ideal S1024x768 .f32 :=
  fun y => ∑ b : Fin 8, c (ix2 b (y 0)) * Ideal.logistic (c (ix2 b (y 0))) * g (ix2 b (y 1))

theorem kernel_eq (c : FVec Ideal S8x1024 .f32) (g : FVec Ideal S8x768 .f32) : k0_pay1 (F := Ideal) c g = outer c g := by
  funext y
  obtain ⟨d, e, rfl⟩ : ∃ (d : Fin 1024) (e : Fin 768), y = ix2 d e := ⟨y 0, y 1, eq_ix2 y⟩
  pointwise [k0_pay1]
  simp only [Gate.sigmoid]
  rfl

open Cert.AdaBwdRefIdeal.Read in
theorem ref_eq (c : FVec Ideal S8x1024 .f32) (g : FVec Ideal S8x768 .f32) : val_main_v4 (F := Ideal) c g = outer c g := by
  funext y
  obtain ⟨d, e, rfl⟩ : ∃ (d : Fin 1024) (e : Fin 768), y = ix2 d e := ⟨y 0, y 1, eq_ix2 y⟩
  unfold val_main_v4 val_main_v3 val_main_v1 val_main_call0_v5 val_main_call0_v4 val_main_call0_cst_0 val_main_call0_v3 val_main_call0_v2 val_main_call0_cst val_main_call0_v1 val_main_call0_v0
  pointwise []
  refine Finset.sum_congr rfl fun b _ => mul_comm _ _

theorem algebraic : Cert.algebraic_AdaBwdIdeal_AdaBwdRefIdeal := fun m g m' g' _ hm =>
  ⟨_, (θ_run Cert.AdaBwdIdeal.defs _ _).mono (fun r h c => ⟨(h c).1.trans (kernel_eq _ _), (h c).2⟩) (Cert.AdaBwdIdeal.Value.run m g),
    (θ_run Cert.AdaBwdRefIdeal.defs _ _).mono (fun r h c => by
      refine ⟨(h c).1.trans ?_, (h c).2⟩
      rw [Cert.AdaBwdRefIdeal.Read.val_main_v4_eq, (hm c).1, (hm c).2]
      exact ref_eq _ _)
      (Cert.AdaBwdRefIdeal.Value.run (F := Ideal) m' g')⟩

end Cert.Proof.AdaBwd

end
-- ==== Proof.Products.Small.lean ====
/-
  The sum over the devices of their small gradients, and the loss off one of its rows.
-/
module

public import proofs.«01_k».proof.Defs
public import proofs.«01_k».proof.Proof.Gen.SmallIdeal.Value
public import proofs.«01_k».proof.Proof.Gen.SmallRefIdeal.Run
public import proofs.«01_k».proof.Proof.Gen.SmallRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.Proof.Small

open Idealize.ShloMosaic Idealize.ShloMosaic.TcCoe Idealize.SL.Sem
open Cert.SmallIdeal Cert.SmallIdeal.Gen
open scoped BigOperators

variable (m : (ℓ : Loc nD τ sig) → Buf (Elt Ideal) ℓ)

/-- The sum over the devices. -/
def total (x : FVec Ideal S8x16x1024 .f32) : FVec Ideal S16x1024 .f32 := fun y => ∑ d : Fin 8, x (ix3 d (y 0) (y 1))

/-- Row 10 of the sum, added up, in every lane. -/
def loss (x : FVec Ideal S8x16x1024 .f32) : FVec Ideal S1x128 .f32 := fun _ => ∑ k : Fin 1024, total x (ix2 10 k)

/-- A device's block. -/
def slab (x : FVec Ideal S8x16x1024 .f32) (n : Nat) (h : ∀ a, (![n, 0, 0] : Fin 3 → Nat) a + S1x16x1024.size a ≤ S8x16x1024.size a) :
    FVec Ideal S1x16x1024 .f32 :=
  View.ld (Val := Elt Ideal) (e' := .f32) x (Rect.unit (s := S8x16x1024) ![n, 0, 0] S1x16x1024.size h)

theorem slab_eq (x : FVec Ideal S8x16x1024 .f32) (d : Fin 8) (n : Nat) (hn : n = d.val) (h) (r : Fin 16) (k : Fin 1024) :
    slab x n h (ix3 0 r k) = x (ix3 d r k) := by
  subst hn
  refine View.ld_unit_apply_of (S := S8x16x1024) (Val := Elt Ideal) (e := .f32) x _ _ h _ _ fun a => ?_
  fin_cases a <;> simp

/-- The blocks, added in the devices' order. -/
theorem add_eq (x : FVec Ideal S8x16x1024 .f32) :
    k0_pay2 (F := Ideal) (slab x 0 inb_S8x16x1024_S1x16x1024_0_0_0) (slab x 1 inb_S8x16x1024_S1x16x1024_1_0_0)
      (slab x 2 inb_S8x16x1024_S1x16x1024_2_0_0) (slab x 3 inb_S8x16x1024_S1x16x1024_3_0_0)
      (slab x 4 inb_S8x16x1024_S1x16x1024_4_0_0) (slab x 5 inb_S8x16x1024_S1x16x1024_5_0_0)
      (slab x 6 inb_S8x16x1024_S1x16x1024_6_0_0) (slab x 7 inb_S8x16x1024_S1x16x1024_7_0_0) = total x := by
  funext y
  obtain ⟨r, k, rfl⟩ : ∃ (r : Fin 16) (k : Fin 1024), y = ix2 r k := ⟨y 0, y 1, eq_ix2 y⟩
  unfold total
  rw [Fin.sum_univ_eight]
  pointwise [k0_pay2]
  rw [slab_eq x 0, slab_eq x 1, slab_eq x 2, slab_eq x 3, slab_eq x 4, slab_eq x 5, slab_eq x 6, slab_eq x 7] <;> rfl

/-- Row 10 of what is added, added up. -/
theorem row_eq (x : FVec Ideal S8x16x1024 .f32) (x0 x1 x2 x3 x4 x5 x6 x7 : FVec Ideal S1x16x1024 .f32)
    (h : k0_pay2 (F := Ideal) x0 x1 x2 x3 x4 x5 x6 x7 = total x) :
    k0_pay1 (F := Ideal) k0_pay3 (k0_pay4 x0 x1 x2 x3 x4 x5 x6 x7) = loss x := by
  funext j
  unfold k0_pay4
  rw [h]
  show _ = ∑ k : Fin 1024, total x (ix2 10 k)
  generalize total x = v
  pointwise [k0_pay1, k0_pay3]
  exact Fin.sum_univ_one _

abbrev arr (c : Dev nD) : FVec Ideal S8x16x1024 .f32 := m ((c : Thread nD τ).loc main_arg0)

theorem idx : ∀ t : Fin cfg0.N, win0_0.index t = ![0, 0, 0] ∧ win0_1.index t = ![0, 0] ∧ win0_2.index t = ![0, 0] := by
  decide +kernel

theorem whole (c : Dev nD) (t : Fin cfg0.N) : (iblk m c 0 t : FVec Ideal S8x16x1024 .f32) = arr m c := by
  obtain ⟨e0, e1, e2⟩ := idx t
  funext y
  blk_ext [iblk, V, e0]

theorem final1 (c : Dev nD) : (dats m 0 c).arrAt 1 cfg0.N = total (arr m c) := by
  refine (dats m 0 c).arrAt_eq_of_covers 1 _ (by decide +kernel) fun t hf y => ?_
  obtain ⟨e0, e1, e2⟩ := idx t
  blk_simp
  rw [after0_1]
  unfold outsAt0
  frame_out
  simp only [read_unread_whole]
  refine (congrFun (add_eq (iblk m c 0 t)) y).trans ?_
  rw [whole]
  refine congrArg (total (arr m c)) (funext fun a => Fin.ext ?_)
  fin_cases a <;> blk_simp [e1] <;> simp

theorem final2 (c : Dev nD) : (dats m 0 c).arrAt 2 cfg0.N = loss (arr m c) := by
  refine (dats m 0 c).arrAt_eq_of_covers 2 _ (by decide +kernel) fun t hf y => ?_
  blk_simp
  rw [after0_2]
  unfold outsAt0
  frame_out
  simp only [read_unread_whole]
  refine (congrFun (row_eq (iblk m c 0 t) _ _ _ _ _ _ _ _ (add_eq _)) y).trans ?_
  rw [whole]
  rfl

open Cert.SmallRefIdeal.Read in
theorem ref_total (x : FVec Ideal S8x16x1024 .f32) : val_main_v0 (F := Ideal) x = total x := by
  funext y
  obtain ⟨r, k, rfl⟩ : ∃ (r : Fin 16) (k : Fin 1024), y = ix2 r k := ⟨y 0, y 1, eq_ix2 y⟩
  unfold val_main_v0 val_main_cst
  pointwise []
  rfl

open Cert.SmallRefIdeal.Read in
theorem ref_loss (x : FVec Ideal S8x16x1024 .f32) : val_main_v4 (F := Ideal) x = loss x := by
  funext y
  unfold val_main_v4 val_main_v3 val_main_v2 val_main_v1 val_main_cst_0
  rw [ref_total]
  show _ = ∑ k : Fin 1024, total x (ix2 10 k)
  generalize total x = v
  pointwise []

theorem algebraic : Cert.algebraic_SmallIdeal_SmallRefIdeal := fun m g m' g' _ hm =>
  ⟨_, _, (θ_run Cert.SmallIdeal.defs _ _).mono (fun r h c => ⟨(h c).1.trans (final1 m c), (h c).2.1.trans (final2 m c), (h c).2.2⟩)
      (Cert.SmallIdeal.Value.run_blocks m g),
    (θ_run Cert.SmallRefIdeal.defs _ _).mono (fun r h c => by
      refine ⟨(h c).1.trans ?_, (h c).2.1.trans ?_, (h c).2.2⟩
      · rw [Cert.SmallRefIdeal.Read.val_main_v0_eq, (hm c).1]
        exact ref_total _
      · rw [Cert.SmallRefIdeal.Read.val_main_v4_eq, (hm c).1]
        exact ref_loss _)
      (Cert.SmallRefIdeal.Value.run (F := Ideal) m' g')⟩

end Cert.Proof.Small

end
-- ==== Proof.Products.Chip.lean ====
/-
  A chip's own gradient, named by a word, and those it received: what the sums of the several weights share.
-/
module

public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.Proof.Chip

open Idealize.ShloMosaic Idealize.ShloMosaic.TcCoe Idealize.SL.Sem

/-- The predicate's two comparisons bound the word. -/
theorem word_lt (w : BitVec 32) (h : IntOp.andi (IntOp.cmpi .sge w 0#32) (IntOp.cmpi .sle w 3#32) = 1#1) : w.toNat < 4 := by
  have andi_one (a b : BitVec 1) : IntOp.andi a b = 1#1 ↔ a = 1#1 ∧ b = 1#1 := by revert a b; decide
  obtain ⟨h0, h1⟩ := (andi_one _ _).1 h
  simp only [IntOp.cmpi] at h0 h1
  have of_true (b : Bool) (h : BitVec.ofBool b = 1#1) : b = true := by revert b; decide
  have e0 := of_true _ h0
  have e1 := of_true _ h1
  simp only [BitVec.sle, decide_eq_true_eq, BitVec.toInt_eq_toNat_cond] at e0 e1
  have := w.isLt
  simp at e0 e1
  omega

/-- Choosing the block whose number is the word. -/
theorem sel (j k : Fin 4) {α : Type} (W : BitVec 32) (hW : W.toNat = k.val) (a b : α) :
    Scalar.select (IntOp.cmpi .eq (BitVec.ofNat 32 j.val) W) a b = if j = k then a else b := by
  obtain rfl : W = BitVec.ofNat 32 k.val := BitVec.eq_of_toNat_eq (by rw [hW, BitVec.toNat_ofNat]; omega)
  fin_cases j <;> fin_cases k <;> rfl

theorem add_zeros (a b : Ideal .f32) : FloatOps.addf (0 + a) (0 + b) = (a + b : Ideal .f32) :=
  congrArg₂ FloatOps.addf (zero_add a) (zero_add b)

end Cert.Proof.Chip

end
-- ==== Proof.Products.ChipGu.lean ====
/-
  The sum over the chips of one chip's gradient of the gate and up projections, transposed and taken apart: its own, named by a word, and the three received.
-/
module

public import proofs.«01_k».proof.Defs
public import proofs.«01_k».proof.Proof.Gen.ChipGu.Frame
public import proofs.«01_k».proof.Proof.Gen.ChipGuIdeal.Frame
public import proofs.«01_k».proof.Proof.Gen.ChipGuRefIdeal.Run
public import proofs.«01_k».proof.Proof.Gen.ChipGuRefIdeal.Read
public import proofs.«01_k».proof.Proof.Gen.Pre_chip_named
public import proofs.«01_k».proof.Proof.Products.Chip
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.Proof.ChipGu

open Idealize.ShloMosaic Idealize.ShloMosaic.TcCoe Idealize.SL.Sem
open Cert.ChipGuIdeal Cert.ChipGuIdeal.Gen
open scoped BigOperators

variable (m : (ℓ : Loc nD τ sig) → Buf (Elt Ideal) ℓ)

abbrev arr0 (c : Dev nD) : IVec S1 32 := m ((c : Thread nD τ).loc main_arg0)
abbrev arr1 (c : Dev nD) : FVec Ideal S4x1024x768 .bf16 := m ((c : Thread nD τ).loc main_arg1)
abbrev arr2 (c : Dev nD) : FVec Ideal S3x1024x768 .bf16 := m ((c : Thread nD τ).loc main_arg2)

theorem named (c : Dev nD) (h : Cert.Pre_ChipGuIdeal m) (y : S1.Idx) : (arr0 m c y).toNat < 4 :=
  Chip.word_lt _ (congrFun (h c) y)

theorem ok (h : Cert.Pre_ChipGuIdeal m) : Ok m := by
  refine fun i => ⟨fun a => ?_, .inr (Affine.block_words_dvd (of_decide_eq_true rfl) (by decide))⟩
  fin_cases a
  · exact le_of_eq_of_le (Nat.mul_one _) (named m 0 h _)
  · have : (i 0).val < 2 := (i 0).isLt
    show ((BitVec.ofNat 32 (i 0).val).toNat + 1) * 512 ≤ 1024
    rw [BitVec.toNat_ofNat]
    omega
  · exact (by decide : (0 + 1) * 768 ≤ 768)

/-- The same of the program at the bits. -/
theorem ok_bits (m : (ℓ : Loc Cert.ChipGu.nD Cert.ChipGu.τ Cert.ChipGu.sig) → Buf (Elt Bits) ℓ) (h : Cert.Pre_ChipGu m) :
    Cert.ChipGu.Gen.Ok m := by
  refine fun i => ⟨fun a => ?_, .inr (Affine.block_words_dvd (of_decide_eq_true rfl) (by decide))⟩
  fin_cases a
  · exact le_of_eq_of_le (Nat.mul_one _) (Chip.word_lt _ (congrFun (h 0) _))
  · have : (i 0).val < 2 := (i 0).isLt
    show ((BitVec.ofNat 32 (i 0).val).toNat + 1) * 512 ≤ 1024
    rw [BitVec.toNat_ofNat]
    omega
  · exact (by decide : (0 + 1) * 768 ≤ 768)

/-- The chip's word. -/
abbrev chip (c : Dev nD) (h : Cert.Pre_ChipGuIdeal m) : Fin 4 := ⟨(arr0 m c (Shape.Idx.first (by decide))).toNat, named m c h _⟩

/-- The chip's own and the three received. -/
def sum (t : FVec Ideal S4x1024x768 .bf16) (r : FVec Ideal S3x1024x768 .bf16) (k : Fin 4) (i : Fin 1024) (j : Fin 768) : Ideal .f32 :=
  t (ix3 k i j) + ∑ d : Fin 3, r (ix3 d i j)

/-- A row of a result, as a column of the sum. -/
abbrev gate (k : Fin 352) : Fin 768 := ⟨k.val, by omega⟩
abbrev up (k : Fin 352) : Fin 768 := ⟨384 + k.val, by omega⟩

/-- Columns of the sum, as rows. -/
def total (f : Fin 352 → Fin 768) (t : FVec Ideal S4x1024x768 .bf16) (r : FVec Ideal S3x1024x768 .bf16) (k : Fin 4) : FVec Ideal S352x1024 .f32 :=
  fun y => sum t r k (y 1) (f (y 0))

theorem idx1 : ∀ t : Fin grid0.N, cc0_transform_1 (grid0.coords t) = ![0, t.val, 0] := by decide +kernel

theorem idx2 : ∀ t : Fin grid0.N, cc0_transform_2 (grid0.coords t) = ![0, t.val] := by decide +kernel

theorem idx3 : ∀ t : Fin grid0.N, cc0_transform_3 (grid0.coords t) = ![0, t.val] := by decide +kernel

theorem idx0 (t : Fin grid0.N) (h : Cert.Pre_ChipGuIdeal m) :
    cc0_transform_0 inb_S1_S1_0 numel1_S1 (tbl m) (grid0.coords t) = ![(chip m 0 h).val, t.val, 0] := by
  funext a
  fin_cases a
  · exact congrArg (fun y => (arr0 m 0 y).toNat) (funext fun b => Fin.ext (by fin_cases b; rfl))
  · exact congrFun (idx1 t) 1
  · rfl

/-- A row of a step's block, in the array. -/
abbrev row (t : Fin grid0.N) (r : Fin 512) : Fin 1024 := ⟨t.val * 512 + r.val, by have := t.isLt; have : t.val < 2 := t.isLt; omega⟩

theorem blk0 (h : Cert.Pre_ChipGuIdeal m) (c : Dev nD) (t : Fin (cfgM m (ok m h)).N) (r : Fin 512) (k : Fin 768) :
    iblk m (ok m h) c 0 t (ix3 0 r k) = arr1 m c (ix3 (chip m 0 h) (row t r) k) := by
  have e : (pcfg0.win (adm m (ok m h)) 0).index t = ![(chip m 0 h).val, t.val, 0] := idx0 m t h
  blk_ext [iblk, V, e]
  · exact congrArg (· + 0) (congrFun e 0)
  · exact (congrArg (· * 512 + r.val) (congrFun e 1))
  · exact (congrArg (· * 768 + k.val) (congrFun e 2)).trans (show 0 * 768 + k.val = k.val by omega)

theorem blk1 (h : Cert.Pre_ChipGuIdeal m) (c : Dev nD) (t : Fin (cfgM m (ok m h)).N) (d : Fin 3) (r : Fin 512) (k : Fin 768) :
    iblk m (ok m h) c 1 t (ix3 d r k) = arr2 m c (ix3 d (row t r) k) := by
  have e : (pcfg0.win (adm m (ok m h)) 1).index t = ![0, t.val, 0] := idx1 t
  blk_ext [iblk, V, e]
  · exact (congrArg (· * 3 + d.val) (congrFun e 0)).trans (show 0 * 3 + d.val = d.val by omega)
  · exact (congrArg (· * 512 + r.val) (congrFun e 1))
  · exact (congrArg (· * 768 + k.val) (congrFun e 2)).trans (show 0 * 768 + k.val = k.val by omega)

def slab (x : FVec Ideal S3x512x768 .bf16) (n : Nat) (h : ∀ a, (![n, 0, 0] : Fin 3 → Nat) a + S1x512x768.size a ≤ S3x512x768.size a) :
    FVec Ideal S1x512x768 .bf16 :=
  View.ld (Val := Elt Ideal) (e' := .bf16) x (Rect.unit (s := S3x512x768) ![n, 0, 0] S1x512x768.size h)

theorem slab_eq (x : FVec Ideal S3x512x768 .bf16) (d : Fin 3) (n : Nat) (hn : n = d.val) (h) (r : Fin 512) (k : Fin 768) :
    slab x n h (ix3 0 r k) = x (ix3 d r k) := by
  subst hn
  refine View.ld_unit_apply_of (S := S3x512x768) (Val := Elt Ideal) (e := .bf16) x _ _ h _ _ fun a => ?_
  fin_cases a <;> simp

/-- A step's sum. -/
theorem pay (x : FVec Ideal S1x512x768 .bf16) (v : FVec Ideal S3x512x768 .bf16) (r : Fin 512) (k : Fin 768) :
    k0_pay1 (F := Ideal) x (slab v 0 inb_S3x512x768_S1x512x768_0_0_0) (slab v 1 inb_S3x512x768_S1x512x768_1_0_0)
      (slab v 2 inb_S3x512x768_S1x512x768_2_0_0) (ix2 r k) = x (ix3 0 r k) + ∑ d : Fin 3, v (ix3 d r k) := by
  rw [Fin.sum_univ_three]
  pointwise [k0_pay1]
  rw [slab_eq v 0, slab_eq v 1, slab_eq v 2, add_assoc, add_assoc, ← add_assoc (v _)] <;> rfl

/-- A step's blocks. -/
theorem block_gate (x : FVec Ideal S1x512x768 .bf16) (v : FVec Ideal S3x512x768 .bf16) (r : Fin 512) (k : Fin 352) :
    k0_pay2 (F := Ideal) x (slab v 0 inb_S3x512x768_S1x512x768_0_0_0) (slab v 1 inb_S3x512x768_S1x512x768_1_0_0)
      (slab v 2 inb_S3x512x768_S1x512x768_2_0_0) (ix2 k r) = x (ix3 0 r (gate k)) + ∑ d : Fin 3, v (ix3 d r (gate k)) := by
  rw [← pay]
  pointwise [k0_pay2]

theorem block_up (x : FVec Ideal S1x512x768 .bf16) (v : FVec Ideal S3x512x768 .bf16) (r : Fin 512) (k : Fin 352) :
    k0_pay3 (F := Ideal) x (slab v 0 inb_S3x512x768_S1x512x768_0_0_0) (slab v 1 inb_S3x512x768_S1x512x768_1_0_0)
      (slab v 2 inb_S3x512x768_S1x512x768_2_0_0) (ix2 k r) = x (ix3 0 r (up k)) + ∑ d : Fin 3, v (ix3 d r (up k)) := by
  rw [← pay]
  pointwise [k0_pay3]

theorem cov2 (h : Cert.Pre_ChipGuIdeal m) : ((cfgM m (ok m h)).win 2).Covers := by
  refine ⟨(by decide : ∀ a : Fin 2, 0 < S352x512.size a), fun (β : (a : Fin 2) → Fin ((S352x1024.size a + S352x512.size a - 1) / S352x512.size a)) =>
    ⟨⟨(β 1).val, Nat.lt_of_lt_of_eq (β 1).isLt (by decide : _ = 2)⟩, flush0_2 _ _, fun a => ⟨?_, .inl rfl⟩⟩⟩
  refine (congrFun (idx2 ⟨(β 1).val, Nat.lt_of_lt_of_eq (β 1).isLt (by decide : _ = 2)⟩) a).trans ?_
  fin_cases a
  · have : (β 0).val < 1 := Nat.lt_of_lt_of_eq (β 0).isLt (by decide)
    show 0 = (β 0).val
    omega
  · rfl

theorem cov3 (h : Cert.Pre_ChipGuIdeal m) : ((cfgM m (ok m h)).win 3).Covers := by
  refine ⟨(by decide : ∀ a : Fin 2, 0 < S352x512.size a), fun (β : (a : Fin 2) → Fin ((S352x1024.size a + S352x512.size a - 1) / S352x512.size a)) =>
    ⟨⟨(β 1).val, Nat.lt_of_lt_of_eq (β 1).isLt (by decide : _ = 2)⟩, flush0_3 _ _, fun a => ⟨?_, .inl rfl⟩⟩⟩
  refine (congrFun (idx3 ⟨(β 1).val, Nat.lt_of_lt_of_eq (β 1).isLt (by decide : _ = 2)⟩) a).trans ?_
  fin_cases a
  · have : (β 0).val < 1 := Nat.lt_of_lt_of_eq (β 0).isLt (by decide)
    show 0 = (β 0).val
    omega
  · rfl

theorem split (y : S352x512.Idx) : ∃ (k : Fin 352) (r : Fin 512), y = ix2 k r := ⟨y 0, y 1, eq_ix2 y⟩

/-- The staged blocks' sum. -/
theorem staged (h : Cert.Pre_ChipGuIdeal m) (c : Dev nD) (t : Fin (cfgM m (ok m h)).N) (r : Fin 512) (k : Fin 768) :
    ((View.read (Elt Ideal) (ms0_0 m (ok m h) t).view ((hs0_0 m (ok m h) t).unread (iblk m (ok m h) c 0 t)) : FVec Ideal S1x512x768 .bf16) (ix3 0 r k)
      + ∑ d : Fin 3, (View.read (Elt Ideal) (ms0_1 m (ok m h) t).view ((hs0_1 m (ok m h) t).unread (iblk m (ok m h) c 1 t)) : FVec Ideal S3x512x768 .bf16) (ix3 d r k) : Ideal .f32)
      = sum (arr1 m c) (arr2 m c) (chip m 0 h) (row t r) k := by
  exact congrArg₂ (fun a b : Ideal .bf16 => a + b) ((congrFun ((hs0_0 m (ok m h) t).read_unread _) _).trans (blk0 m h c t _ _))
    (Finset.sum_congr rfl fun d _ => (congrFun ((hs0_1 m (ok m h) t).read_unread _) _).trans (blk1 m h c t d _ _))

theorem final2 (h : Cert.Pre_ChipGuIdeal m) (c : Dev nD) :
    (dats m (ok m h) 0 c).arrAt 2 (cfgM m (ok m h)).N = total gate (arr1 m c) (arr2 m c) (chip m 0 h) := by
  refine (dats m (ok m h) 0 c).arrAt_eq_of_covers 2 _ (cov2 m h) fun t hf y => ?_
  blk_simp
  rw [after0_2]
  unfold outsAt0
  frame_out
  generalize hx : View.read (Elt Ideal) (ms0_0 m (ok m h) t).view ((hs0_0 m (ok m h) t).unread (iblk m (ok m h) c 0 t)) = x
  generalize hv : View.read (Elt Ideal) (ms0_1 m (ok m h) t).view ((hs0_1 m (ok m h) t).unread (iblk m (ok m h) c 1 t)) = v
  obtain ⟨k, r, rfl⟩ := split y
  have e : (pcfg0.win (adm m (ok m h)) 2).index t = ![0, t.val] := idx2 t
  have e' : (((spec0 2).arr.view.slice ((pcfg0.win (adm m (ok m h)) 2).rect t)).emb (ix2 k r)) = ix2 k (row t r) := by
    refine funext fun a => Fin.ext ?_
    fin_cases a <;> blk_simp [e] <;> rfl
  refine ((block_gate x v r k).trans ?_).trans (congrArg (total gate (arr1 m c) (arr2 m c) (chip m 0 h)) e'.symm)
  subst hx hv
  exact staged m h c t r (gate k)

theorem final3 (h : Cert.Pre_ChipGuIdeal m) (c : Dev nD) :
    (dats m (ok m h) 0 c).arrAt 3 (cfgM m (ok m h)).N = total up (arr1 m c) (arr2 m c) (chip m 0 h) := by
  refine (dats m (ok m h) 0 c).arrAt_eq_of_covers 3 _ (cov3 m h) fun t hf y => ?_
  blk_simp
  rw [after0_3]
  unfold outsAt0
  frame_out
  generalize hx : View.read (Elt Ideal) (ms0_0 m (ok m h) t).view ((hs0_0 m (ok m h) t).unread (iblk m (ok m h) c 0 t)) = x
  generalize hv : View.read (Elt Ideal) (ms0_1 m (ok m h) t).view ((hs0_1 m (ok m h) t).unread (iblk m (ok m h) c 1 t)) = v
  obtain ⟨k, r, rfl⟩ := split y
  have e : (pcfg0.win (adm m (ok m h)) 3).index t = ![0, t.val] := idx3 t
  have e' : (((spec0 3).arr.view.slice ((pcfg0.win (adm m (ok m h)) 3).rect t)).emb (ix2 k r)) = ix2 k (row t r) := by
    refine funext fun a => Fin.ext ?_
    fin_cases a <;> blk_simp [e] <;> rfl
  refine ((block_up x v r k).trans ?_).trans (congrArg (total up (arr1 m c) (arr2 m c) (chip m 0 h)) e'.symm)
  subst hx hv
  exact staged m h c t r (up k)

open Cert.ChipGuRefIdeal.Read in
theorem ref_sum (w : IVec S1 32) (t : FVec Ideal S4x1024x768 .bf16) (r : FVec Ideal S3x1024x768 .bf16) (k : Fin 4) (hk : ∀ y, (w y).toNat = k.val) (y) :
    val_main_v10 (F := Ideal) w t r y = sum t r k (y 0) (y 1) := by
  rw [val_main_v10_apply, val_main_v7_apply, val_main_v9_apply]
  have hW (i) : (val_main_v2 (F := Ideal) w i).toNat = k.val := hk _
  have hs (j : Fin 4) : val_main_v6 (F := Ideal) w t (idx_main_v7 y j) = if j = k then t (ix3 k (y 0) (y 1)) else 0 := by
    rw [val_main_v6_apply, val_main_call0_v1_apply, val_main_v4_apply, val_main_v1_apply, val_main_v0_apply, val_main_v3_apply]
    refine (Chip.sel j k _ (hW (idx_main_v3 (idx_main_call0_v1 (idx_main_v7 y j)))) (val_main_v5 (F := Ideal) t (idx_main_v7 y j))
      (val_main_call0_v2 (F := Ideal) (idx_main_v7 y j))).trans ?_
    split
    · next hj =>
      subst hj
      exact congrArg t (funext fun a => Fin.ext (by fin_cases a <;> rfl))
    · rw [val_main_call0_v2_apply, val_main_call0_v0_apply, val_main_cst_apply]
      pointwise []
  have hr (d : Fin 3) : val_main_v8 (F := Ideal) r (idx_main_v9 y d) = r (ix3 d (y 0) (y 1)) := by
    rw [val_main_v8_apply]
    exact congrArg r (funext fun a => Fin.ext (by fin_cases a <;> rfl))
  simp only [hs, hr, Finset.sum_ite_eq', Finset.mem_univ, if_true]
  have z0 : val_main_cst_0 (F := Ideal) (Shape.Idx.first ChipGuRefIdeal.Gen.h_S_) = 0 := by
    rw [val_main_cst_0_apply]; pointwise []
  have z1 : val_main_cst_1 (F := Ideal) (Shape.Idx.first ChipGuRefIdeal.Gen.h_S_) = 0 := by
    rw [val_main_cst_1_apply]; pointwise []
  rw [z0, z1]
  exact Chip.add_zeros _ _

open Cert.ChipGuRefIdeal.Read in
theorem ref_gate (w : IVec S1 32) (t : FVec Ideal S4x1024x768 .bf16) (r : FVec Ideal S3x1024x768 .bf16) (k : Fin 4) (hk : ∀ y, (w y).toNat = k.val) :
    val_main_v12 (F := Ideal) w t r = total gate t r k := by
  funext y
  rw [val_main_v12_apply, val_main_v11_apply, ref_sum w t r k hk]
  rfl

open Cert.ChipGuRefIdeal.Read in
theorem ref_up (w : IVec S1 32) (t : FVec Ideal S4x1024x768 .bf16) (r : FVec Ideal S3x1024x768 .bf16) (k : Fin 4) (hk : ∀ y, (w y).toNat = k.val) :
    val_main_v13 (F := Ideal) w t r = total up t r k := by
  funext y
  rw [val_main_v13_apply, val_main_v11_apply, ref_sum w t r k hk]
  rfl

theorem word (h : Cert.Pre_ChipGuIdeal m) (c : Dev nD) (y : S1.Idx) : (arr0 m c y).toNat = (chip m 0 h).val := by
  obtain rfl : c = 0 := Subsingleton.elim (α := Fin 1) c 0
  exact congrArg (fun z => (arr0 m 0 z).toNat) (funext fun a => by fin_cases a; exact Subsingleton.elim (α := Fin 1) _ _)

theorem algebraic : Cert.algebraic_ChipGuIdeal_ChipGuRefIdeal := fun m g m' g' hp hm =>
  ⟨_, _, (θ_run Cert.ChipGuIdeal.defs _ _).mono (fun r h c => ⟨((h.1 c).1 2).trans (final2 m hp c), ((h.1 c).1 3).trans (final3 m hp c), h.2 c⟩)
      (θ_run_and (run_main m g (ok m hp)) (unchanged m g (ok m hp))),
    (θ_run Cert.ChipGuRefIdeal.defs _ _).mono (fun r h c => by
      refine ⟨(h c).1.trans ?_, (h c).2.1.trans ?_, (h c).2.2⟩
      · rw [Cert.ChipGuRefIdeal.Read.val_main_v12_eq, (hm c).1, (hm c).2.1, (hm c).2.2]
        exact ref_gate _ _ _ _ fun y => word m hp c y
      · rw [Cert.ChipGuRefIdeal.Read.val_main_v13_eq, (hm c).1, (hm c).2.1, (hm c).2.2]
        exact ref_up _ _ _ _ fun y => word m hp c y)
      (Cert.ChipGuRefIdeal.Value.run (F := Ideal) m' g')⟩

end Cert.Proof.ChipGu

end
-- ==== Proof.Products.ChipDown.lean ====
/-
  The sum over the chips of the down projection's gradient: the chip's own, named by a word, and the three received.
-/
module

public import proofs.«01_k».proof.Defs
public import proofs.«01_k».proof.Proof.Gen.ChipDown.Frame
public import proofs.«01_k».proof.Proof.Gen.ChipDownIdeal.Frame
public import proofs.«01_k».proof.Proof.Gen.ChipDownRefIdeal.Run
public import proofs.«01_k».proof.Proof.Gen.ChipDownRefIdeal.Read
public import proofs.«01_k».proof.Proof.Gen.Pre_chip_named_down
public import proofs.«01_k».proof.Proof.Products.Chip
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.Proof.ChipDown

open Idealize.ShloMosaic Idealize.ShloMosaic.TcCoe Idealize.SL.Sem
open Cert.ChipDownIdeal Cert.ChipDownIdeal.Gen
open scoped BigOperators

variable (m : (ℓ : Loc nD τ sig) → Buf (Elt Ideal) ℓ)

abbrev arr0 (c : Dev nD) : IVec S1 32 := m ((c : Thread nD τ).loc main_arg0)
abbrev arr1 (c : Dev nD) : FVec Ideal S4x384x1024 .bf16 := m ((c : Thread nD τ).loc main_arg1)
abbrev arr2 (c : Dev nD) : FVec Ideal S3x384x1024 .bf16 := m ((c : Thread nD τ).loc main_arg2)

theorem named (c : Dev nD) (h : Cert.Pre_ChipDownIdeal m) (y : S1.Idx) : (arr0 m c y).toNat < 4 :=
  Chip.word_lt _ (congrFun (h c) y)

theorem ok (h : Cert.Pre_ChipDownIdeal m) : Ok m := by
  refine fun i => ⟨fun a => ?_, .inr (Affine.block_words_dvd (of_decide_eq_true rfl) (by decide))⟩
  fin_cases a
  · exact le_of_eq_of_le (Nat.mul_one _) (named m 0 h _)
  · have : (i 0).val < 1 := (i 0).isLt
    show ((BitVec.ofNat 32 (i 0).val).toNat + 1) * 384 ≤ 384
    rw [BitVec.toNat_ofNat]
    omega
  · exact (by decide : (0 + 1) * 1024 ≤ 1024)

/-- The same of the program at the bits. -/
theorem ok_bits (m : (ℓ : Loc Cert.ChipDown.nD Cert.ChipDown.τ Cert.ChipDown.sig) → Buf (Elt Bits) ℓ) (h : Cert.Pre_ChipDown m) :
    Cert.ChipDown.Gen.Ok m := by
  refine fun i => ⟨fun a => ?_, .inr (Affine.block_words_dvd (of_decide_eq_true rfl) (by decide))⟩
  fin_cases a
  · exact le_of_eq_of_le (Nat.mul_one _) (Chip.word_lt _ (congrFun (h 0) _))
  · have : (i 0).val < 1 := (i 0).isLt
    show ((BitVec.ofNat 32 (i 0).val).toNat + 1) * 384 ≤ 384
    rw [BitVec.toNat_ofNat]
    omega
  · exact (by decide : (0 + 1) * 1024 ≤ 1024)

/-- The chip's word. -/
abbrev chip (c : Dev nD) (h : Cert.Pre_ChipDownIdeal m) : Fin 4 := ⟨(arr0 m c (Shape.Idx.first (by decide))).toNat, named m c h _⟩

/-- The chip's own and the three received. -/
def total (t : FVec Ideal S4x384x1024 .bf16) (r : FVec Ideal S3x384x1024 .bf16) (k : Fin 4) : FVec Ideal S384x1024 .f32 :=
  fun y => t (ix3 k (y 0) (y 1)) + ∑ d : Fin 3, r (ix3 d (y 0) (y 1))

theorem idx1 : ∀ t : Fin grid0.N, cc0_transform_1 (grid0.coords t) = ![0, t.val, 0] := by decide +kernel

theorem idx2 : ∀ t : Fin grid0.N, cc0_transform_3 (grid0.coords t) = ![t.val, 0] := by decide +kernel

theorem idx0 (t : Fin grid0.N) (h : Cert.Pre_ChipDownIdeal m) :
    cc0_transform_0 inb_S1_S1_0 numel1_S1 (tbl m) (grid0.coords t) = ![(chip m 0 h).val, t.val, 0] := by
  funext a
  fin_cases a
  · exact congrArg (fun y => (arr0 m 0 y).toNat) (funext fun b => Fin.ext (by fin_cases b; rfl))
  · exact congrFun (idx1 t) 1
  · rfl

theorem blk0 (h : Cert.Pre_ChipDownIdeal m) (c : Dev nD) (t : Fin (cfgM m (ok m h)).N) (r : Fin 384) (k : Fin 1024) :
    iblk m (ok m h) c 0 t (ix3 0 r k) = arr1 m c (ix3 (chip m 0 h) r k) := by
  have e : (pcfg0.win (adm m (ok m h)) 0).index t = ![(chip m 0 h).val, t.val, 0] := idx0 m t h
  have : t.val < 1 := t.isLt
  blk_ext [iblk, V, e]
  · exact congrArg (· + 0) (congrFun e 0)
  · exact (congrArg (· * 384 + r.val) (congrFun e 1)).trans (show t.val * 384 + r.val = r.val by omega)
  · exact (congrArg (· * 1024 + k.val) (congrFun e 2)).trans (show 0 * 1024 + k.val = k.val by omega)

theorem blk1 (h : Cert.Pre_ChipDownIdeal m) (c : Dev nD) (t : Fin (cfgM m (ok m h)).N) (d : Fin 3) (r : Fin 384) (k : Fin 1024) :
    iblk m (ok m h) c 1 t (ix3 d r k) = arr2 m c (ix3 d r k) := by
  have e : (pcfg0.win (adm m (ok m h)) 1).index t = ![0, t.val, 0] := idx1 t
  have : t.val < 1 := t.isLt
  blk_ext [iblk, V, e]
  · exact (congrArg (· * 3 + d.val) (congrFun e 0)).trans (show 0 * 3 + d.val = d.val by omega)
  · exact (congrArg (· * 384 + r.val) (congrFun e 1)).trans (show t.val * 384 + r.val = r.val by omega)
  · exact (congrArg (· * 1024 + k.val) (congrFun e 2)).trans (show 0 * 1024 + k.val = k.val by omega)

def slab (x : FVec Ideal S3x384x1024 .bf16) (n : Nat) (h : ∀ a, (![n, 0, 0] : Fin 3 → Nat) a + S1x384x1024.size a ≤ S3x384x1024.size a) :
    FVec Ideal S1x384x1024 .bf16 :=
  View.ld (Val := Elt Ideal) (e' := .bf16) x (Rect.unit (s := S3x384x1024) ![n, 0, 0] S1x384x1024.size h)

theorem slab_eq (x : FVec Ideal S3x384x1024 .bf16) (d : Fin 3) (n : Nat) (hn : n = d.val) (h) (r : Fin 384) (k : Fin 1024) :
    slab x n h (ix3 0 r k) = x (ix3 d r k) := by
  subst hn
  refine View.ld_unit_apply_of (S := S3x384x1024) (Val := Elt Ideal) (e := .bf16) x _ _ h _ _ fun a => ?_
  fin_cases a <;> simp

/-- A step's block. -/
theorem block (x : FVec Ideal S1x384x1024 .bf16) (v : FVec Ideal S3x384x1024 .bf16) (y : S384x1024.Idx) :
    k0_pay1 (F := Ideal) x (slab v 0 inb_S3x384x1024_S1x384x1024_0_0_0) (slab v 1 inb_S3x384x1024_S1x384x1024_1_0_0)
      (slab v 2 inb_S3x384x1024_S1x384x1024_2_0_0) y = x (ix3 0 (y 0) (y 1)) + ∑ d : Fin 3, v (ix3 d (y 0) (y 1)) := by
  obtain ⟨r, k, rfl⟩ : ∃ (r : Fin 384) (k : Fin 1024), y = ix2 r k := ⟨y 0, y 1, eq_ix2 y⟩
  rw [Fin.sum_univ_three]
  pointwise [k0_pay1]
  rw [slab_eq v 0, slab_eq v 1, slab_eq v 2, add_assoc, add_assoc, ← add_assoc (v _)] <;> rfl

theorem cov (h : Cert.Pre_ChipDownIdeal m) : ((cfgM m (ok m h)).win 2).Covers :=
  by
  refine ⟨(by decide : ∀ a : Fin 2, 0 < S384x1024.size a), fun (β : (a : Fin 2) → Fin ((S384x1024.size a + S384x1024.size a - 1) / S384x1024.size a)) =>
    ⟨⟨(β 0).val, Nat.lt_of_lt_of_eq (β 0).isLt (by decide : _ = 1)⟩, flush0_2 _ _, fun a => ⟨?_, .inl rfl⟩⟩⟩
  refine (congrFun (idx2 ⟨(β 0).val, Nat.lt_of_lt_of_eq (β 0).isLt (by decide : _ = 1)⟩) a).trans ?_
  fin_cases a
  · rfl
  · have : (β 1).val < 1 := Nat.lt_of_lt_of_eq (β 1).isLt (by decide)
    show 0 = (β 1).val
    omega

theorem final (h : Cert.Pre_ChipDownIdeal m) (c : Dev nD) :
    (dats m (ok m h) 0 c).arrAt 2 (cfgM m (ok m h)).N = total (arr1 m c) (arr2 m c) (chip m 0 h) := by
  refine (dats m (ok m h) 0 c).arrAt_eq_of_covers 2 _ (cov m h) fun t hf y => ?_
  blk_simp
  rw [after0_2]
  unfold outsAt0
  frame_out
  generalize hx : View.read (Elt Ideal) (ms0_0 m (ok m h) t).view ((hs0_0 m (ok m h) t).unread (iblk m (ok m h) c 0 t)) = x
  generalize hv : View.read (Elt Ideal) (ms0_1 m (ok m h) t).view ((hs0_1 m (ok m h) t).unread (iblk m (ok m h) c 1 t)) = v
  replace hx := ((hs0_0 m (ok m h) t).read_unread _).symm.trans hx
  replace hv := ((hs0_1 m (ok m h) t).read_unread _).symm.trans hv
  refine (block x v y).trans ?_
  have ht : t.val < 1 := t.isLt
  have e : (pcfg0.win (adm m (ok m h)) 2).index t = ![t.val, 0] := idx2 t
  have e' : (((spec0 2).arr.view.slice ((pcfg0.win (adm m (ok m h)) 2).rect t)).emb y) = y := by
    refine funext fun a => Fin.ext ?_
    fin_cases a <;> blk_simp [e]
    omega
  refine Eq.trans ?_ (congrArg (total (arr1 m c) (arr2 m c) (chip m 0 h)) e'.symm)
  subst hx hv
  exact congrArg₂ (· + ·) (blk0 m h c t _ _) (Finset.sum_congr rfl fun d _ => blk1 m h c t d _ _)

open Cert.ChipDownRefIdeal.Read in
theorem ref_eq (w : IVec S1 32) (t : FVec Ideal S4x384x1024 .bf16) (r : FVec Ideal S3x384x1024 .bf16) (k : Fin 4) (hk : ∀ y, (w y).toNat = k.val) :
    val_main_v10 (F := Ideal) w t r = total t r k := by
  funext y
  rw [val_main_v10_apply, val_main_v7_apply, val_main_v9_apply]
  have hW (i) : (val_main_v2 (F := Ideal) w i).toNat = k.val := hk _
  have hs (j : Fin 4) : val_main_v6 (F := Ideal) w t (idx_main_v7 y j) = if j = k then t (ix3 k (y 0) (y 1)) else 0 := by
    rw [val_main_v6_apply, val_main_call0_v1_apply, val_main_v4_apply, val_main_v1_apply, val_main_v0_apply, val_main_v3_apply]
    refine (Chip.sel j k _ (hW (idx_main_v3 (idx_main_call0_v1 (idx_main_v7 y j)))) (val_main_v5 (F := Ideal) t (idx_main_v7 y j))
      (val_main_call0_v2 (F := Ideal) (idx_main_v7 y j))).trans ?_
    split
    · next hj =>
      subst hj
      exact congrArg t (funext fun a => Fin.ext (by fin_cases a <;> rfl))
    · rw [val_main_call0_v2_apply, val_main_call0_v0_apply, val_main_cst_apply]
      pointwise []
  have hr (d : Fin 3) : val_main_v8 (F := Ideal) r (idx_main_v9 y d) = r (ix3 d (y 0) (y 1)) := by
    rw [val_main_v8_apply]
    exact congrArg r (funext fun a => Fin.ext (by fin_cases a <;> rfl))
  simp only [hs, hr, Finset.sum_ite_eq', Finset.mem_univ, if_true]
  have z0 : val_main_cst_0 (F := Ideal) (Shape.Idx.first ChipDownRefIdeal.Gen.h_S_) = 0 := by
    rw [val_main_cst_0_apply]; pointwise []
  have z1 : val_main_cst_1 (F := Ideal) (Shape.Idx.first ChipDownRefIdeal.Gen.h_S_) = 0 := by
    rw [val_main_cst_1_apply]; pointwise []
  rw [z0, z1]
  exact Chip.add_zeros _ _

theorem word (h : Cert.Pre_ChipDownIdeal m) (c : Dev nD) (y : S1.Idx) : (arr0 m c y).toNat = (chip m 0 h).val := by
  obtain rfl : c = 0 := Subsingleton.elim (α := Fin 1) c 0
  exact congrArg (fun z => (arr0 m 0 z).toNat) (funext fun a => by fin_cases a; exact Subsingleton.elim (α := Fin 1) _ _)

theorem algebraic : Cert.algebraic_ChipDownIdeal_ChipDownRefIdeal := fun m g m' g' hp hm =>
  ⟨_, (θ_run Cert.ChipDownIdeal.defs _ _).mono (fun r h c => ⟨((h.1 c).1 2).trans (final m hp c), h.2 c⟩)
      (θ_run_and (run_main m g (ok m hp)) (unchanged m g (ok m hp))),
    (θ_run Cert.ChipDownRefIdeal.defs _ _).mono (fun r h c => by
      refine ⟨(h c).1.trans ?_, (h c).2⟩
      rw [Cert.ChipDownRefIdeal.Read.val_main_v10_eq, (hm c).1, (hm c).2.1, (hm c).2.2.1]
      exact ref_eq _ _ _ _ fun y => word m hp c y)
      (Cert.ChipDownRefIdeal.Value.run (F := Ideal) m' g')⟩

end Cert.Proof.ChipDown

end
-- ==== Proof.Products.ChipSmall.lean ====
/-
  The sum over the chips of one chip's gradients: its own, named by a word, and the three received.
-/
module

public import proofs.«01_k».proof.Defs
public import proofs.«01_k».proof.Proof.Gen.ChipSmall.Frame
public import proofs.«01_k».proof.Proof.Gen.ChipSmallIdeal.Frame
public import proofs.«01_k».proof.Proof.Gen.ChipSmallRefIdeal.Run
public import proofs.«01_k».proof.Proof.Gen.ChipSmallRefIdeal.Read
public import proofs.«01_k».proof.Proof.Gen.Pre_chip_named_small
public import proofs.«01_k».proof.Proof.Products.Chip
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.Proof.ChipSmall

open Idealize.ShloMosaic Idealize.ShloMosaic.TcCoe Idealize.SL.Sem
open Cert.ChipSmallIdeal Cert.ChipSmallIdeal.Gen
open scoped BigOperators

variable (m : (ℓ : Loc nD τ sig) → Buf (Elt Ideal) ℓ)

abbrev arr0 (c : Dev nD) : IVec S1 32 := m ((c : Thread nD τ).loc main_arg0)
abbrev arr1 (c : Dev nD) : FVec Ideal S4x224x1024 .bf16 := m ((c : Thread nD τ).loc main_arg1)
abbrev arr2 (c : Dev nD) : FVec Ideal S3x224x1024 .bf16 := m ((c : Thread nD τ).loc main_arg2)

theorem named (c : Dev nD) (h : Cert.Pre_ChipSmallIdeal m) (y : S1.Idx) : (arr0 m c y).toNat < 4 :=
  Chip.word_lt _ (congrFun (h c) y)

theorem ok (h : Cert.Pre_ChipSmallIdeal m) : Ok m := by
  refine fun i => ⟨fun a => ?_, .inr (Affine.block_words_dvd (of_decide_eq_true rfl) (by decide))⟩
  fin_cases a
  · exact le_of_eq_of_le (Nat.mul_one _) (named m 0 h _)
  · have : (i 0).val < 1 := (i 0).isLt
    show ((BitVec.ofNat 32 (i 0).val).toNat + 1) * 224 ≤ 224
    rw [BitVec.toNat_ofNat]
    omega
  · exact (by decide : (0 + 1) * 1024 ≤ 1024)

/-- The same of the program at the bits. -/
theorem ok_bits (m : (ℓ : Loc Cert.ChipSmall.nD Cert.ChipSmall.τ Cert.ChipSmall.sig) → Buf (Elt Bits) ℓ) (h : Cert.Pre_ChipSmall m) :
    Cert.ChipSmall.Gen.Ok m := by
  refine fun i => ⟨fun a => ?_, .inr (Affine.block_words_dvd (of_decide_eq_true rfl) (by decide))⟩
  fin_cases a
  · exact le_of_eq_of_le (Nat.mul_one _) (Chip.word_lt _ (congrFun (h 0) _))
  · have : (i 0).val < 1 := (i 0).isLt
    show ((BitVec.ofNat 32 (i 0).val).toNat + 1) * 224 ≤ 224
    rw [BitVec.toNat_ofNat]
    omega
  · exact (by decide : (0 + 1) * 1024 ≤ 1024)

/-- The chip's word. -/
abbrev chip (c : Dev nD) (h : Cert.Pre_ChipSmallIdeal m) : Fin 4 := ⟨(arr0 m c (Shape.Idx.first (by decide))).toNat, named m c h _⟩

/-- The chip's own and the three received. -/
def total (t : FVec Ideal S4x224x1024 .bf16) (r : FVec Ideal S3x224x1024 .bf16) (k : Fin 4) : FVec Ideal S224x1024 .f32 :=
  fun y => t (ix3 k (y 0) (y 1)) + ∑ d : Fin 3, r (ix3 d (y 0) (y 1))

theorem idx1 : ∀ t : Fin grid0.N, cc0_transform_1 (grid0.coords t) = ![0, t.val, 0] := by decide +kernel

theorem idx2 : ∀ t : Fin grid0.N, cc0_transform_2 (grid0.coords t) = ![t.val, 0] := by decide +kernel

theorem idx0 (t : Fin grid0.N) (h : Cert.Pre_ChipSmallIdeal m) :
    cc0_transform_0 inb_S1_S1_0 numel1_S1 (tbl m) (grid0.coords t) = ![(chip m 0 h).val, t.val, 0] := by
  funext a
  fin_cases a
  · exact congrArg (fun y => (arr0 m 0 y).toNat) (funext fun b => Fin.ext (by fin_cases b; rfl))
  · exact congrFun (idx1 t) 1
  · rfl

theorem blk0 (h : Cert.Pre_ChipSmallIdeal m) (c : Dev nD) (t : Fin (cfgM m (ok m h)).N) (r : Fin 224) (k : Fin 1024) :
    iblk m (ok m h) c 0 t (ix3 0 r k) = arr1 m c (ix3 (chip m 0 h) r k) := by
  have e : (pcfg0.win (adm m (ok m h)) 0).index t = ![(chip m 0 h).val, t.val, 0] := idx0 m t h
  have : t.val < 1 := t.isLt
  blk_ext [iblk, V, e]
  · exact congrArg (· + 0) (congrFun e 0)
  · exact (congrArg (· * 224 + r.val) (congrFun e 1)).trans (show t.val * 224 + r.val = r.val by omega)
  · exact (congrArg (· * 1024 + k.val) (congrFun e 2)).trans (show 0 * 1024 + k.val = k.val by omega)

theorem blk1 (h : Cert.Pre_ChipSmallIdeal m) (c : Dev nD) (t : Fin (cfgM m (ok m h)).N) (d : Fin 3) (r : Fin 224) (k : Fin 1024) :
    iblk m (ok m h) c 1 t (ix3 d r k) = arr2 m c (ix3 d r k) := by
  have e : (pcfg0.win (adm m (ok m h)) 1).index t = ![0, t.val, 0] := idx1 t
  have : t.val < 1 := t.isLt
  blk_ext [iblk, V, e]
  · exact (congrArg (· * 3 + d.val) (congrFun e 0)).trans (show 0 * 3 + d.val = d.val by omega)
  · exact (congrArg (· * 224 + r.val) (congrFun e 1)).trans (show t.val * 224 + r.val = r.val by omega)
  · exact (congrArg (· * 1024 + k.val) (congrFun e 2)).trans (show 0 * 1024 + k.val = k.val by omega)

def slab (x : FVec Ideal S3x224x1024 .bf16) (n : Nat) (h : ∀ a, (![n, 0, 0] : Fin 3 → Nat) a + S1x224x1024.size a ≤ S3x224x1024.size a) :
    FVec Ideal S1x224x1024 .bf16 :=
  View.ld (Val := Elt Ideal) (e' := .bf16) x (Rect.unit (s := S3x224x1024) ![n, 0, 0] S1x224x1024.size h)

theorem slab_eq (x : FVec Ideal S3x224x1024 .bf16) (d : Fin 3) (n : Nat) (hn : n = d.val) (h) (r : Fin 224) (k : Fin 1024) :
    slab x n h (ix3 0 r k) = x (ix3 d r k) := by
  subst hn
  refine View.ld_unit_apply_of (S := S3x224x1024) (Val := Elt Ideal) (e := .bf16) x _ _ h _ _ fun a => ?_
  fin_cases a <;> simp

/-- A step's block. -/
theorem block (x : FVec Ideal S1x224x1024 .bf16) (v : FVec Ideal S3x224x1024 .bf16) (y : S224x1024.Idx) :
    k0_pay1 (F := Ideal) x (slab v 0 inb_S3x224x1024_S1x224x1024_0_0_0) (slab v 1 inb_S3x224x1024_S1x224x1024_1_0_0)
      (slab v 2 inb_S3x224x1024_S1x224x1024_2_0_0) y = x (ix3 0 (y 0) (y 1)) + ∑ d : Fin 3, v (ix3 d (y 0) (y 1)) := by
  obtain ⟨r, k, rfl⟩ : ∃ (r : Fin 224) (k : Fin 1024), y = ix2 r k := ⟨y 0, y 1, eq_ix2 y⟩
  rw [Fin.sum_univ_three]
  pointwise [k0_pay1]
  rw [slab_eq v 0, slab_eq v 1, slab_eq v 2, add_assoc, add_assoc, ← add_assoc (v _)] <;> rfl

theorem cov (h : Cert.Pre_ChipSmallIdeal m) : ((cfgM m (ok m h)).win 2).Covers :=
  by
  refine ⟨(by decide : ∀ a : Fin 2, 0 < S224x1024.size a), fun (β : (a : Fin 2) → Fin ((S224x1024.size a + S224x1024.size a - 1) / S224x1024.size a)) =>
    ⟨⟨(β 0).val, Nat.lt_of_lt_of_eq (β 0).isLt (by decide : _ = 1)⟩, flush0_2 _ _, fun a => ⟨?_, .inl rfl⟩⟩⟩
  refine (congrFun (idx2 ⟨(β 0).val, Nat.lt_of_lt_of_eq (β 0).isLt (by decide : _ = 1)⟩) a).trans ?_
  fin_cases a
  · rfl
  · have : (β 1).val < 1 := Nat.lt_of_lt_of_eq (β 1).isLt (by decide)
    show 0 = (β 1).val
    omega

theorem final (h : Cert.Pre_ChipSmallIdeal m) (c : Dev nD) :
    (dats m (ok m h) 0 c).arrAt 2 (cfgM m (ok m h)).N = total (arr1 m c) (arr2 m c) (chip m 0 h) := by
  refine (dats m (ok m h) 0 c).arrAt_eq_of_covers 2 _ (cov m h) fun t hf y => ?_
  blk_simp
  rw [after0_2]
  unfold outsAt0
  frame_out
  generalize hx : View.read (Elt Ideal) (ms0_0 m (ok m h) t).view ((hs0_0 m (ok m h) t).unread (iblk m (ok m h) c 0 t)) = x
  generalize hv : View.read (Elt Ideal) (ms0_1 m (ok m h) t).view ((hs0_1 m (ok m h) t).unread (iblk m (ok m h) c 1 t)) = v
  replace hx := ((hs0_0 m (ok m h) t).read_unread _).symm.trans hx
  replace hv := ((hs0_1 m (ok m h) t).read_unread _).symm.trans hv
  refine (block x v y).trans ?_
  have ht : t.val < 1 := t.isLt
  have e : (pcfg0.win (adm m (ok m h)) 2).index t = ![t.val, 0] := idx2 t
  have e' : (((spec0 2).arr.view.slice ((pcfg0.win (adm m (ok m h)) 2).rect t)).emb y) = y := by
    refine funext fun a => Fin.ext ?_
    fin_cases a <;> blk_simp [e]
    omega
  refine Eq.trans ?_ (congrArg (total (arr1 m c) (arr2 m c) (chip m 0 h)) e'.symm)
  subst hx hv
  exact congrArg₂ (· + ·) (blk0 m h c t _ _) (Finset.sum_congr rfl fun d _ => blk1 m h c t d _ _)

open Cert.ChipSmallRefIdeal.Read in
theorem ref_eq (w : IVec S1 32) (t : FVec Ideal S4x224x1024 .bf16) (r : FVec Ideal S3x224x1024 .bf16) (k : Fin 4) (hk : ∀ y, (w y).toNat = k.val) :
    val_main_v10 (F := Ideal) w t r = total t r k := by
  funext y
  rw [val_main_v10_apply, val_main_v7_apply, val_main_v9_apply]
  have hW (i) : (val_main_v2 (F := Ideal) w i).toNat = k.val := hk _
  have hs (j : Fin 4) : val_main_v6 (F := Ideal) w t (idx_main_v7 y j) = if j = k then t (ix3 k (y 0) (y 1)) else 0 := by
    rw [val_main_v6_apply, val_main_call0_v1_apply, val_main_v4_apply, val_main_v1_apply, val_main_v0_apply, val_main_v3_apply]
    refine (Chip.sel j k _ (hW (idx_main_v3 (idx_main_call0_v1 (idx_main_v7 y j)))) (val_main_v5 (F := Ideal) t (idx_main_v7 y j))
      (val_main_call0_v2 (F := Ideal) (idx_main_v7 y j))).trans ?_
    split
    · next hj =>
      subst hj
      exact congrArg t (funext fun a => Fin.ext (by fin_cases a <;> rfl))
    · rw [val_main_call0_v2_apply, val_main_call0_v0_apply, val_main_cst_apply]
      pointwise []
  have hr (d : Fin 3) : val_main_v8 (F := Ideal) r (idx_main_v9 y d) = r (ix3 d (y 0) (y 1)) := by
    rw [val_main_v8_apply]
    exact congrArg r (funext fun a => Fin.ext (by fin_cases a <;> rfl))
  simp only [hs, hr, Finset.sum_ite_eq', Finset.mem_univ, if_true]
  have z0 : val_main_cst_0 (F := Ideal) (Shape.Idx.first ChipSmallRefIdeal.Gen.h_S_) = 0 := by
    rw [val_main_cst_0_apply]; pointwise []
  have z1 : val_main_cst_1 (F := Ideal) (Shape.Idx.first ChipSmallRefIdeal.Gen.h_S_) = 0 := by
    rw [val_main_cst_1_apply]; pointwise []
  rw [z0, z1]
  exact Chip.add_zeros _ _

theorem word (h : Cert.Pre_ChipSmallIdeal m) (c : Dev nD) (y : S1.Idx) : (arr0 m c y).toNat = (chip m 0 h).val := by
  obtain rfl : c = 0 := Subsingleton.elim (α := Fin 1) c 0
  exact congrArg (fun z => (arr0 m 0 z).toNat) (funext fun a => by fin_cases a; exact Subsingleton.elim (α := Fin 1) _ _)

theorem algebraic : Cert.algebraic_ChipSmallIdeal_ChipSmallRefIdeal := fun m g m' g' hp hm =>
  ⟨_, (θ_run Cert.ChipSmallIdeal.defs _ _).mono (fun r h c => ⟨((h.1 c).1 2).trans (final m hp c), h.2 c⟩)
      (θ_run_and (run_main m g (ok m hp)) (unchanged m g (ok m hp))),
    (θ_run Cert.ChipSmallRefIdeal.defs _ _).mono (fun r h c => by
      refine ⟨(h c).1.trans ?_, (h c).2⟩
      rw [Cert.ChipSmallRefIdeal.Read.val_main_v10_eq, (hm c).1, (hm c).2.1, (hm c).2.2]
      exact ref_eq _ _ _ _ fun y => word m hp c y)
      (Cert.ChipSmallRefIdeal.Value.run (F := Ideal) m' g')⟩

end Cert.Proof.ChipSmall

end
-- ==== Proof.Products.ChipIn.lean ====
/-
  The sum over the chips of one chip's gradient of the input projection, transposed: its own, named by a word, and the three received.
-/
module

public import proofs.«01_k».proof.Defs
public import proofs.«01_k».proof.Proof.Gen.ChipIn.Frame
public import proofs.«01_k».proof.Proof.Gen.ChipInIdeal.Frame
public import proofs.«01_k».proof.Proof.Gen.ChipInRefIdeal.Run
public import proofs.«01_k».proof.Proof.Gen.ChipInRefIdeal.Read
public import proofs.«01_k».proof.Proof.Gen.Pre_chip_named
public import proofs.«01_k».proof.Proof.Products.Chip
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.Proof.ChipIn

open Idealize.ShloMosaic Idealize.ShloMosaic.TcCoe Idealize.SL.Sem
open Cert.ChipInIdeal Cert.ChipInIdeal.Gen
open scoped BigOperators

variable (m : (ℓ : Loc nD τ sig) → Buf (Elt Ideal) ℓ)

abbrev arr0 (c : Dev nD) : IVec S1 32 := m ((c : Thread nD τ).loc main_arg0)
abbrev arr1 (c : Dev nD) : FVec Ideal S4x1024x768 .bf16 := m ((c : Thread nD τ).loc main_arg1)
abbrev arr2 (c : Dev nD) : FVec Ideal S3x1024x768 .bf16 := m ((c : Thread nD τ).loc main_arg2)

theorem named (c : Dev nD) (h : Cert.Pre_ChipInIdeal m) (y : S1.Idx) : (arr0 m c y).toNat < 4 :=
  Chip.word_lt _ (congrFun (h c) y)

theorem ok (h : Cert.Pre_ChipInIdeal m) : Ok m := by
  refine fun i => ⟨fun a => ?_, .inr (Affine.block_words_dvd (of_decide_eq_true rfl) (by decide))⟩
  fin_cases a
  · exact le_of_eq_of_le (Nat.mul_one _) (named m 0 h _)
  · have : (i 0).val < 2 := (i 0).isLt
    show ((BitVec.ofNat 32 (i 0).val).toNat + 1) * 512 ≤ 1024
    rw [BitVec.toNat_ofNat]
    omega
  · exact (by decide : (0 + 1) * 768 ≤ 768)

/-- The same of the program at the bits. -/
theorem ok_bits (m : (ℓ : Loc Cert.ChipIn.nD Cert.ChipIn.τ Cert.ChipIn.sig) → Buf (Elt Bits) ℓ) (h : Cert.Pre_ChipIn m) :
    Cert.ChipIn.Gen.Ok m := by
  refine fun i => ⟨fun a => ?_, .inr (Affine.block_words_dvd (of_decide_eq_true rfl) (by decide))⟩
  fin_cases a
  · exact le_of_eq_of_le (Nat.mul_one _) (Chip.word_lt _ (congrFun (h 0) _))
  · have : (i 0).val < 2 := (i 0).isLt
    show ((BitVec.ofNat 32 (i 0).val).toNat + 1) * 512 ≤ 1024
    rw [BitVec.toNat_ofNat]
    omega
  · exact (by decide : (0 + 1) * 768 ≤ 768)

/-- The chip's word. -/
abbrev chip (c : Dev nD) (h : Cert.Pre_ChipInIdeal m) : Fin 4 := ⟨(arr0 m c (Shape.Idx.first (by decide))).toNat, named m c h _⟩

/-- The chip's own and the three received. -/
def sum (t : FVec Ideal S4x1024x768 .bf16) (r : FVec Ideal S3x1024x768 .bf16) (k : Fin 4) (i : Fin 1024) (j : Fin 768) : Ideal .f32 :=
  t (ix3 k i j) + ∑ d : Fin 3, r (ix3 d i j)

/-- A row of the result, as a column of the sum. -/
abbrev up (k : Fin 737) : Fin 768 := ⟨k.val, by omega⟩

/-- The sum's first columns, as rows. -/
def total (t : FVec Ideal S4x1024x768 .bf16) (r : FVec Ideal S3x1024x768 .bf16) (k : Fin 4) : FVec Ideal S737x1x1024 .f32 :=
  fun y => sum t r k (y 2) (up (y 0))

theorem idx1 : ∀ t : Fin grid0.N, cc0_transform_1 (grid0.coords t) = ![0, t.val, 0] := by decide +kernel

theorem idx2 : ∀ t : Fin grid0.N, cc0_transform_2 (grid0.coords t) = ![0, 0, t.val] := by decide +kernel

theorem idx0 (t : Fin grid0.N) (h : Cert.Pre_ChipInIdeal m) :
    cc0_transform_0 inb_S1_S1_0 numel1_S1 (tbl m) (grid0.coords t) = ![(chip m 0 h).val, t.val, 0] := by
  funext a
  fin_cases a
  · exact congrArg (fun y => (arr0 m 0 y).toNat) (funext fun b => Fin.ext (by fin_cases b; rfl))
  · exact congrFun (idx1 t) 1
  · rfl

/-- A row of a step's block, in the array. -/
abbrev row (t : Fin grid0.N) (r : Fin 512) : Fin 1024 := ⟨t.val * 512 + r.val, by have := t.isLt; have : t.val < 2 := t.isLt; omega⟩

theorem blk0 (h : Cert.Pre_ChipInIdeal m) (c : Dev nD) (t : Fin (cfgM m (ok m h)).N) (r : Fin 512) (k : Fin 768) :
    iblk m (ok m h) c 0 t (ix3 0 r k) = arr1 m c (ix3 (chip m 0 h) (row t r) k) := by
  have e : (pcfg0.win (adm m (ok m h)) 0).index t = ![(chip m 0 h).val, t.val, 0] := idx0 m t h
  blk_ext [iblk, V, e]
  · exact congrArg (· + 0) (congrFun e 0)
  · exact (congrArg (· * 512 + r.val) (congrFun e 1))
  · exact (congrArg (· * 768 + k.val) (congrFun e 2)).trans (show 0 * 768 + k.val = k.val by omega)

theorem blk1 (h : Cert.Pre_ChipInIdeal m) (c : Dev nD) (t : Fin (cfgM m (ok m h)).N) (d : Fin 3) (r : Fin 512) (k : Fin 768) :
    iblk m (ok m h) c 1 t (ix3 d r k) = arr2 m c (ix3 d (row t r) k) := by
  have e : (pcfg0.win (adm m (ok m h)) 1).index t = ![0, t.val, 0] := idx1 t
  blk_ext [iblk, V, e]
  · exact (congrArg (· * 3 + d.val) (congrFun e 0)).trans (show 0 * 3 + d.val = d.val by omega)
  · exact (congrArg (· * 512 + r.val) (congrFun e 1))
  · exact (congrArg (· * 768 + k.val) (congrFun e 2)).trans (show 0 * 768 + k.val = k.val by omega)

def slab (x : FVec Ideal S3x512x768 .bf16) (n : Nat) (h : ∀ a, (![n, 0, 0] : Fin 3 → Nat) a + S1x512x768.size a ≤ S3x512x768.size a) :
    FVec Ideal S1x512x768 .bf16 :=
  View.ld (Val := Elt Ideal) (e' := .bf16) x (Rect.unit (s := S3x512x768) ![n, 0, 0] S1x512x768.size h)

theorem slab_eq (x : FVec Ideal S3x512x768 .bf16) (d : Fin 3) (n : Nat) (hn : n = d.val) (h) (r : Fin 512) (k : Fin 768) :
    slab x n h (ix3 0 r k) = x (ix3 d r k) := by
  subst hn
  refine View.ld_unit_apply_of (S := S3x512x768) (Val := Elt Ideal) (e := .bf16) x _ _ h _ _ fun a => ?_
  fin_cases a <;> simp

theorem split (y : S737x1x512.Idx) : ∃ (k : Fin 737) (r : Fin 512), y = ix3 k 0 r :=
  ⟨y 0, y 2, funext fun a => by fin_cases a; exacts [rfl, Subsingleton.elim (α := Fin 1) _ _, rfl]⟩

/-- A step's block. -/
theorem block (x : FVec Ideal S1x512x768 .bf16) (v : FVec Ideal S3x512x768 .bf16) (r : Fin 512) (k : Fin 737) :
    k0_pay1 (F := Ideal) x (slab v 0 inb_S3x512x768_S1x512x768_0_0_0) (slab v 1 inb_S3x512x768_S1x512x768_1_0_0)
      (slab v 2 inb_S3x512x768_S1x512x768_2_0_0) (ix3 k 0 r)
      = x (ix3 0 r (up k)) + ∑ d : Fin 3, v (ix3 d r (up k)) := by
  rw [Fin.sum_univ_three, ← slab_eq v 0 0 rfl inb_S3x512x768_S1x512x768_0_0_0, ← slab_eq v 1 1 rfl inb_S3x512x768_S1x512x768_1_0_0,
    ← slab_eq v 2 2 rfl inb_S3x512x768_S1x512x768_2_0_0]
  generalize slab v 0 _ = v0
  generalize slab v 1 _ = v1
  generalize slab v 2 _ = v2
  pointwise [k0_pay1]
  rw [add_assoc, add_assoc, ← add_assoc (v0 _)] <;> rfl

theorem cov (h : Cert.Pre_ChipInIdeal m) : ((cfgM m (ok m h)).win 2).Covers :=
  by
  refine ⟨(by decide : ∀ a : Fin 3, 0 < S737x1x512.size a), fun (β : (a : Fin 3) → Fin ((S737x1x1024.size a + S737x1x512.size a - 1) / S737x1x512.size a)) =>
    ⟨⟨(β 2).val, Nat.lt_of_lt_of_eq (β 2).isLt (by decide : _ = 2)⟩, flush0_2 _ _, fun a => ⟨?_, .inl rfl⟩⟩⟩
  refine (congrFun (idx2 ⟨(β 2).val, Nat.lt_of_lt_of_eq (β 2).isLt (by decide : _ = 2)⟩) a).trans ?_
  fin_cases a
  · have : (β 0).val < 1 := Nat.lt_of_lt_of_eq (β 0).isLt (by decide)
    show 0 = (β 0).val
    omega
  · have : (β 1).val < 1 := Nat.lt_of_lt_of_eq (β 1).isLt (by decide)
    show 0 = (β 1).val
    omega
  · rfl

theorem final (h : Cert.Pre_ChipInIdeal m) (c : Dev nD) :
    (dats m (ok m h) 0 c).arrAt 2 (cfgM m (ok m h)).N = total (arr1 m c) (arr2 m c) (chip m 0 h) := by
  refine (dats m (ok m h) 0 c).arrAt_eq_of_covers 2 _ (cov m h) fun t hf y => ?_
  blk_simp
  rw [after0_2]
  unfold outsAt0
  frame_out
  generalize hx : View.read (Elt Ideal) (ms0_0 m (ok m h) t).view ((hs0_0 m (ok m h) t).unread (iblk m (ok m h) c 0 t)) = x
  generalize hv : View.read (Elt Ideal) (ms0_1 m (ok m h) t).view ((hs0_1 m (ok m h) t).unread (iblk m (ok m h) c 1 t)) = v
  replace hx := ((hs0_0 m (ok m h) t).read_unread _).symm.trans hx
  replace hv := ((hs0_1 m (ok m h) t).read_unread _).symm.trans hv
  obtain ⟨k, r, rfl⟩ := split y
  refine (block x v r k).trans ?_
  have e : (pcfg0.win (adm m (ok m h)) 2).index t = ![0, 0, t.val] := idx2 t
  have e' : (((spec0 2).arr.view.slice ((pcfg0.win (adm m (ok m h)) 2).rect t)).emb (ix3 k 0 r)) = ix3 k 0 (row t r) := by
    refine funext fun a => Fin.ext ?_
    fin_cases a <;> blk_simp [e] <;> rfl
  refine Eq.trans ?_ (congrArg (total (arr1 m c) (arr2 m c) (chip m 0 h)) e'.symm)
  exact congrArg₂ (fun a b : Ideal .bf16 => a + b) ((congrFun hx.symm _).trans (blk0 m h c t _ _))
    (Finset.sum_congr rfl fun d _ => (congrFun hv.symm _).trans (blk1 m h c t d _ _))

open Cert.ChipInRefIdeal.Read in
theorem ref_sum (w : IVec S1 32) (t : FVec Ideal S4x1024x768 .bf16) (r : FVec Ideal S3x1024x768 .bf16) (k : Fin 4) (hk : ∀ y, (w y).toNat = k.val) (y) :
    val_main_v10 (F := Ideal) w t r y = sum t r k (y 0) (y 1) := by
  rw [val_main_v10_apply, val_main_v7_apply, val_main_v9_apply]
  have hW (i) : (val_main_v2 (F := Ideal) w i).toNat = k.val := hk _
  have hs (j : Fin 4) : val_main_v6 (F := Ideal) w t (idx_main_v7 y j) = if j = k then t (ix3 k (y 0) (y 1)) else 0 := by
    rw [val_main_v6_apply, val_main_call0_v1_apply, val_main_v4_apply, val_main_v1_apply, val_main_v0_apply, val_main_v3_apply]
    refine (Chip.sel j k _ (hW (idx_main_v3 (idx_main_call0_v1 (idx_main_v7 y j)))) (val_main_v5 (F := Ideal) t (idx_main_v7 y j))
      (val_main_call0_v2 (F := Ideal) (idx_main_v7 y j))).trans ?_
    split
    · next hj =>
      subst hj
      exact congrArg t (funext fun a => Fin.ext (by fin_cases a <;> rfl))
    · rw [val_main_call0_v2_apply, val_main_call0_v0_apply, val_main_cst_apply]
      pointwise []
  have hr (d : Fin 3) : val_main_v8 (F := Ideal) r (idx_main_v9 y d) = r (ix3 d (y 0) (y 1)) := by
    rw [val_main_v8_apply]
    exact congrArg r (funext fun a => Fin.ext (by fin_cases a <;> rfl))
  simp only [hs, hr, Finset.sum_ite_eq', Finset.mem_univ, if_true]
  have z0 : val_main_cst_0 (F := Ideal) (Shape.Idx.first ChipInRefIdeal.Gen.h_S_) = 0 := by
    rw [val_main_cst_0_apply]; pointwise []
  have z1 : val_main_cst_1 (F := Ideal) (Shape.Idx.first ChipInRefIdeal.Gen.h_S_) = 0 := by
    rw [val_main_cst_1_apply]; pointwise []
  rw [z0, z1]
  exact Chip.add_zeros _ _

open Cert.ChipInRefIdeal.Read in
theorem ref_eq (w : IVec S1 32) (t : FVec Ideal S4x1024x768 .bf16) (r : FVec Ideal S3x1024x768 .bf16) (k : Fin 4) (hk : ∀ y, (w y).toNat = k.val) :
    val_main_v13 (F := Ideal) w t r = total t r k := by
  funext y
  rw [val_main_v13_apply, val_main_v12_apply, val_main_v11_apply, ref_sum w t r k hk]
  rfl

theorem word (h : Cert.Pre_ChipInIdeal m) (c : Dev nD) (y : S1.Idx) : (arr0 m c y).toNat = (chip m 0 h).val := by
  obtain rfl : c = 0 := Subsingleton.elim (α := Fin 1) c 0
  exact congrArg (fun z => (arr0 m 0 z).toNat) (funext fun a => by fin_cases a; exact Subsingleton.elim (α := Fin 1) _ _)

theorem algebraic : Cert.algebraic_ChipInIdeal_ChipInRefIdeal := fun m g m' g' hp hm =>
  ⟨_, (θ_run Cert.ChipInIdeal.defs _ _).mono (fun r h c => ⟨((h.1 c).1 2).trans (final m hp c), h.2 c⟩)
      (θ_run_and (run_main m g (ok m hp)) (unchanged m g (ok m hp))),
    (θ_run Cert.ChipInRefIdeal.defs _ _).mono (fun r h c => by
      refine ⟨(h c).1.trans ?_, (h c).2⟩
      rw [Cert.ChipInRefIdeal.Read.val_main_v13_eq, (hm c).1, (hm c).2.1, (hm c).2.2]
      exact ref_eq _ _ _ _ fun y => word m hp c y)
      (Cert.ChipInRefIdeal.Value.run (F := Ideal) m' g')⟩

end Cert.Proof.ChipIn

end
-- ==== Proof.Run.Trip.lean ====
/-
  One trip of the backward kernel's loop over key blocks, run once at a symbolic trip: the key block's own
  products, the loop over the query blocks below it, and the stores of the block's gradients. The pieces the
  trip writes are the run's finds, functions of the query gradient accumulated so far (`arg13`).
-/
module

public import proofs.«01_k».proof.Proof.Gen.KernelIdeal.Frame
public import proofs.«01_k».proof.Proof.Gen.KernelIdeal.Loops

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The remainder of the loop over query blocks (jax unrolls by one) has no trips. -/
theorem rest_trips (k : Fin k0_t1_loop.trips) : (k0_t3_loop k).trips = 0 := by
  revert k; decide

/-- The loop over the query blocks below the key block, at the operands its region reads. -/
@[sl_loop, reducible] def below (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .hbm S8x128 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x8x2048 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (k0_t1 : Fin k0_t1_loop.trips) (v58 : FVec F S512x128 .bf16) (v61 : FVec F S512x128 .bf16) (v63 : FVec F S512x128 .bf16) (v65 : FVec F S512x128 .bf16) (v70 : FVec F S512x128 .bf16) (v72 : FVec F S512x128 .bf16) (v165 : BitVec 32) (X_arg1 : BufTy.Contents (Elt F) arg1.view.ty) (X_arg4 : BufTy.Contents (Elt F) arg4.view.ty) (X_arg6 : BufTy.Contents (Elt F) arg6.view.ty) (X_arg14 : BufTy.Contents (Elt F) arg14.view.ty) (X_arg15 : BufTy.Contents (Elt F) arg15.view.ty) (G_arg13 : BufTy.Contents (Elt F) arg13.view.ty) (init : FVec F S512x128 .f32 × FVec F S512x128 .f32 × FVec F S1x512 .f32 × FVec F S512x128 .f32 × FVec F S512x128 .f32 × FVec F S1x512 .f32) :=
  loopInv_k0_t2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay3 k0_t1 0#32 0#32 v58 v61 v63 v65 v70 v72 (constant S512x128 .f32 0#32) (constant S512x128 .f32 0#32) (constant S1x512 .f32 0#32) 0#32 (constant S512x128 .bf16 0#16) (constant S512x128 .f32 0#32) (constant S512x128 .f32 0#32) (constant S512x128 .f32 0#32) (constant S1x512 .f32 0#32) (constant S512x512 .f32 0#32) (constant S512x512 .f32 0#32) (fun _ => FloatOps.ofBits .f32 0#32) v165 X_arg1 X_arg4 X_arg6 X_arg14 X_arg15 G_arg13 init

/-- What a trip holds: the memrefs it reads at their contents, those it writes at any. -/
abbrev Held (c : Dev nD) (arg1 : Memref sig .tc .vmem S2048x256 .bf16) (arg2 : Memref sig .tc .vmem S2048x256 .bf16) (arg3 : Memref sig .tc .vmem S2048x128 .bf16) (arg4 : Memref sig .tc .vmem S2048x128 .f32) (arg6 : Memref sig .tc .vmem S1x2048x128 .f32) (arg14 : Memref sig .tc .vmem S2048x128 .f32) (arg15 : Memref sig .tc .vmem S2048x128 .f32) (arg10 : Memref sig .tc .vmem S2048x128 .bf16) (arg11 : Memref sig .tc .vmem S2048x128 .bf16) (arg12 : Memref sig .tc .vmem S1x8x2048 .f32) (arg13 : Memref sig .tc .vmem S2048x128 .f32)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (X14 : BufTy.Contents (Elt F) arg14.view.ty) (X15 : BufTy.Contents (Elt F) arg15.view.ty)
    (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg14.view.loc (c : Thread nD τ) ↦[arg14.view.set]{fullShare} X14) ∗ (arg15.view.loc (c : Thread nD τ) ↦[arg15.view.set]{fullShare} X15) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- One trip of the loop over key blocks: the pieces it writes into the gradients of the keys, the values and the
    gate (`arg10`, `arg11`, `arg12`) and into the accumulated gradient of the queries (`arg13`). -/
@[irreducible] def trip (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (X14 : BufTy.Contents (Elt F) arg14.view.ty) (X15 : BufTy.Contents (Elt F) arg15.view.ty) (k : Fin k0_t1_loop.trips) :
    Σ' (L10 : BufTy.Contents (Elt F) arg13.view.ty → List (View.Piece (Elt F) S2048x128 .bf16)) (L11 : BufTy.Contents (Elt F) arg13.view.ty → List (View.Piece (Elt F) S2048x128 .bf16)) (L12 : BufTy.Contents (Elt F) arg13.view.ty → List (View.Piece (Elt F) S1x8x2048 .f32)),
      { L13 : BufTy.Contents (Elt F) arg13.view.ty → List (View.Piece (Elt F) S2048x128 .f32) //
        ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty),
          Held (F := F) c arg1 arg2 arg3 arg4 arg6 arg14 arg15 arg10 arg11 arg12 arg13 X1 X2 X3 X4 X6 X14 X15 f10 f11 f12 f13
          ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k ())
              (fun _ => Held (F := F) c arg1 arg2 arg3 arg4 arg6 arg14 arg15 arg10 arg11 arg12 arg13 X1 X2 X3 X4 X6 X14 X15 (arg10.view.writes (Elt F) f10 (L10 f13)) (arg11.view.writes (Elt F) f11 (L11 f13)) (arg12.view.writes (Elt F) f12 (L12 f13)) (arg13.view.writes (Elt F) f13 (L13 f13))) } := by
  refine ⟨?_, ?_, ?_, ?_, fun E f10 f11 f12 f13 => ?run⟩
  case run =>
    unfold k0_t1_body
    iintro ⟨H1, H2, H3, H4, H6, H14, H15, H10, H11, H12, H13⟩
    have h0 := rest_trips k
    sl_exec
    sl_step
    sl_close

end Cert.Proof.KernelIdeal

end
-- ==== Proof.Run.Outer.lean ====
/-
  The backward kernel's loop over key blocks by its invariant: before trip `k` every gradient written so far is
  the pieces of the trips before, each trip's pieces taken at the query gradient the earlier trips left.
-/
module

public import proofs.«01_k».proof.Proof.Run.Trip

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Trip `k`'s pieces in front of those of the trips before it (`prev`); past the last trip, `prev` itself. -/
@[irreducible] def pcsStep (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (X14 : BufTy.Contents (Elt F) arg14.view.ty) (X15 : BufTy.Contents (Elt F) arg15.view.ty) (G13 : BufTy.Contents (Elt F) arg13.view.ty) (k : ℕ) (prev : List (View.Piece (Elt F) S2048x128 .bf16) × List (View.Piece (Elt F) S2048x128 .bf16) × List (View.Piece (Elt F) S1x8x2048 .f32) × List (View.Piece (Elt F) S2048x128 .f32)) :
    List (View.Piece (Elt F) S2048x128 .bf16) × List (View.Piece (Elt F) S2048x128 .bf16) × List (View.Piece (Elt F) S1x8x2048 .f32) × List (View.Piece (Elt F) S2048x128 .f32) :=
  if h : k < k0_t1_loop.trips then
    ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 ⟨k, h⟩).1 (arg13.view.writes (Elt F) G13 prev.2.2.2) ++ prev.1,
      (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 ⟨k, h⟩).2.1 (arg13.view.writes (Elt F) G13 prev.2.2.2) ++ prev.2.1,
      (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 ⟨k, h⟩).2.2.1 (arg13.view.writes (Elt F) G13 prev.2.2.2) ++ prev.2.2.1,
      (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 ⟨k, h⟩).2.2.2.1 (arg13.view.writes (Elt F) G13 prev.2.2.2) ++ prev.2.2.2)
  else prev

/-- The pieces of the trips before `k`, last first, from the query gradient `G13` the loop starts with. -/
def pcs (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (X14 : BufTy.Contents (Elt F) arg14.view.ty) (X15 : BufTy.Contents (Elt F) arg15.view.ty) (G13 : BufTy.Contents (Elt F) arg13.view.ty) : ℕ → List (View.Piece (Elt F) S2048x128 .bf16) × List (View.Piece (Elt F) S2048x128 .bf16) × List (View.Piece (Elt F) S1x8x2048 .f32) × List (View.Piece (Elt F) S2048x128 .f32)
  | 0 => ([], [], [], [])
  | k + 1 => pcsStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k (pcs 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k)

theorem pcs_succ (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (X14 : BufTy.Contents (Elt F) arg14.view.ty) (X15 : BufTy.Contents (Elt F) arg15.view.ty) (G13 : BufTy.Contents (Elt F) arg13.view.ty) (k : Fin k0_t1_loop.trips) :
    pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 (k.val + 1)
      = ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 k).1 (arg13.view.writes (Elt F) G13 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.2.2) ++ (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).1,
        (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 k).2.1 (arg13.view.writes (Elt F) G13 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.2.2) ++ (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.1,
        (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 k).2.2.1 (arg13.view.writes (Elt F) G13 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.2.2) ++ (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.2.1,
        (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 k).2.2.2.1 (arg13.view.writes (Elt F) G13 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.2.2) ++ (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.2.2) := by
  rw [pcs.eq_2]; unfold pcsStep; exact dif_pos k.isLt

/-- The invariant before trip `k`. -/
abbrev outerInv (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (X14 : BufTy.Contents (Elt F) arg14.view.ty) (X15 : BufTy.Contents (Elt F) arg15.view.ty) (G10 : BufTy.Contents (Elt F) arg10.view.ty) (G11 : BufTy.Contents (Elt F) arg11.view.ty) (G12 : BufTy.Contents (Elt F) arg12.view.ty) (G13 : BufTy.Contents (Elt F) arg13.view.ty) (k : ℕ) (_ : Unit) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg14.view.loc (c : Thread nD τ) ↦[arg14.view.set]{fullShare} X14) ∗ (arg15.view.loc (c : Thread nD τ) ↦[arg15.view.set]{fullShare} X15) ∗ (∃ f, (arg10.view.loc (c : Thread nD τ) ↦[arg10.view.set]{fullShare} f) ∗ ⌜f = arg10.view.writes (Elt F) G10 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).1⌝) ∗ (∃ f, (arg11.view.loc (c : Thread nD τ) ↦[arg11.view.set]{fullShare} f) ∗ ⌜f = arg11.view.writes (Elt F) G11 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.1⌝) ∗ (∃ f, (arg12.view.loc (c : Thread nD τ) ↦[arg12.view.set]{fullShare} f) ∗ ⌜f = arg12.view.writes (Elt F) G12 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.2.1⌝) ∗ (∃ f, (arg13.view.loc (c : Thread nD τ) ↦[arg13.view.set]{fullShare} f) ∗ ⌜f = arg13.view.writes (Elt F) G13 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 k).2.2.2⌝))

set_option warn.classDefReducibility false in
/-- The loop over key blocks, by its invariant. -/
@[sl_loop] def outer (E : Set ℕ) (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (X14 : BufTy.Contents (Elt F) arg14.view.ty) (X15 : BufTy.Contents (Elt F) arg15.view.ty) (G10 : BufTy.Contents (Elt F) arg10.view.ty) (G11 : BufTy.Contents (Elt F) arg11.view.ty) (G12 : BufTy.Contents (Elt F) arg12.view.ty) (G13 : BufTy.Contents (Elt F) arg13.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 where
  inv := outerInv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G10 G11 G12 G13
  step k acc := by
    iintro ⟨H1, H2, H3, H4, H6, H14, H15, ⟨%f10, H10, %h10⟩, ⟨%f11, H11, %h11⟩, ⟨%f12, H12, %h12⟩, ⟨%f13, H13, %h13⟩⟩
    iapply (wp_wand_r Idealize.ShloMosaic.frame (wpE (defs₀ (F := F)) 𝒱 (c : Thread nD τ) bd) E)
    isplitl [H1 H2 H3 H4 H6 H14 H15 H10 H11 H12 H13]
    · iapply (((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 k)).2.2.2.2 E f10 f11 f12 f13)
      isplitl [H1]; · iexact H1
      isplitl [H2]; · iexact H2
      isplitl [H3]; · iexact H3
      isplitl [H4]; · iexact H4
      isplitl [H6]; · iexact H6
      isplitl [H14]; · iexact H14
      isplitl [H15]; · iexact H15
      isplitl [H10]; · iexact H10
      isplitl [H11]; · iexact H11
      isplitl [H12]; · iexact H12
      iexact H13
    · iintro %yld ⟨H1, H2, H3, H4, H6, H14, H15, H10, H11, H12, H13⟩
      isplitl [H1]; · iexact H1
      isplitl [H2]; · iexact H2
      isplitl [H3]; · iexact H3
      isplitl [H4]; · iexact H4
      isplitl [H6]; · iexact H6
      isplitl [H14]; · iexact H14
      isplitl [H15]; · iexact H15
      simp only [pcs_succ]
      isplitl [H10]
      · iexists _; isplitl [H10]; · iexact H10
        ipureintro; rw [h10, h13, ← View.writes_append]
      isplitl [H11]
      · iexists _; isplitl [H11]; · iexact H11
        ipureintro; rw [h11, h13, ← View.writes_append]
      isplitl [H12]
      · iexists _; isplitl [H12]; · iexact H12
        ipureintro; rw [h12, h13, ← View.writes_append]
      · iexists _; isplitl [H13]; · iexact H13
        ipureintro; rw [h13, ← View.writes_append]

end Cert.Proof.KernelIdeal

end
-- ==== Proof.Run.Body.lean ====
/-
  The backward kernel's body, run once on whole memrefs at read contents `x1 … x7`: what it leaves in the
  gradients' blocks — pieces for the queries, the keys and the values, the whole contents for the gate.
-/
module

public import proofs.«01_k».proof.Proof.Run.Outer

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The run of the body. -/
@[irreducible] def run (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
    (x1 : Vec F S2048x256 .bf16) (x2 : Vec F S2048x256 .bf16) (x3 : Vec F S2048x128 .bf16) (x4 : Vec F S2048x128 .f32) (x5 : Vec F S2048x128 .f32) (x6 : Vec F S1x2048x128 .f32) (x7 : Vec F S1x2048x128 .f32) :
    Σ' (L9 : List (View.Piece (Elt F) S2048x128 .bf16)) (L10 : List (View.Piece (Elt F) S2048x128 .bf16)) (L11 : List (View.Piece (Elt F) S2048x128 .bf16)),
      { C12 : BufTy.Contents (Elt F) arg12.view.ty //
        ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
          (iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
          ⊢ wp frame (wpE (defs₀ (F := F)) 𝒱 (c : Thread nD τ) bd) E (cc0_fox_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
              (fun _ => iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} C12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) } := by
  refine ⟨?_, ?_, ?_, ?_, fun E f9 f10 f11 f12 f13 f14 f15 => ?run⟩
  case run =>
    simp only [cc0_fox_bwd_eq_skeleton]; unfold cc0_fox_bwd_skel
    iintro ⟨H1, H2, H3, H4, H5, H6, H7, H9, H10, H11, H12, H13, H14, H15⟩
    sl_exec
    sl_step
    sl_close

end Cert.Proof.KernelIdeal

end
-- ==== Proof.Run.Cover.lean ====
/-
  The body's stores cover the gradients' blocks: the trips' row blocks tile the keys' and the values' gradients, the
  last store is the whole of the queries' gradient.
-/
module

public import proofs.«01_k».proof.Proof.Run.Body

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A trip's rows start at the trip's block. -/
theorem off3_eq (k : Fin k0_t1_loop.trips) : k0_off3 k = ![512 * k.val, 0] := by
  revert k; decide

/-- There are four trips. -/
theorem trips_eq : k0_t1_loop.trips = 4 := by decide

section Trip

variable (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
  (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (X14 : BufTy.Contents (Elt F) arg14.view.ty) (X15 : BufTy.Contents (Elt F) arg15.view.ty)

/-- A trip stores its block of the keys' gradient, -/
theorem trip_rows10 (k : Fin k0_t1_loop.trips) (f : BufTy.Contents (Elt F) arg13.view.ty) :
    ∃ w, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 k).1 f = [⟨Rect.unit (s := S2048x128) (k0_off3 k) S512x128.size (k0_off3_inb k), w⟩] := by
  unfold trip; exact ⟨_, rfl⟩

/-- its block of the values' gradient. -/
theorem trip_rows11 (k : Fin k0_t1_loop.trips) (f : BufTy.Contents (Elt F) arg13.view.ty) :
    ∃ w, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 k).2.1 f = [⟨Rect.unit (s := S2048x128) (k0_off3 k) S512x128.size (k0_off3_inb k), w⟩] := by
  unfold trip; exact ⟨_, rfl⟩

/-- The keys' gradient's blocks so far. -/
theorem pcs_rows10 (G13 : BufTy.Contents (Elt F) arg13.view.ty) (n : ℕ) (hn : n ≤ k0_t1_loop.trips) (k : Fin k0_t1_loop.trips) (hk : k.val < n) :
    ∃ w, (⟨Rect.unit (s := S2048x128) (k0_off3 k) S512x128.size (k0_off3_inb k), w⟩ : View.Piece (Elt F) S2048x128 .bf16) ∈ (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 n).1 := by
  induction n with
  | zero => omega
  | succ n ih =>
    rw [pcs_succ (k := ⟨n, by omega⟩)]
    rcases Nat.lt_or_ge k.val n with h | h
    · obtain ⟨w, hw⟩ := ih (by omega) h
      exact ⟨w, List.mem_append_right _ hw⟩
    · obtain ⟨w, hw⟩ := trip_rows10 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 ⟨n, by omega⟩
        (arg13.view.writes (Elt F) G13 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 n).2.2.2)
      have e : (⟨n, by omega⟩ : Fin k0_t1_loop.trips) = k := Fin.ext (show n = k.val by omega)
      rw [e] at hw
      refine ⟨w, List.mem_append_left _ ?_⟩
      dsimp only; rw [e, hw]; exact List.mem_singleton.mpr rfl

/-- The values' gradient's blocks so far. -/
theorem pcs_rows11 (G13 : BufTy.Contents (Elt F) arg13.view.ty) (n : ℕ) (hn : n ≤ k0_t1_loop.trips) (k : Fin k0_t1_loop.trips) (hk : k.val < n) :
    ∃ w, (⟨Rect.unit (s := S2048x128) (k0_off3 k) S512x128.size (k0_off3_inb k), w⟩ : View.Piece (Elt F) S2048x128 .bf16) ∈ (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 n).2.1 := by
  induction n with
  | zero => omega
  | succ n ih =>
    rw [pcs_succ (k := ⟨n, by omega⟩)]
    rcases Nat.lt_or_ge k.val n with h | h
    · obtain ⟨w, hw⟩ := ih (by omega) h
      exact ⟨w, List.mem_append_right _ hw⟩
    · obtain ⟨w, hw⟩ := trip_rows11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 ⟨n, by omega⟩
        (arg13.view.writes (Elt F) G13 (pcs (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X6 X14 X15 G13 n).2.2.2)
      have e : (⟨n, by omega⟩ : Fin k0_t1_loop.trips) = k := Fin.ext (show n = k.val by omega)
      rw [e] at hw
      refine ⟨w, List.mem_append_left _ ?_⟩
      dsimp only; rw [e, hw]; exact List.mem_singleton.mpr rfl

end Trip

/-- Every index lies in the rows of its block's trip. -/
theorem mem_rows (y : S2048x128.Idx) :
    ∃ k : Fin k0_t1_loop.trips, y ∈ (Rect.unit (s := S2048x128) (k0_off3 k) S512x128.size (k0_off3_inb k)).set := by
  have h0 : (y 0).val < 2048 := (y 0).isLt
  have h1 : (y 1).val < 128 := (y 1).isLt
  refine ⟨⟨(y 0).val / 512, by rw [trips_eq]; omega⟩, ?_⟩
  rw [Rect.mem_set_unit, off3_eq]
  intro a
  fin_cases a
  · show 512 * ((y 0).val / 512) ≤ (y 0).val ∧ (y 0).val < 512 * ((y 0).val / 512) + 512
    omega
  · show 0 ≤ (y 1).val ∧ (y 1).val < 0 + 128
    omega

section Run

variable (𝒱 : Variants) (c : Dev nD) (bd : Option 𝒱.V) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
  (x1 : Vec F S2048x256 .bf16) (x2 : Vec F S2048x256 .bf16) (x3 : Vec F S2048x128 .bf16) (x4 : Vec F S2048x128 .f32) (x5 : Vec F S2048x128 .f32) (x6 : Vec F S1x2048x128 .f32) (x7 : Vec F S1x2048x128 .f32)

theorem run_cover9 (y : S2048x128.Idx) : ∃ p ∈ (run (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7).1, y ∈ p.1.set := by
  unfold run
  refine ⟨_, List.mem_singleton.mpr rfl, ?_⟩
  rw [Rect.mem_set_unit]
  intro a
  fin_cases a
  · exact ⟨Nat.zero_le _, by have := (y 0).isLt; simpa using this⟩
  · exact ⟨Nat.zero_le _, by have := (y 1).isLt; simpa using this⟩

theorem run_cover10 (y : S2048x128.Idx) : ∃ p ∈ (run (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7).2.1, y ∈ p.1.set := by
  unfold run
  obtain ⟨k, hk⟩ := mem_rows y
  obtain ⟨w, hw⟩ := pcs_rows10 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ k0_t1_loop.trips le_rfl k k.isLt
  exact ⟨_, hw, hk⟩

theorem run_cover11 (y : S2048x128.Idx) : ∃ p ∈ (run (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7).2.2.1, y ∈ p.1.set := by
  unfold run
  obtain ⟨k, hk⟩ := mem_rows y
  obtain ⟨w, hw⟩ := pcs_rows11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ k0_t1_loop.trips le_rfl k k.isLt
  exact ⟨_, hw, hk⟩

end Run

end Cert.Proof.KernelIdeal

end
-- ==== Proof.Run.Launch.lean ====
/-
  The launch: the body's run at every grid point of the attention's gradient, and from it the program's run: it terminates,
  leaves the arguments as they were and every semaphore at zero, and each gradient is the array the blocks make up.
-/
module

public import proofs.«01_k».proof.Proof.Run.Cover
public import proofs.«01_k».proof.Proof.Gen.KernelIdeal.Skeleton
public import Idealize.ShloMosaic.Lib.Claim

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The body over owned blocks -/

/-- The body from the inputs' blocks: it leaves the inputs, and each gradient's block at the contents the run found. -/
theorem sound_kernel (E : Set ℕ) (c : Dev nD) (i : grid0.Coords)
    (arg1 : Memref sig .tc .vmem S2048x256 .bf16) (harg1 : arg1.IsWhole)
    (arg2 : Memref sig .tc .vmem S2048x256 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .hbm S8x128 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x8x2048 .f32) (harg12 : arg12.IsWhole)
    (arg13 : Memref sig .tc .vmem S2048x128 .f32) (harg13 : arg13.IsWhole)
    (arg14 : Memref sig .tc .vmem S2048x128 .f32) (harg14 : arg14.IsWhole)
    (arg15 : Memref sig .tc .vmem S2048x128 .f32) (harg15 : arg15.IsWhole)
    (x1 : Vec F S2048x256 .bf16) (x2 : Vec F S2048x256 .bf16) (x3 : Vec F S2048x128 .bf16) (x4 : Vec F S2048x128 .f32) (x5 : Vec F S2048x128 .f32) (x6 : Vec F S1x2048x128 .f32) (x7 : Vec F S1x2048x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f))
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare (View.canon (run (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7).1) ∗ owns (c : Thread nD τ) arg10 fullShare (View.canon (run (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7).2.1) ∗ owns (c : Thread nD τ) arg11 fullShare (View.canon (run (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7).2.2.1) ∗ owns (c : Thread nD τ) arg12 fullShare (arg12.view.read (Elt F) (run (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7).2.2.2.1) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f))) -∗ K ⟨⟩))
      ⊢ wp frame (wpE (defs₀ (F := F)) Variants.none c none) E (cc0_fox_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%d11, %f11, -, H11⟩, ⟨%d12, %f12, -, H12⟩, ⟨%f13, H13⟩, ⟨%f14, H14⟩, ⟨%f15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply (wp_wand_r Idealize.ShloMosaic.frame (wpE (defs₀ (F := F)) Variants.none (c : Thread nD τ) none) E)
  isplitl [H1 H2 H3 H4 H5 H6 H7 H9 H10 H11 H12 H13 H14 H15]
  · iapply ((run (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7).2.2.2.2 E f9 f10 f11 f12 f13 f14 f15)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    iexact H15
  iintro %a ⟨H1, H2, H3, H4, H5, H6, H7, H9, H10, H11, H12, H13, H14, H15⟩
  iapply Hk
  isplitl [H1]
  · iexists (harg1.unread x1); isplitr; · ipureintro; exact harg1.read_unread x1
    iexact H1
  isplitl [H2]
  · iexists (harg2.unread x2); isplitr; · ipureintro; exact harg2.read_unread x2
    iexact H2
  isplitl [H3]
  · iexists (harg3.unread x3); isplitr; · ipureintro; exact harg3.read_unread x3
    iexact H3
  isplitl [H4]
  · iexists (harg4.unread x4); isplitr; · ipureintro; exact harg4.read_unread x4
    iexact H4
  isplitl [H5]
  · iexists (harg5.unread x5); isplitr; · ipureintro; exact harg5.read_unread x5
    iexact H5
  isplitl [H6]
  · iexists (harg6.unread x6); isplitr; · ipureintro; exact harg6.read_unread x6
    iexact H6
  isplitl [H7]
  · iexists (harg7.unread x7); isplitr; · ipureintro; exact harg7.read_unread x7
    iexact H7
  isplitl [H9]
  · iexists _; isplitr; swap; · iexact H9
    ipureintro; exact View.read_writes_eq_canon _ _ _ (run_cover9 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7)
  isplitl [H10]
  · iexists _; isplitr; swap; · iexact H10
    ipureintro; exact View.read_writes_eq_canon _ _ _ (run_cover10 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7)
  isplitl [H11]
  · iexists _; isplitr; swap; · iexact H11
    ipureintro; exact View.read_writes_eq_canon _ _ _ (run_cover11 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7)
  isplitl [H12]
  · iexists _; isplitr; swap; · iexact H12
    ipureintro; exact rfl
  isplitl [H13]; · iexact H13
  isplitl [H14]; · iexact H14
  iexact H15

variable (m : (ℓ : Loc nD τ sig) → Buf (Elt F) ℓ) (ρ : Dev nD → PrngReg)

/-! ## The gradients' blocks at a grid point -/

/-- The body's run at point `t`, from the blocks of that point. -/
abbrev runAt (c : Dev nD) (t : Fin cfg0.N) :=
  run (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t)

/-- The proof data: the inputs stay at their blocks, each gradient's block is the run's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => View.canon (runAt m c t).1
    | ⟨8, _⟩ => View.canon (runAt m c t).2.1
    | ⟨9, _⟩ => View.canon (runAt m c t).2.2.1
    | ⟨10, _⟩ => (st0_10 t).view.read (Elt F) (runAt m c t).2.2.2.1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = View.canon (runAt m c t).1 := by dsimp only [dats]
theorem after0_8 (c : Dev nD) (t : Fin cfg0.N) : (dats m 0 c).after 8 t = View.canon (runAt m c t).2.1 := by dsimp only [dats]
theorem after0_9 (c : Dev nD) (t : Fin cfg0.N) : (dats m 0 c).after 9 t = View.canon (runAt m c t).2.2.1 := by dsimp only [dats]
theorem after0_10 (c : Dev nD) (t : Fin cfg0.N) : (dats m 0 c).after 10 t = (st0_10 t).view.read (Elt F) (runAt m c t).2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  iintro ⟨⟨⟨⟨%s13, H13⟩, ⟨%s14, H14⟩, ⟨%s15, H15⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel Set.univ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H13]
  · iexists s13; simp only [Memref.view_whole, View.set_whole]; iexact H13
  isplitl [H14]
  · iexists s14; simp only [Memref.view_whole, View.set_whole]; iexact H14
  isplitl [H15]
  · iexists s15; simp only [Memref.view_whole, View.set_whole]; iexact H15
  iintro ⟨H0, H1, H2, H3, H4, H5, H6, H7, H8, H9, H10, ⟨%s13, H13⟩, ⟨%s14, H14⟩, ⟨%s15, H15⟩⟩
  isplitl [H13 H14 H15 Hr]
  · isplitl [H13 H14 H15]
    · isplitl [H13]
      · iexists s13; simp only [Memref.view_whole, View.set_whole]; iexact H13
      isplitl [H14]
      · iexists s14; simp only [Memref.view_whole, View.set_whole]; iexact H14
      iexists s15; simp only [Memref.view_whole, View.set_whole]; iexact H15
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The program's run -/

set_option backward.isDefEq.respectTransparency.types false in
/-- The program runs to the end; each array is what the grid's blocks make of it, each semaphore is at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Without the semaphores. -/
theorem run_arrays : θ_run defs (onTc (τ := τ) (main (F := F))) (s₀ m ρ) (Pipeline.FramePost cfgs (dats m) 0 (V m)) :=
  (θ_run defs _ _).mono (fun _ h => h.1) (run_quiescent m ρ)

/-- The frame: the arguments unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run_arrays m ρ)) ((θ_run defs _ _).mono (fun _ h => h.2) (run_quiescent m ρ))

end Cert.Proof.KernelIdeal

end
-- ==== Proof.lean ====
/-
  The claims, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.GateUp
public import proofs.«01_k».proof.Proof.Gen.GateUp.Frame
public import proofs.«01_k».proof.Proof.Products.GateUp
public import proofs.«01_k».proof.Proof.Gen.In
public import proofs.«01_k».proof.Proof.Gen.In.Frame
public import proofs.«01_k».proof.Proof.Products.In
public import proofs.«01_k».proof.Proof.Gen.Down
public import proofs.«01_k».proof.Proof.Gen.Down.Frame
public import proofs.«01_k».proof.Proof.Products.Down
public import proofs.«01_k».proof.Proof.Gen.Out
public import proofs.«01_k».proof.Proof.Gen.Out.Frame
public import proofs.«01_k».proof.Proof.Products.Out
public import proofs.«01_k».proof.Proof.Gen.Proj
public import proofs.«01_k».proof.Proof.Gen.Proj.Frame
public import proofs.«01_k».proof.Proof.Products.Proj
public import proofs.«01_k».proof.Proof.Gen.Pre_finite_ffn
public import proofs.«01_k».proof.Proof.Gen.FfnIn
public import proofs.«01_k».proof.Proof.Gen.FfnIn.Frame
public import proofs.«01_k».proof.Proof.Products.FfnIn
public import proofs.«01_k».proof.Proof.Gen.FfnBwd
public import proofs.«01_k».proof.Proof.Gen.FfnBwd.Frame
public import proofs.«01_k».proof.Proof.Products.FfnBwd
public import proofs.«01_k».proof.Proof.Gen.Mid
public import proofs.«01_k».proof.Proof.Gen.Mid.Frame
public import proofs.«01_k».proof.Proof.Products.Mid
public import proofs.«01_k».proof.Proof.Gen.First
public import proofs.«01_k».proof.Proof.Gen.First.Frame
public import proofs.«01_k».proof.Proof.Products.First
public import proofs.«01_k».proof.Proof.Gen.AdamBAda
public import proofs.«01_k».proof.Proof.Gen.AdamBAda.Frame
public import proofs.«01_k».proof.Proof.Gen.AdamNorm
public import proofs.«01_k».proof.Proof.Gen.AdamNorm.Frame
public import proofs.«01_k».proof.Proof.Gen.AdamFgate
public import proofs.«01_k».proof.Proof.Gen.AdamFgate.Frame
public import proofs.«01_k».proof.Proof.Gen.AdamBrA
public import proofs.«01_k».proof.Proof.Gen.AdamBrA.Frame
public import proofs.«01_k».proof.Proof.Gen.AdamBrB
public import proofs.«01_k».proof.Proof.Gen.AdamBrB.Frame
public import proofs.«01_k».proof.Proof.Gen.AdamOut
public import proofs.«01_k».proof.Proof.Gen.AdamOut.Frame
public import proofs.«01_k».proof.Proof.Gen.AdaBwd
public import proofs.«01_k».proof.Proof.Gen.AdaBwd.Frame
public import proofs.«01_k».proof.Proof.Gen.Small
public import proofs.«01_k».proof.Proof.Gen.Small.Frame
public import proofs.«01_k».proof.Proof.Products.AdamW
public import proofs.«01_k».proof.Proof.Products.AdaBwd
public import proofs.«01_k».proof.Proof.Products.Small
public import proofs.«01_k».proof.Proof.Gen.ChipGu
public import proofs.«01_k».proof.Proof.Gen.ChipGuIdeal
public import proofs.«01_k».proof.Proof.Gen.ChipGuRefIdeal
public import proofs.«01_k».proof.Proof.Gen.ChipDown
public import proofs.«01_k».proof.Proof.Gen.ChipDownIdeal
public import proofs.«01_k».proof.Proof.Gen.ChipDownRefIdeal
public import proofs.«01_k».proof.Proof.Gen.ChipSmall
public import proofs.«01_k».proof.Proof.Gen.ChipSmallIdeal
public import proofs.«01_k».proof.Proof.Gen.ChipSmallRefIdeal
public import proofs.«01_k».proof.Proof.Gen.ChipIn
public import proofs.«01_k».proof.Proof.Gen.ChipInIdeal
public import proofs.«01_k».proof.Proof.Gen.ChipInRefIdeal
public import proofs.«01_k».proof.Proof.Products.ChipGu
public import proofs.«01_k».proof.Proof.Products.ChipDown
public import proofs.«01_k».proof.Proof.Products.ChipSmall
public import proofs.«01_k».proof.Proof.Products.ChipIn
public import proofs.«01_k».proof.Proof.Bits.Launch
public import proofs.«01_k».proof.Proof.Run.Launch

@[expose] public section

noncomputable section

namespace Cert.Proof

open Idealize.ShloMosaic Idealize.SL.Sem

/-- The printed program runs to its end and leaves its arguments. -/
theorem frame_kernel : Cert.quiescent_Kernel := fun m ρ _ => Cert.Proof.Kernel.frame m ρ

/-- So does the program over the extended reals. -/
theorem frame_ideal : Cert.quiescent_KernelIdeal := fun m ρ _ => Cert.Proof.KernelIdeal.frame m ρ

/-- The reference is host operations only: its arguments are written by none, and it has no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The mask's constant is the table's. -/
theorem preserves : Cert.preserves_Kernel_KernelIdeal :=
  IdealRules.named_const.statement Cert.KernelIdeal.κ "mask" .f32 0xF149F2CA#32 ⊥ rfl

/-- The reference of `GateUp` is host operations only. -/
theorem frame_GateUpRef : Cert.quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

/-- The reference of `In` is host operations only. -/
theorem frame_InRef : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- The reference of `Down` is host operations only. -/
theorem frame_DownRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The reference of `Out` is host operations only. -/
theorem frame_OutRef : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The reference of `Proj` is host operations only. -/
theorem frame_ProjRef : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The reference of `FfnIn` is host operations only. -/
theorem frame_FfnInRef : Cert.quiescent_FfnInRefIdeal := fun m ρ _ =>
  (θ_run Cert.FfnInRefIdeal.defs _ _).mono (fun r h => ⟨fun c => (h c).2.2, sem_eq_zero_of_no_sems (by decide) r.2⟩)
    (Cert.FfnInRefIdeal.Value.run (F := Ideal) m ρ)

/-- The reference of `FfnBwd` is host operations only. -/
theorem frame_FfnBwdRef : Cert.quiescent_FfnBwdRefIdeal := fun m ρ _ =>
  (θ_run Cert.FfnBwdRefIdeal.defs _ _).mono (fun r h => ⟨fun c => (h c).2, sem_eq_zero_of_no_sems (by decide) r.2⟩)
    (Cert.FfnBwdRefIdeal.Value.run (F := Ideal) m ρ)

/-- The reference of `Mid` is host operations only. -/
theorem frame_MidRef : Cert.quiescent_MidRefIdeal := fun m ρ _ =>
  (θ_run Cert.MidRefIdeal.defs _ _).mono (fun r h => ⟨fun c => (h c).2.2.2.2.2.2, sem_eq_zero_of_no_sems (by decide) r.2⟩)
    (Cert.MidRefIdeal.Value.run (F := Ideal) m ρ)

/-- The reference of `First` is host operations only. -/
theorem frame_FirstRef : Cert.quiescent_FirstRefIdeal := fun m ρ _ =>
  (θ_run Cert.FirstRefIdeal.defs _ _).mono (fun r h => ⟨fun c => (h c).2.2.2.2, sem_eq_zero_of_no_sems (by decide) r.2⟩)
    (Cert.FirstRefIdeal.Value.run (F := Ideal) m ρ)

/-- The reference of `AdamBAda` is host operations only. -/
theorem frame_AdamBAdaRef : Cert.quiescent_AdamBAdaRefIdeal := fun m ρ _ =>
  (θ_run Cert.AdamBAdaRefIdeal.defs _ _).mono (fun r h => ⟨fun c => (h c).2.2.2, sem_eq_zero_of_no_sems (by decide) r.2⟩)
    (Cert.AdamBAdaRefIdeal.Value.run (F := Ideal) m ρ)

/-- The reference of `AdamNorm` is host operations only. -/
theorem frame_AdamNormRef : Cert.quiescent_AdamNormRefIdeal := fun m ρ _ =>
  (θ_run Cert.AdamNormRefIdeal.defs _ _).mono (fun r h => ⟨fun c => (h c).2.2.2, sem_eq_zero_of_no_sems (by decide) r.2⟩)
    (Cert.AdamNormRefIdeal.Value.run (F := Ideal) m ρ)

/-- The reference of `AdamFgate` is host operations only. -/
theorem frame_AdamFgateRef : Cert.quiescent_AdamFgateRefIdeal := fun m ρ _ =>
  (θ_run Cert.AdamFgateRefIdeal.defs _ _).mono (fun r h => ⟨fun c => (h c).2.2.2, sem_eq_zero_of_no_sems (by decide) r.2⟩)
    (Cert.AdamFgateRefIdeal.Value.run (F := Ideal) m ρ)

/-- The reference of `AdamBrA` is host operations only. -/
theorem frame_AdamBrARef : Cert.quiescent_AdamBrARefIdeal := fun m ρ _ =>
  (θ_run Cert.AdamBrARefIdeal.defs _ _).mono (fun r h => ⟨fun c => (h c).2.2.2, sem_eq_zero_of_no_sems (by decide) r.2⟩)
    (Cert.AdamBrARefIdeal.Value.run (F := Ideal) m ρ)

/-- The reference of `AdamBrB` is host operations only. -/
theorem frame_AdamBrBRef : Cert.quiescent_AdamBrBRefIdeal := fun m ρ _ =>
  (θ_run Cert.AdamBrBRefIdeal.defs _ _).mono (fun r h => ⟨fun c => (h c).2.2.2, sem_eq_zero_of_no_sems (by decide) r.2⟩)
    (Cert.AdamBrBRefIdeal.Value.run (F := Ideal) m ρ)

/-- The reference of `AdamOut` is host operations only. -/
theorem frame_AdamOutRef : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

/-- The reference of `AdaBwd` is host operations only. -/
theorem frame_AdaBwdRef : Cert.quiescent_AdaBwdRefIdeal := fun m ρ _ =>
  (θ_run Cert.AdaBwdRefIdeal.defs _ _).mono (fun r h => ⟨fun c => (h c).2, sem_eq_zero_of_no_sems (by decide) r.2⟩)
    (Cert.AdaBwdRefIdeal.Value.run (F := Ideal) m ρ)

/-- The reference of `Small` is host operations only. -/
theorem frame_SmallRef : Cert.quiescent_SmallRefIdeal := fun m ρ _ =>
  (θ_run Cert.SmallRefIdeal.defs _ _).mono (fun r h => ⟨fun c => (h c).2.2, sem_eq_zero_of_no_sems (by decide) r.2⟩)
    (Cert.SmallRefIdeal.Value.run (F := Ideal) m ρ)

/-- The reference of `ChipGu` is host operations only. -/
theorem frame_ChipGuRef : Cert.quiescent_ChipGuRefIdeal := fun m ρ _ =>
  (θ_run Cert.ChipGuRefIdeal.defs _ _).mono (fun r h => ⟨fun c => (h c).2.2, sem_eq_zero_of_no_sems (by decide) r.2⟩)
    (Cert.ChipGuRefIdeal.Value.run (F := Ideal) m ρ)

/-- The reference of `ChipDown` is host operations only. -/
theorem frame_ChipDownRef : Cert.quiescent_ChipDownRefIdeal := fun m ρ _ =>
  (θ_run Cert.ChipDownRefIdeal.defs _ _).mono (fun r h => ⟨fun c => (h c).2, sem_eq_zero_of_no_sems (by decide) r.2⟩)
    (Cert.ChipDownRefIdeal.Value.run (F := Ideal) m ρ)

/-- The reference of `ChipSmall` is host operations only. -/
theorem frame_ChipSmallRef : Cert.quiescent_ChipSmallRefIdeal := fun m ρ _ =>
  (θ_run Cert.ChipSmallRefIdeal.defs _ _).mono (fun r h => ⟨fun c => (h c).2, sem_eq_zero_of_no_sems (by decide) r.2⟩)
    (Cert.ChipSmallRefIdeal.Value.run (F := Ideal) m ρ)

/-- The reference of `ChipIn` is host operations only. -/
theorem frame_ChipInRef : Cert.quiescent_ChipInRefIdeal := fun m ρ _ =>
  (θ_run Cert.ChipInRefIdeal.defs _ _).mono (fun r h => ⟨fun c => (h c).2, sem_eq_zero_of_no_sems (by decide) r.2⟩)
    (Cert.ChipInRefIdeal.Value.run (F := Ideal) m ρ)

theorem claim : Cert.Claim := ⟨Cert.Kernel.Gen.facts, Cert.KernelIdeal.Gen.facts, Cert.ReferenceIdeal.Gen.facts,
  Cert.GateUp.Gen.facts, Cert.GateUpIdeal.Gen.facts, Cert.GateUpRefIdeal.Gen.facts,
  Cert.In.Gen.facts, Cert.InIdeal.Gen.facts, Cert.InRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.Proj.Gen.facts, Cert.ProjIdeal.Gen.facts, Cert.ProjRefIdeal.Gen.facts,
  Cert.FfnIn.Gen.facts, Cert.FfnInIdeal.Gen.facts, Cert.FfnInRefIdeal.Gen.facts,
  Cert.FfnBwd.Gen.facts, Cert.FfnBwdIdeal.Gen.facts, Cert.FfnBwdRefIdeal.Gen.facts,
  Cert.Mid.Gen.facts, Cert.MidIdeal.Gen.facts, Cert.MidRefIdeal.Gen.facts,
  Cert.First.Gen.facts, Cert.FirstIdeal.Gen.facts, Cert.FirstRefIdeal.Gen.facts,
  Cert.AdamBAda.Gen.facts, Cert.AdamBAdaIdeal.Gen.facts, Cert.AdamBAdaRefIdeal.Gen.facts,
  Cert.AdamNorm.Gen.facts, Cert.AdamNormIdeal.Gen.facts, Cert.AdamNormRefIdeal.Gen.facts,
  Cert.AdamFgate.Gen.facts, Cert.AdamFgateIdeal.Gen.facts, Cert.AdamFgateRefIdeal.Gen.facts,
  Cert.AdamBrA.Gen.facts, Cert.AdamBrAIdeal.Gen.facts, Cert.AdamBrARefIdeal.Gen.facts,
  Cert.AdamBrB.Gen.facts, Cert.AdamBrBIdeal.Gen.facts, Cert.AdamBrBRefIdeal.Gen.facts,
  Cert.AdamOut.Gen.facts, Cert.AdamOutIdeal.Gen.facts, Cert.AdamOutRefIdeal.Gen.facts,
  Cert.AdaBwd.Gen.facts, Cert.AdaBwdIdeal.Gen.facts, Cert.AdaBwdRefIdeal.Gen.facts,
  Cert.Small.Gen.facts, Cert.SmallIdeal.Gen.facts, Cert.SmallRefIdeal.Gen.facts,
  Cert.ChipGu.Gen.facts, Cert.ChipGuIdeal.Gen.facts, Cert.ChipGuRefIdeal.Gen.facts,
  Cert.ChipDown.Gen.facts, Cert.ChipDownIdeal.Gen.facts, Cert.ChipDownRefIdeal.Gen.facts,
  Cert.ChipSmall.Gen.facts, Cert.ChipSmallIdeal.Gen.facts, Cert.ChipSmallRefIdeal.Gen.facts,
  Cert.ChipIn.Gen.facts, Cert.ChipInIdeal.Gen.facts, Cert.ChipInRefIdeal.Gen.facts,
  Cert.Pre_finite_ffn.Gen.facts, Cert.Pre_chip_named.Gen.facts, Cert.Pre_chip_named_down.Gen.facts, Cert.Pre_chip_named_small.Gen.facts,
  frame_kernel, frame_ideal, frame_reference,
  fun m ρ _ => Cert.GateUp.Gen.frame m ρ, fun m ρ _ => Cert.GateUpIdeal.Gen.frame m ρ, frame_GateUpRef,
  fun m ρ _ => Cert.In.Gen.frame m ρ, fun m ρ _ => Cert.InIdeal.Gen.frame m ρ, frame_InRef,
  fun m ρ _ => Cert.Down.Gen.frame m ρ, fun m ρ _ => Cert.DownIdeal.Gen.frame m ρ, frame_DownRef,
  fun m ρ _ => Cert.Out.Gen.frame m ρ, fun m ρ _ => Cert.OutIdeal.Gen.frame m ρ, frame_OutRef,
  fun m ρ _ => Cert.Proj.Gen.frame m ρ, fun m ρ _ => Cert.ProjIdeal.Gen.frame m ρ, frame_ProjRef,
  fun m ρ _ => Cert.FfnIn.Gen.frame m ρ, fun m ρ _ => Cert.FfnInIdeal.Gen.frame m ρ, frame_FfnInRef,
  fun m ρ _ => Cert.FfnBwd.Gen.frame m ρ, fun m ρ _ => Cert.FfnBwdIdeal.Gen.frame m ρ, fun m ρ _ => Cert.FfnBwdIdeal.Gen.frame m ρ,
  frame_FfnBwdRef, fun m ρ _ => frame_FfnBwdRef m ρ trivial,
  fun m ρ _ => Cert.Mid.Gen.frame m ρ, fun m ρ _ => Cert.MidIdeal.Gen.frame m ρ, frame_MidRef,
  fun m ρ _ => Cert.First.Gen.frame m ρ, fun m ρ _ => Cert.FirstIdeal.Gen.frame m ρ, frame_FirstRef,
  fun m ρ _ => Cert.AdamBAda.Gen.frame m ρ, fun m ρ _ => Cert.AdamBAdaIdeal.Gen.frame m ρ, frame_AdamBAdaRef,
  fun m ρ _ => Cert.AdamNorm.Gen.frame m ρ, fun m ρ _ => Cert.AdamNormIdeal.Gen.frame m ρ, frame_AdamNormRef,
  fun m ρ _ => Cert.AdamFgate.Gen.frame m ρ, fun m ρ _ => Cert.AdamFgateIdeal.Gen.frame m ρ, frame_AdamFgateRef,
  fun m ρ _ => Cert.AdamBrA.Gen.frame m ρ, fun m ρ _ => Cert.AdamBrAIdeal.Gen.frame m ρ, frame_AdamBrARef,
  fun m ρ _ => Cert.AdamBrB.Gen.frame m ρ, fun m ρ _ => Cert.AdamBrBIdeal.Gen.frame m ρ, frame_AdamBrBRef,
  fun m ρ _ => Cert.AdamOut.Gen.frame m ρ, fun m ρ _ => Cert.AdamOutIdeal.Gen.frame m ρ, frame_AdamOutRef,
  fun m ρ _ => Cert.AdaBwd.Gen.frame m ρ, fun m ρ _ => Cert.AdaBwdIdeal.Gen.frame m ρ, frame_AdaBwdRef,
  fun m ρ _ => Cert.Small.Gen.frame m ρ, fun m ρ _ => Cert.SmallIdeal.Gen.frame m ρ, frame_SmallRef,
  fun m ρ h => Cert.ChipGu.Gen.frame m ρ (ChipGu.ok_bits m h), fun m ρ h => Cert.ChipGuIdeal.Gen.frame m ρ (ChipGu.ok m h), frame_ChipGuRef,
  fun m ρ h => Cert.ChipDown.Gen.frame m ρ (ChipDown.ok_bits m h), fun m ρ h => Cert.ChipDownIdeal.Gen.frame m ρ (ChipDown.ok m h), frame_ChipDownRef,
  fun m ρ h => Cert.ChipSmall.Gen.frame m ρ (ChipSmall.ok_bits m h), fun m ρ h => Cert.ChipSmallIdeal.Gen.frame m ρ (ChipSmall.ok m h), frame_ChipSmallRef,
  fun m ρ h => Cert.ChipIn.Gen.frame m ρ (ChipIn.ok_bits m h), fun m ρ h => Cert.ChipInIdeal.Gen.frame m ρ (ChipIn.ok m h), frame_ChipInRef,
  preserves,
  trivial, GateUp.algebraic,
  trivial, In.algebraic,
  trivial, Down.algebraic,
  trivial, Out.algebraic,
  trivial, Proj.algebraic,
  trivial, FfnIn.algebraic,
  trivial, FfnBwd.algebraic,
  trivial, Mid.algebraic,
  trivial, First.algebraic,
  trivial, AdamW.algebraic_BAda,
  trivial, AdamW.algebraic_Norm,
  trivial, AdamW.algebraic_Fgate,
  trivial, AdamW.algebraic_BrA,
  trivial, AdamW.algebraic_BrB,
  trivial, AdamW.algebraic_Out,
  trivial, AdaBwd.algebraic,
  trivial, Small.algebraic,
  trivial, ChipGu.algebraic,
  trivial, ChipDown.algebraic,
  trivial, ChipSmall.algebraic,
  trivial, ChipIn.algebraic⟩

end Cert.Proof

end
